-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Kernel35Ideal_finite35 [hPre_finite35 : Cert.Pre_finite35.Facts] (m : (ℓ : Loc Cert.Kernel35Ideal.nD Cert.Kernel35Ideal.τ Cert.Kernel35Ideal.sig) → Buf (Elt Ideal) ℓ) : Prop :=
  ∀ c : Dev Cert.Kernel35Ideal.nD,
    (Cert.Pre_finite35.fn (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2))) = (fun _ => 1#1)

def Pre_Reference35Ideal (m : (ℓ : Loc Cert.Reference35Ideal.nD Cert.Reference35Ideal.τ Cert.Reference35Ideal.sig) → Buf (Elt Ideal) ℓ) : Prop :=
  True

def Pre_Reference35Ideal_finite35 [hPre_finite35 : Cert.Pre_finite35.Facts] (m : (ℓ : Loc Cert.Reference35Ideal.nD Cert.Reference35Ideal.τ Cert.Reference35Ideal.sig) → Buf (Elt Ideal) ℓ) : Prop :=
  ∀ c : Dev Cert.Reference35Ideal.nD,
    (Cert.Pre_finite35.fn (F := Ideal) (m ((c.tc : Thread Cert.Reference35Ideal.nD Cert.Reference35Ideal.τ).loc Cert.Reference35Ideal.main_arg0)) (m ((c.tc : Thread Cert.Reference35Ideal.nD Cert.Reference35Ideal.τ).loc Cert.Reference35Ideal.main_arg1)) (m ((c.tc : Thread Cert.Reference35Ideal.nD Cert.Reference35Ideal.τ).loc Cert.Reference35Ideal.main_arg2))) = (fun _ => 1#1)

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Kernel35Ideal_pre_finite35 [hKernel35Ideal : Cert.Kernel35Ideal.Facts] [hPre_finite35 : Cert.Pre_finite35.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal_finite35 m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Reference35Ideal_pre_finite35 [hReference35Ideal : Cert.Reference35Ideal.Facts] [hPre_finite35 : Cert.Pre_finite35.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal_finite35 m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3)
      ∧ r.2.mem ((c.tc : Thread Cert.Kernel36.nD Cert.Kernel36.τ).loc Cert.Kernel36.main_arg4) = m ((c.tc : Thread Cert.Kernel36.nD Cert.Kernel36.τ).loc Cert.Kernel36.main_arg4))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
      ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3)
      ∧ r.2.mem ((c.tc : Thread Cert.Reference36Ideal.nD Cert.Reference36Ideal.τ).loc Cert.Reference36Ideal.main_arg4) = m ((c.tc : Thread Cert.Reference36Ideal.nD Cert.Reference36Ideal.τ).loc Cert.Reference36Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v7) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v9)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v11) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v12) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  IdealRules.named_const.Statement Cert.Kernel14Ideal.κ "gelu" .f32 0x3D372713#32 ((8943 / 200000 : ℝ) : EReal)
  ∧ IdealRules.named_const.Statement Cert.Kernel14Ideal.κ "gelu3" .f32 0x3E095D4F#32 ((26829 / 200000 : ℝ) : EReal)

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v8_0)) (v1 : (c : Dev Cert.Kernel14Ideal.nD) → Buf (Elt Ideal) ((c.tc : Thread Cert.Kernel14Ideal.nD Cert.Kernel14Ideal.τ).loc Cert.Kernel14Ideal.main_v8_1)) (v2 : (c : Dev Cert.Kernel14Ideal.nD) → Buf (Elt Ideal) ((c.tc : Thread Cert.Kernel14Ideal.nD Cert.Kernel14Ideal.τ).loc Cert.Kernel14Ideal.main_v8_2)) (v3 : (c : Dev Cert.Kernel14Ideal.nD) → Buf (Elt Ideal) ((c.tc : Thread Cert.Kernel14Ideal.nD Cert.Kernel14Ideal.τ).loc Cert.Kernel14Ideal.main_v8_3)) (v4 : (c : Dev Cert.Kernel14Ideal.nD) → Buf (Elt Ideal) ((c.tc : Thread Cert.Kernel14Ideal.nD Cert.Kernel14Ideal.τ).loc Cert.Kernel14Ideal.main_v8_4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v8_0) = v0 c
          ∧ r.2.mem ((c.tc : Thread Cert.Kernel14Ideal.nD Cert.Kernel14Ideal.τ).loc Cert.Kernel14Ideal.main_v8_1) = v1 c
          ∧ r.2.mem ((c.tc : Thread Cert.Kernel14Ideal.nD Cert.Kernel14Ideal.τ).loc Cert.Kernel14Ideal.main_v8_2) = v2 c
          ∧ r.2.mem ((c.tc : Thread Cert.Kernel14Ideal.nD Cert.Kernel14Ideal.τ).loc Cert.Kernel14Ideal.main_v8_3) = v3 c
          ∧ r.2.mem ((c.tc : Thread Cert.Kernel14Ideal.nD Cert.Kernel14Ideal.τ).loc Cert.Kernel14Ideal.main_v8_4) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4_0) = v0 c
          ∧ r.2.mem ((c.tc : Thread Cert.Reference14Ideal.nD Cert.Reference14Ideal.τ).loc Cert.Reference14Ideal.main_v4_1) = v1 c
          ∧ r.2.mem ((c.tc : Thread Cert.Reference14Ideal.nD Cert.Reference14Ideal.τ).loc Cert.Reference14Ideal.main_v4_2) = v2 c
          ∧ r.2.mem ((c.tc : Thread Cert.Reference14Ideal.nD Cert.Reference14Ideal.τ).loc Cert.Reference14Ideal.main_v4_3) = v3 c
          ∧ r.2.mem ((c.tc : Thread Cert.Reference14Ideal.nD Cert.Reference14Ideal.τ).loc Cert.Reference14Ideal.main_v4_4) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  IdealRules.named_const.Statement Cert.Kernel15Ideal.κ "m_hat" .f32 0x3FC48605#32 ((8388608 / 5463681 : ℝ) : EReal)
  ∧ IdealRules.named_const.Statement Cert.Kernel15Ideal.κ "v_hat" .f32 0x42C8E6D3#32 ((268435456 / 2672307 : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  IdealRules.named_const.Statement Cert.Kernel16Ideal.κ "m_hat" .f32 0x3FC48605#32 ((8388608 / 5463681 : ℝ) : EReal)
  ∧ IdealRules.named_const.Statement Cert.Kernel16Ideal.κ "v_hat" .f32 0x42C8E6D3#32 ((268435456 / 2672307 : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v26) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  IdealRules.named_const.Statement Cert.Kernel17Ideal.κ "m_hat" .f32 0x3FC48605#32 ((8388608 / 5463681 : ℝ) : EReal)
  ∧ IdealRules.named_const.Statement Cert.Kernel17Ideal.κ "v_hat" .f32 0x42C8E6D3#32 ((268435456 / 2672307 : ℝ) : EReal)

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  IdealRules.named_const.Statement Cert.Kernel18Ideal.κ "m_hat" .f32 0x3FC48605#32 ((8388608 / 5463681 : ℝ) : EReal)
  ∧ IdealRules.named_const.Statement Cert.Kernel18Ideal.κ "v_hat" .f32 0x42C8E6D3#32 ((268435456 / 2672307 : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  IdealRules.named_const.Statement Cert.Kernel19Ideal.κ "m_hat" .f32 0x3FC48605#32 ((8388608 / 5463681 : ℝ) : EReal)
  ∧ IdealRules.named_const.Statement Cert.Kernel19Ideal.κ "v_hat" .f32 0x42C8E6D3#32 ((268435456 / 2672307 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  IdealRules.named_const.Statement Cert.Kernel20Ideal.κ "m_hat" .f32 0x3FC48605#32 ((8388608 / 5463681 : ℝ) : EReal)
  ∧ IdealRules.named_const.Statement Cert.Kernel20Ideal.κ "v_hat" .f32 0x42C8E6D3#32 ((268435456 / 2672307 : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  IdealRules.named_const.Statement Cert.Kernel21Ideal.κ "m_hat" .f32 0x3FC48605#32 ((8388608 / 5463681 : ℝ) : EReal)
  ∧ IdealRules.named_const.Statement Cert.Kernel21Ideal.κ "v_hat" .f32 0x42C8E6D3#32 ((268435456 / 2672307 : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  IdealRules.named_const.Statement Cert.Kernel22Ideal.κ "m_hat" .f32 0x3FC48605#32 ((8388608 / 5463681 : ℝ) : EReal)
  ∧ IdealRules.named_const.Statement Cert.Kernel22Ideal.κ "v_hat" .f32 0x42C8E6D3#32 ((268435456 / 2672307 : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  IdealRules.named_const.Statement Cert.Kernel23Ideal.κ "m_hat" .f32 0x3FC48605#32 ((8388608 / 5463681 : ℝ) : EReal)
  ∧ IdealRules.named_const.Statement Cert.Kernel23Ideal.κ "v_hat" .f32 0x42C8E6D3#32 ((268435456 / 2672307 : ℝ) : EReal)

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  IdealRules.named_const.Statement Cert.Kernel24Ideal.κ "m_hat" .f32 0x3FC48605#32 ((8388608 / 5463681 : ℝ) : EReal)
  ∧ IdealRules.named_const.Statement Cert.Kernel24Ideal.κ "v_hat" .f32 0x42C8E6D3#32 ((268435456 / 2672307 : ℝ) : EReal)

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  IdealRules.named_const.Statement Cert.Kernel25Ideal.κ "m_hat" .f32 0x3FC48605#32 ((8388608 / 5463681 : ℝ) : EReal)
  ∧ IdealRules.named_const.Statement Cert.Kernel25Ideal.κ "v_hat" .f32 0x42C8E6D3#32 ((268435456 / 2672307 : ℝ) : EReal)

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  IdealRules.named_const.Statement Cert.Kernel26Ideal.κ "m_hat" .f32 0x3FC48605#32 ((8388608 / 5463681 : ℝ) : EReal)
  ∧ IdealRules.named_const.Statement Cert.Kernel26Ideal.κ "v_hat" .f32 0x42C8E6D3#32 ((268435456 / 2672307 : ℝ) : EReal)

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  IdealRules.named_const.Statement Cert.Kernel27Ideal.κ "m_hat" .f32 0x3FC48605#32 ((8388608 / 5463681 : ℝ) : EReal)
  ∧ IdealRules.named_const.Statement Cert.Kernel27Ideal.κ "v_hat" .f32 0x42C8E6D3#32 ((268435456 / 2672307 : ℝ) : EReal)

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  IdealRules.named_const.Statement Cert.Kernel28Ideal.κ "m_hat" .f32 0x3FC48605#32 ((8388608 / 5463681 : ℝ) : EReal)
  ∧ IdealRules.named_const.Statement Cert.Kernel28Ideal.κ "v_hat" .f32 0x42C8E6D3#32 ((268435456 / 2672307 : ℝ) : EReal)

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  IdealRules.named_const.Statement Cert.Kernel29Ideal.κ "m_hat" .f32 0x3FC48605#32 ((8388608 / 5463681 : ℝ) : EReal)
  ∧ IdealRules.named_const.Statement Cert.Kernel29Ideal.κ "v_hat" .f32 0x42C8E6D3#32 ((268435456 / 2672307 : ℝ) : EReal)

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  IdealRules.named_const.Statement Cert.Kernel30Ideal.κ "m_hat" .f32 0x3FC48605#32 ((8388608 / 5463681 : ℝ) : EReal)
  ∧ IdealRules.named_const.Statement Cert.Kernel30Ideal.κ "v_hat" .f32 0x42C8E6D3#32 ((268435456 / 2672307 : ℝ) : EReal)

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  IdealRules.named_const.Statement Cert.Kernel31Ideal.κ "m_hat" .f32 0x3FC48605#32 ((8388608 / 5463681 : ℝ) : EReal)
  ∧ IdealRules.named_const.Statement Cert.Kernel31Ideal.κ "v_hat" .f32 0x42C8E6D3#32 ((268435456 / 2672307 : ℝ) : EReal)

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  IdealRules.named_const.Statement Cert.Kernel32Ideal.κ "m_hat" .f32 0x3FC48605#32 ((8388608 / 5463681 : ℝ) : EReal)
  ∧ IdealRules.named_const.Statement Cert.Kernel32Ideal.κ "v_hat" .f32 0x42C8E6D3#32 ((268435456 / 2672307 : ℝ) : EReal)

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  IdealRules.named_const.Statement Cert.Kernel33Ideal.κ "m_hat" .f32 0x3FC48605#32 ((8388608 / 5463681 : ℝ) : EReal)
  ∧ IdealRules.named_const.Statement Cert.Kernel33Ideal.κ "v_hat" .f32 0x42C8E6D3#32 ((268435456 / 2672307 : ℝ) : EReal)

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v4_0)) (v1 : (c : Dev Cert.Kernel33Ideal.nD) → Buf (Elt Ideal) ((c.tc : Thread Cert.Kernel33Ideal.nD Cert.Kernel33Ideal.τ).loc Cert.Kernel33Ideal.main_v4_1)) (v2 : (c : Dev Cert.Kernel33Ideal.nD) → Buf (Elt Ideal) ((c.tc : Thread Cert.Kernel33Ideal.nD Cert.Kernel33Ideal.τ).loc Cert.Kernel33Ideal.main_v4_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v4_0) = v0 c
          ∧ r.2.mem ((c.tc : Thread Cert.Kernel33Ideal.nD Cert.Kernel33Ideal.τ).loc Cert.Kernel33Ideal.main_v4_1) = v1 c
          ∧ r.2.mem ((c.tc : Thread Cert.Kernel33Ideal.nD Cert.Kernel33Ideal.τ).loc Cert.Kernel33Ideal.main_v4_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v24) = v0 c
          ∧ r.2.mem ((c.tc : Thread Cert.Reference33Ideal.nD Cert.Reference33Ideal.τ).loc Cert.Reference33Ideal.main_v25) = v1 c
          ∧ r.2.mem ((c.tc : Thread Cert.Reference33Ideal.nD Cert.Reference33Ideal.τ).loc Cert.Reference33Ideal.main_v26) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)
      ∧ m' ((c.tc : Thread Cert.Reference34Ideal.nD Cert.Reference34Ideal.τ).loc Cert.Reference34Ideal.main_arg4) = m ((c.tc : Thread Cert.Kernel34Ideal.nD Cert.Kernel34Ideal.τ).loc Cert.Kernel34Ideal.main_arg4)) →
    ∃ (v0 : (c : Dev Cert.Kernel34Ideal.nD) → Buf (Elt Ideal) ((c.tc : Thread Cert.Kernel34Ideal.nD Cert.Kernel34Ideal.τ).loc Cert.Kernel34Ideal.main_v5_0)) (v1 : (c : Dev Cert.Kernel34Ideal.nD) → Buf (Elt Ideal) ((c.tc : Thread Cert.Kernel34Ideal.nD Cert.Kernel34Ideal.τ).loc Cert.Kernel34Ideal.main_v5_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v5_0) = v0 c
          ∧ r.2.mem ((c.tc : Thread Cert.Kernel34Ideal.nD Cert.Kernel34Ideal.τ).loc Cert.Kernel34Ideal.main_v5_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
          ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v37) = v0 c
          ∧ r.2.mem ((c.tc : Thread Cert.Reference34Ideal.nD Cert.Reference34Ideal.τ).loc Cert.Reference34Ideal.main_v38) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3)
          ∧ r.2.mem ((c.tc : Thread Cert.Reference34Ideal.nD Cert.Reference34Ideal.τ).loc Cert.Reference34Ideal.main_arg4) = m' ((c.tc : Thread Cert.Reference34Ideal.nD Cert.Reference34Ideal.τ).loc Cert.Reference34Ideal.main_arg4))

def preserves_Kernel35_Kernel35Ideal : Prop :=
  True

def algebraic_Kernel35Ideal_Reference35Ideal_pre_finite35 [hKernel35Ideal : Cert.Kernel35Ideal.Facts] [hReference35Ideal : Cert.Reference35Ideal.Facts] [hPre_finite35 : Cert.Pre_finite35.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal_finite35 m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)) →
    ∃ (v0 : (c : Dev Cert.Kernel35Ideal.nD) → Buf (Elt Ideal) ((c.tc : Thread Cert.Kernel35Ideal.nD Cert.Kernel35Ideal.τ).loc Cert.Kernel35Ideal.main_v1_0)) (v1 : (c : Dev Cert.Kernel35Ideal.nD) → Buf (Elt Ideal) ((c.tc : Thread Cert.Kernel35Ideal.nD Cert.Kernel35Ideal.τ).loc Cert.Kernel35Ideal.main_v1_1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v1_0) = v0 c
          ∧ r.2.mem ((c.tc : Thread Cert.Kernel35Ideal.nD Cert.Kernel35Ideal.τ).loc Cert.Kernel35Ideal.main_v1_1) = v1 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v5) = v0 c
          ∧ r.2.mem ((c.tc : Thread Cert.Reference35Ideal.nD Cert.Reference35Ideal.τ).loc Cert.Reference35Ideal.main_v6) = v1 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)
      ∧ m' ((c.tc : Thread Cert.Reference36Ideal.nD Cert.Reference36Ideal.τ).loc Cert.Reference36Ideal.main_arg4) = m ((c.tc : Thread Cert.Kernel36Ideal.nD Cert.Kernel36Ideal.τ).loc Cert.Kernel36Ideal.main_arg4)) →
    ∃ (v0 : (c : Dev Cert.Kernel36Ideal.nD) → Buf (Elt Ideal) ((c.tc : Thread Cert.Kernel36Ideal.nD Cert.Kernel36Ideal.τ).loc Cert.Kernel36Ideal.main_v9_0)) (v1 : (c : Dev Cert.Kernel36Ideal.nD) → Buf (Elt Ideal) ((c.tc : Thread Cert.Kernel36Ideal.nD Cert.Kernel36Ideal.τ).loc Cert.Kernel36Ideal.main_v9_1)) (v2 : (c : Dev Cert.Kernel36Ideal.nD) → Buf (Elt Ideal) ((c.tc : Thread Cert.Kernel36Ideal.nD Cert.Kernel36Ideal.τ).loc Cert.Kernel36Ideal.main_v9_2)) (v3 : (c : Dev Cert.Kernel36Ideal.nD) → Buf (Elt Ideal) ((c.tc : Thread Cert.Kernel36Ideal.nD Cert.Kernel36Ideal.τ).loc Cert.Kernel36Ideal.main_v9_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v9_0) = v0 c
          ∧ r.2.mem ((c.tc : Thread Cert.Kernel36Ideal.nD Cert.Kernel36Ideal.τ).loc Cert.Kernel36Ideal.main_v9_1) = v1 c
          ∧ r.2.mem ((c.tc : Thread Cert.Kernel36Ideal.nD Cert.Kernel36Ideal.τ).loc Cert.Kernel36Ideal.main_v9_2) = v2 c
          ∧ r.2.mem ((c.tc : Thread Cert.Kernel36Ideal.nD Cert.Kernel36Ideal.τ).loc Cert.Kernel36Ideal.main_v9_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
          ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v92) = v0 c
          ∧ r.2.mem ((c.tc : Thread Cert.Reference36Ideal.nD Cert.Reference36Ideal.τ).loc Cert.Reference36Ideal.main_v93) = v1 c
          ∧ r.2.mem ((c.tc : Thread Cert.Reference36Ideal.nD Cert.Reference36Ideal.τ).loc Cert.Reference36Ideal.main_v94) = v2 c
          ∧ r.2.mem ((c.tc : Thread Cert.Reference36Ideal.nD Cert.Reference36Ideal.τ).loc Cert.Reference36Ideal.main_v95) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3)
          ∧ r.2.mem ((c.tc : Thread Cert.Reference36Ideal.nD Cert.Reference36Ideal.τ).loc Cert.Reference36Ideal.main_arg4) = m' ((c.tc : Thread Cert.Reference36Ideal.nD Cert.Reference36Ideal.τ).loc Cert.Reference36Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hPre_finite : Cert.Pre_finite.Facts) (hPre_finite14 : Cert.Pre_finite14.Facts) (hPre_finite35 : Cert.Pre_finite35.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Kernel35Ideal_pre_finite35 (hKernel35Ideal := hKernel35Ideal) (hPre_finite35 := hPre_finite35)
    ∧ quiescent_Reference35Ideal (hReference35Ideal := hReference35Ideal)
    ∧ quiescent_Reference35Ideal_pre_finite35 (hReference35Ideal := hReference35Ideal) (hPre_finite35 := hPre_finite35)
    ∧ quiescent_Kernel36 (hKernel36 := hKernel36)
    ∧ quiescent_Kernel36Ideal (hKernel36Ideal := hKernel36Ideal)
    ∧ quiescent_Reference36Ideal (hReference36Ideal := hReference36Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal_pre_finite35 (hKernel35Ideal := hKernel35Ideal) (hReference35Ideal := hReference35Ideal) (hPre_finite35 := hPre_finite35)
    ∧ preserves_Kernel36_Kernel36Ideal
    ∧ algebraic_Kernel36Ideal_Reference36Ideal (hKernel36Ideal := hKernel36Ideal) (hReference36Ideal := hReference36Ideal)
-- ==== Pre_finite.lean ====
abbrev S9216x1024 : Shape := ⟨2, ![9216, 1024]⟩
abbrev S1024x2816 : Shape := ⟨2, ![1024, 2816]⟩
abbrev S2816x1024 : Shape := ⟨2, ![2816, 1024]⟩
abbrev S_ : Shape := ⟨0, ![]⟩

class Facts : Prop where
  bitsLt_bf16_f32 : FTy.bits .bf16 < FTy.bits .f32
  bcast_S_S9216x1024 : S_.BroadcastsInDim S9216x1024 (![] : Fin 0 → Fin S9216x1024.rank)
  reducesTo_S9216x1024_S_d0_1 : S9216x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v14 : IVec S_ 1) (main_v16 : FVec F S9216x1024 .f32) (main_cst_4 : FVec F S_ .f32) : IVec S_ 1 :=
  let main_v17 : FVec F S9216x1024 .f32 := broadcastInDim S9216x1024 ![] bcast_S_S9216x1024 main_cst_4
  let main_v18 : IVec S9216x1024 1 := cmpf .olt main_v16 main_v17
  let main_c_5 : IVec S_ 1 := constantI S_ 1 1#1
  let main_v19 : IVec S_ 1 := (fun x v => Host.reduce IntOp.andi x v reducesTo_S9216x1024_S_d0_1 h_S_) main_v18 main_c_5
  let main_v20 : IVec S_ 1 := andi main_v14 main_v19
  main_v20

def fn {F : FTy → Type} [FloatOps F] (main_arg0 : FVec F S9216x1024 .bf16) (main_arg1 : FVec F S1024x2816 .f32) (main_arg2 : FVec F S1024x2816 .f32) (main_arg3 : FVec F S2816x1024 .f32) (main_arg4 : FVec F S9216x1024 .bf16) : IVec S_ 1 :=
  let main_v0 : FVec F S9216x1024 .f32 := (extf .f32 · bitsLt_bf16_f32) main_arg0
  let main_v1 : FVec F S9216x1024 .f32 := Host.absf main_v0
  let main_cst : FVec F S_ .f32 := constant S_ .f32 0x7F800000#32
  let main_v2 : FVec F S9216x1024 .f32 := broadcastInDim S9216x1024 ![] bcast_S_S9216x1024 main_cst
  let main_v3 : IVec S9216x1024 1 := cmpf .olt main_v1 main_v2
  let main_c : IVec S_ 1 := constantI S_ 1 1#1
  let main_v4 : IVec S_ 1 := (fun x v => Host.reduce IntOp.andi x v reducesTo_S9216x1024_S_d0_1 h_S_) main_v3 main_c
  let main_v5 : FVec F S1024x2816 .f32 := Host.absf main_arg2
  let main_cst_0 : FVec F S_ .f32 := constant S_ .f32 0x7F800000#32
  let main_v6 : FVec F S1024x2816 .f32 := broadcastInDim S1024x2816 ![] bcast_S_S1024x2816 main_cst_0
  let main_v7 : IVec S1024x2816 1 := cmpf .olt main_v5 main_v6
  let main_c_1 : IVec S_ 1 := constantI S_ 1 1#1
  let main_v8 : IVec S_ 1 := (fun x v => Host.reduce IntOp.andi x v reducesTo_S1024x2816_S_d0_1 h_S_) main_v7 main_c_1
  let main_v9 : IVec S_ 1 := andi main_v4 main_v8
  let main_v10 : FVec F S2816x1024 .f32 := Host.absf main_arg3
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  let main_c_3 : IVec S_ 1 := constantI S_ 1 1#1
  let main_v13 : IVec S_ 1 := (fun x v => Host.reduce IntOp.andi x v reducesTo_S2816x1024_S_d0_1 h_S_) main_v12 main_c_3
  let main_v14 : IVec S_ 1 := andi main_v9 main_v13
  let main_v15 : FVec F S9216x1024 .f32 := (extf .f32 · bitsLt_bf16_f32) main_arg4
  let main_v16 : FVec F S9216x1024 .f32 := Host.absf main_v15
  let main_cst_4 : FVec F S_ .f32 := constant S_ .f32 0x7F800000#32
  fn_part1 (F := F) main_v14 main_v16 main_cst_4
-- ==== Pre_finite14.lean ====
abbrev S9216x1280 : Shape := ⟨2, ![9216, 1280]⟩
abbrev S9216x1024 : Shape := ⟨2, ![9216, 1024]⟩
abbrev S9216x512 : Shape := ⟨2, ![9216, 512]⟩
abbrev S32x16 : Shape := ⟨2, ![32, 16]⟩
abbrev S512x512 : Shape := ⟨2, ![512, 512]⟩
abbrev S512 : Shape := ⟨1, ![512]⟩
abbrev S_ : Shape := ⟨0, ![]⟩

class Facts : Prop where
  bitsLt_bf16_f32 : FTy.bits .bf16 < FTy.bits .f32
  bcast_S_S9216x1280 : S_.BroadcastsInDim S9216x1280 (![] : Fin 0 → Fin S9216x1280.rank)
  reducesTo_S9216x1280_S_d0_1 : S9216x1280.ReducesTo [0, 1] S_
  h_S_ : 0 < S_.numel
  bcast_S_S9216x1024 : S_.BroadcastsInDim S9216x1024 (![] : Fin 0 → Fin S9216x1024.rank)
  reducesTo_S9216x1024_S_d0_1 : S9216x1024.ReducesTo [0, 1] S_
  bcast_S_S9216x512 : S_.BroadcastsInDim S9216x512 (![] : Fin 0 → Fin S9216x512.rank)
  reducesTo_S9216x512_S_d0_1 : S9216x512.ReducesTo [0, 1] S_
  bcast_S_S32x16 : S_.BroadcastsInDim S32x16 (![] : Fin 0 → Fin S32x16.rank)
  reducesTo_S32x16_S_d0_1 : S32x16.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v15 : IVec S_ 1) (main_v16 : FVec F S32x16 .f32) (main_cst_4 : FVec F S_ .f32) : IVec S_ 1 :=
  let main_v17 : FVec F S32x16 .f32 := broadcastInDim S32x16 ![] bcast_S_S32x16 main_cst_4
  let main_v18 : IVec S32x16 1 := cmpf .olt main_v16 main_v17
  let main_c_5 : IVec S_ 1 := constantI S_ 1 1#1
  let main_v19 : IVec S_ 1 := (fun x v => Host.reduce IntOp.andi x v reducesTo_S32x16_S_d0_1 h_S_) main_v18 main_c_5
  let main_v20 : IVec S_ 1 := andi main_v15 main_v19
  let main_v21 : FVec F S512x512 .f32 := Host.absf main_arg4
  let main_cst_6 : FVec F S_ .f32 := constant S_ .f32 0x7F800000#32
  let main_v22 : FVec F S512x512 .f32 := broadcastInDim S512x512 ![] bcast_S_S512x512 main_cst_6
  let main_v23 : IVec S512x512 1 := cmpf .olt main_v21 main_v22
  let main_c_7 : IVec S_ 1 := constantI S_ 1 1#1
  let main_v24 : IVec S_ 1 := (fun x v => Host.reduce IntOp.andi x v reducesTo_S512x512_S_d0_1 h_S_) main_v23 main_c_7
  let main_v25 : IVec S_ 1 := andi main_v20 main_v24
  main_v25

def fn {F : FTy → Type} [FloatOps F] (main_arg0 : FVec F S9216x1280 .bf16) (main_arg1 : FVec F S9216x1024 .bf16) (main_arg2 : FVec F S9216x512 .f32) (main_arg3 : FVec F S32x16 .f32) (main_arg4 : FVec F S512x512 .f32) (main_arg5 : FVec F S512 .f32) : IVec S_ 1 :=
  let main_v0 : FVec F S9216x1280 .f32 := (extf .f32 · bitsLt_bf16_f32) main_arg0
  let main_v1 : FVec F S9216x1280 .f32 := Host.absf main_v0
  let main_cst : FVec F S_ .f32 := constant S_ .f32 0x7F800000#32
  let main_v2 : FVec F S9216x1280 .f32 := broadcastInDim S9216x1280 ![] bcast_S_S9216x1280 main_cst
  let main_v3 : IVec S9216x1280 1 := cmpf .olt main_v1 main_v2
  let main_c : IVec S_ 1 := constantI S_ 1 1#1
  let main_v4 : IVec S_ 1 := (fun x v => Host.reduce IntOp.andi x v reducesTo_S9216x1280_S_d0_1 h_S_) main_v3 main_c
  let main_v5 : FVec F S9216x1024 .f32 := (extf .f32 · bitsLt_bf16_f32) main_arg1
  let main_v6 : FVec F S9216x1024 .f32 := Host.absf main_v5
  let main_cst_0 : FVec F S_ .f32 := constant S_ .f32 0x7F800000#32
  let main_v7 : FVec F S9216x1024 .f32 := broadcastInDim S9216x1024 ![] bcast_S_S9216x1024 main_cst_0
  let main_v8 : IVec S9216x1024 1 := cmpf .olt main_v6 main_v7
  let main_c_1 : IVec S_ 1 := constantI S_ 1 1#1
  let main_v9 : IVec S_ 1 := (fun x v => Host.reduce IntOp.andi x v reducesTo_S9216x1024_S_d0_1 h_S_) main_v8 main_c_1
  let main_v10 : IVec S_ 1 := andi main_v4 main_v9
  let main_v11 : FVec F S9216x512 .f32 := Host.absf main_arg2
  let main_cst_2 : FVec F S_ .f32 := constant S_ .f32 0x7F800000#32
  let main_v12 : FVec F S9216x512 .f32 := broadcastInDim S9216x512 ![] bcast_S_S9216x512 main_cst_2
  let main_v13 : IVec S9216x512 1 := cmpf .olt main_v11 main_v12
  let main_c_3 : IVec S_ 1 := constantI S_ 1 1#1
  let main_v14 : IVec S_ 1 := (fun x v => Host.reduce IntOp.andi x v reducesTo_S9216x512_S_d0_1 h_S_) main_v13 main_c_3
  let main_v15 : IVec S_ 1 := andi main_v10 main_v14
  let main_v16 : FVec F S32x16 .f32 := Host.absf main_arg3
  let main_cst_4 : FVec F S_ .f32 := constant S_ .f32 0x7F800000#32
  fn_part1 (F := F) main_arg4 main_v15 main_v16 main_cst_4
-- ==== Pre_finite35.lean ====
abbrev S8x2x8x6144 : Shape := ⟨4, ![8, 2, 8, 6144]⟩
abbrev S4x1x1024 : Shape := ⟨3, ![4, 1, 1024]⟩
abbrev S1024 : Shape := ⟨1, ![1024]⟩
abbrev S_ : Shape := ⟨0, ![]⟩

class Facts : Prop where
  bcast_S_S4x1x1024 : S_.BroadcastsInDim S4x1x1024 (![] : Fin 0 → Fin S4x1x1024.rank)
  reducesTo_S4x1x1024_S_d0_1_2 : S4x1x1024.ReducesTo [0, 1, 2] S_
  h_S_ : 0 < S_.numel

variable [Facts]

def fn {F : FTy → Type} [FloatOps F] (main_arg0 : FVec F S8x2x8x6144 .f32) (main_arg1 : FVec F S4x1x1024 .f32) (main_arg2 : FVec F S1024 .f32) : IVec S_ 1 :=
  let main_v0 : FVec F S4x1x1024 .f32 := Host.absf main_arg1
  let main_cst : FVec F S_ .f32 := constant S_ .f32 0x7F800000#32
  let main_v1 : FVec F S4x1x1024 .f32 := broadcastInDim S4x1x1024 ![] bcast_S_S4x1x1024 main_cst
  let main_v2 : IVec S4x1x1024 1 := cmpf .olt main_v0 main_v1
  let main_c : IVec S_ 1 := constantI S_ 1 1#1
  let main_v3 : IVec S_ 1 := (fun x v => Host.reduce IntOp.andi x v reducesTo_S4x1x1024_S_d0_1_2 h_S_) main_v2 main_c
  main_v3
-- ==== Kernel.lean ====
abbrev S9216x1024 : Shape := ⟨2, ![9216, 1024]⟩
abbrev S1024x2816 : Shape := ⟨2, ![1024, 2816]⟩
abbrev S2816x1024 : Shape := ⟨2, ![2816, 1024]⟩
abbrev S9216x2816 : Shape := ⟨2, ![9216, 2816]⟩
abbrev S512x1024 : Shape := ⟨2, ![512, 1024]⟩
abbrev S1408x1024 : Shape := ⟨2, ![1408, 1024]⟩
abbrev S512x1408 : Shape := ⟨2, ![512, 1408]⟩
abbrev S512x512 : Shape := ⟨2, ![512, 512]⟩
abbrev S384x1024 : Shape := ⟨2, ![384, 1024]⟩
abbrev S512x384 : Shape := ⟨2, ![512, 384]⟩

abbrev nBuf : Space → Nat
  | .hbm => 13
  | .vmem => 12
  | .smem => 0
  | _ => 0

abbrev bufTy : (tb : Table) → Fin (tcTables nBuf tb) → BufTy
  | .hbm, ⟨0, _⟩ => ⟨S9216x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S9216x1024, .bf16⟩
  | .hbm, ⟨5, _⟩ => ⟨S9216x1024, .f32⟩
  | .hbm, ⟨6, _⟩ => ⟨S9216x2816, .f32⟩
  | .hbm, ⟨7, _⟩ => ⟨S9216x2816, .bf16⟩
  | .hbm, ⟨8, _⟩ => ⟨S9216x2816, .f32⟩
  | .hbm, ⟨9, _⟩ => ⟨S9216x2816, .bf16⟩
  | .hbm, ⟨10, _⟩ => ⟨S2816x1024, .bf16⟩
  | .hbm, ⟨11, _⟩ => ⟨S9216x2816, .bf16⟩
  | .hbm, ⟨12, _⟩ => ⟨S9216x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S9216x1024 : Shape := ⟨2, ![9216, 1024]⟩
abbrev S1024x2816 : Shape := ⟨2, ![1024, 2816]⟩
abbrev S2816x1024 : Shape := ⟨2, ![2816, 1024]⟩
abbrev S9216x2816 : Shape := ⟨2, ![9216, 2816]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S9216x1024, .bf16⟩
  | .hbm, ⟨5, _⟩ => ⟨S9216x1024, .f32⟩
  | .hbm, ⟨6, _⟩ => ⟨S9216x1024, .f32⟩
  | .hbm, ⟨7, _⟩ => ⟨S9216x2816, .f32⟩
  | .hbm, ⟨8, _⟩ => ⟨S9216x2816, .f32⟩
  | .hbm, ⟨9, _⟩ => ⟨S9216x2816, .f32⟩
  | .hbm, ⟨10, _⟩ => ⟨S9216x2816, .f32⟩
  | .hbm, ⟨11, _⟩ => ⟨S_, .f32⟩
  | .hbm, ⟨12, _⟩ => ⟨S9216x2816, .f32⟩
  | .hbm, ⟨13, _⟩ => ⟨S9216x2816, .f32⟩
  | .hbm, ⟨14, _⟩ => ⟨S_, .f32⟩
  | .hbm, ⟨15, _⟩ => ⟨S9216x2816, .f32⟩
  | .hbm, ⟨16, _⟩ => ⟨S9216x2816, .f32⟩
  | .hbm, ⟨17, _⟩ => ⟨S_, .f32⟩
  | .hbm, ⟨18, _⟩ => ⟨S9216x2816, .f32⟩
  | .hbm, ⟨19, _⟩ => ⟨S9216x2816, .f32⟩
  | .hbm, ⟨20, _⟩ => ⟨S9216x2816, .f32⟩
  | .hbm, ⟨21, _⟩ => ⟨S9216x2816, .f32⟩
  | .hbm, ⟨22, _⟩ => ⟨S9216x2816, .f32⟩
  | .hbm, ⟨23, _⟩ => ⟨S9216x1024, .f32⟩
  | .hbm, ⟨24, _⟩ => ⟨S9216x2816, .f32⟩
  | .hbm, ⟨25, _⟩ => ⟨S9216x2816, .f32⟩
  | .hbm, ⟨26, _⟩ => ⟨S9216x2816, .f32⟩
  | .hbm, ⟨27, _⟩ => ⟨S9216x2816, .f32⟩
  | .hbm, ⟨28, _⟩ => ⟨S9216x2816, .f32⟩
  | .hbm, ⟨29, _⟩ => ⟨S9216x2816, .f32⟩
  | .hbm, ⟨30, _⟩ => ⟨S9216x2816, .f32⟩
  | .hbm, ⟨31, _⟩ => ⟨S9216x2816, .bf16⟩
  | .hbm, ⟨32, _⟩ => ⟨S9216x2816, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Kernel2.lean ====
abbrev S9216x1024 : Shape := ⟨2, ![9216, 1024]⟩
abbrev S1024x2816 : Shape := ⟨2, ![1024, 2816]⟩
abbrev S9216x2816 : Shape := ⟨2, ![9216, 2816]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 10
  | .vmem => 8
  | .smem => 0
  | _ => 0

abbrev bufTy : (tb : Table) → Fin (tcTables nBuf tb) → BufTy
  | .hbm, ⟨0, _⟩ => ⟨S9216x1024, .bf16⟩
  | .hbm, ⟨1, _⟩ => ⟨S1024x2816, .f32⟩
  | .hbm, ⟨2, _⟩ => ⟨S1024x2816, .f32⟩
  | .hbm, ⟨3, _⟩ => ⟨S9216x2816, .bf16⟩
  | .hbm, ⟨4, _⟩ => ⟨S9216x2816, .bf16⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S9216x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .bf16⟩
  | .local _ .vmem, ⟨7, _⟩ => ⟨S512x1024, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![18, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S9216x1024 : Shape := ⟨2, ![9216, 1024]⟩
abbrev S1024x2816 : Shape := ⟨2, ![1024, 2816]⟩
abbrev S9216x2816 : Shape := ⟨2, ![9216, 2816]⟩

abbrev nBuf : Space → Nat
  | .hbm => 14
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x2816, .f32⟩
  | .hbm, ⟨2, _⟩ => ⟨S1024x2816, .f32⟩
  | .hbm, ⟨3, _⟩ => ⟨S9216x2816, .bf16⟩
  | .hbm, ⟨4, _⟩ => ⟨S9216x2816, .bf16⟩
  | .hbm, ⟨5, _⟩ => ⟨S9216x1024, .f32⟩
  | .hbm, ⟨6, _⟩ => ⟨S9216x2816, .f32⟩
  | .hbm, ⟨7, _⟩ => ⟨S9216x2816, .f32⟩
  | .hbm, ⟨8, _⟩ => ⟨S9216x2816, .f32⟩
  | .hbm, ⟨9, _⟩ => ⟨S9216x2816, .f32⟩
  | .hbm, ⟨10, _⟩ => ⟨S9216x1024, .f32⟩
  | .hbm, ⟨11, _⟩ => ⟨S9216x1024, .f32⟩
  | .hbm, ⟨12, _⟩ => ⟨S9216x1024, .f32⟩
  | .hbm, ⟨13, _⟩ => ⟨S9216x1024, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel3.lean ====
abbrev S9216x1024 : Shape := ⟨2, ![9216, 1024]⟩
abbrev S1024x2816 : Shape := ⟨2, ![1024, 2816]⟩
abbrev S9216x2816 : Shape := ⟨2, ![9216, 2816]⟩
abbrev S2816x1024 : Shape := ⟨2, ![2816, 1024]⟩
abbrev S1536x1408 : Shape := ⟨2, ![1536, 1408]⟩
abbrev S1536x1024 : Shape := ⟨2, ![1536, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S1024x2816, .f32⟩
  | .hbm, ⟨2, _⟩ => ⟨S9216x2816, .bf16⟩
  | .hbm, ⟨3, _⟩ => ⟨S2816x1024, .bf16⟩
  | .local _ .vmem, ⟨0, _⟩ => ⟨S1536x1408, .bf16⟩
  | .local _ .vmem, ⟨1, _⟩ => ⟨S1536x1408, .bf16⟩
  | .local _ .vmem, ⟨2, _⟩ => ⟨S1536x1024, .bf16⟩
  | .local _ .vmem, ⟨3, _⟩ => ⟨S1536x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S9216x1024 : Shape := ⟨2, ![9216, 1024]⟩
abbrev S1024x2816 : Shape := ⟨2, ![1024, 2816]⟩
abbrev S9216x2816 : Shape := ⟨2, ![9216, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x2816, .f32⟩
  | .hbm, ⟨2, _⟩ => ⟨S9216x2816, .bf16⟩
  | .hbm, ⟨3, _⟩ => ⟨S9216x1024, .f32⟩
  | .hbm, ⟨4, _⟩ => ⟨S9216x2816, .f32⟩
  | .hbm, ⟨5, _⟩ => ⟨S9216x2816, .f32⟩
  | .hbm, ⟨6, _⟩ => ⟨S2816x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S9216x1024 : Shape := ⟨2, ![9216, 1024]⟩
abbrev S1024x2816 : Shape := ⟨2, ![1024, 2816]⟩
abbrev S2816x1024 : Shape := ⟨2, ![2816, 1024]⟩
abbrev S9216x2816 : Shape := ⟨2, ![9216, 2816]⟩
abbrev S_ : Shape := ⟨0, ![]⟩
abbrev S1536x1408 : Shape := ⟨2, ![1536, 1408]⟩
abbrev S1536x1024 : Shape := ⟨2, ![1536, 1024]⟩
abbrev S1408x1024 : Shape := ⟨2, ![1408, 1024]⟩

abbrev nBuf : Space → Nat
  | .hbm => 20
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S9216x1024, .bf16⟩
  | .hbm, ⟨5, _⟩ => ⟨S9216x1024, .f32⟩
  | .hbm, ⟨6, _⟩ => ⟨S9216x2816, .f32⟩
  | .hbm, ⟨7, _⟩ => ⟨S9216x2816, .f32⟩
  | .hbm, ⟨8, _⟩ => ⟨S9216x2816, .f32⟩
  | .hbm, ⟨9, _⟩ => ⟨S_, .f32⟩
  | .hbm, ⟨10, _⟩ => ⟨S9216x2816, .f32⟩
  | .hbm, ⟨11, _⟩ => ⟨S9216x2816, .f32⟩
  | .hbm, ⟨12, _⟩ => ⟨S_, .f32⟩
  | .hbm, ⟨13, _⟩ => ⟨S9216x2816, .f32⟩
  | .hbm, ⟨14, _⟩ => ⟨S9216x2816, .f32⟩
  | .hbm, ⟨15, _⟩ => ⟨S9216x2816, .f32⟩
  | .hbm, ⟨16, _⟩ => ⟨S9216x2816, .f32⟩
  | .hbm, ⟨17, _⟩ => ⟨S9216x2816, .f32⟩
  | .hbm, ⟨18, _⟩ => ⟨S9216x2816, .bf16⟩
  | .hbm, ⟨19, _⟩ => ⟨S2816x1024, .bf16⟩
  | .local _ .vmem, ⟨0, _⟩ => ⟨S1536x1408, .bf16⟩
  | .local _ .vmem, ⟨1, _⟩ => ⟨S1536x1408, .bf16⟩
  | .local _ .vmem, ⟨2, _⟩ => ⟨S1536x1024, .bf16⟩
  | .local _ .vmem, ⟨3, _⟩ => ⟨S1536x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond2 (i : grid0.Coords) : BitVec 1 :=
  let arg2 : BitVec 32 := BitVec.ofNat 32 (i 2).val
  let c5_i32 : BitVec 32 := 5#32
  let v12 : BitVec 1 := Scalar.cmpi .eq arg2 c5_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S9216x1024 : Shape := ⟨2, ![9216, 1024]⟩
abbrev S1024x2816 : Shape := ⟨2, ![1024, 2816]⟩
abbrev S2816x1024 : Shape := ⟨2, ![2816, 1024]⟩
abbrev S9216x2816 : Shape := ⟨2, ![9216, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S9216x1024, .bf16⟩
  | .hbm, ⟨5, _⟩ => ⟨S9216x1024, .f32⟩
  | .hbm, ⟨6, _⟩ => ⟨S9216x1024, .f32⟩
  | .hbm, ⟨7, _⟩ => ⟨S9216x2816, .f32⟩
  | .hbm, ⟨8, _⟩ => ⟨S9216x2816, .f32⟩
  | .hbm, ⟨9, _⟩ => ⟨S9216x2816, .f32⟩
  | .hbm, ⟨10, _⟩ => ⟨S_, .f32⟩
  | .hbm, ⟨11, _⟩ => ⟨S9216x2816, .f32⟩
  | .hbm, ⟨12, _⟩ => ⟨S9216x2816, .f32⟩
  | .hbm, ⟨13, _⟩ => ⟨S_, .f32⟩
  | .hbm, ⟨14, _⟩ => ⟨S9216x2816, .f32⟩
  | .hbm, ⟨15, _⟩ => ⟨S9216x2816, .f32⟩
  | .hbm, ⟨16, _⟩ => ⟨S9216x2816, .f32⟩
  | .hbm, ⟨17, _⟩ => ⟨S9216x2816, .f32⟩
  | .hbm, ⟨18, _⟩ => ⟨S9216x2816, .f32⟩
  | .hbm, ⟨19, _⟩ => ⟨S9216x1024, .f32⟩
  | .hbm, ⟨20, _⟩ => ⟨S1024x2816, .f32⟩
  | .hbm, ⟨21, _⟩ => ⟨S2816x1024, .f32⟩
  | .hbm, ⟨22, _⟩ => ⟨S2816x1024, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel5.lean ====
abbrev S9216x1024 : Shape := ⟨2, ![9216, 1024]⟩
abbrev S1024x2816 : Shape := ⟨2, ![1024, 2816]⟩
abbrev S2816x1024 : Shape := ⟨2, ![2816, 1024]⟩
abbrev S9216x2816 : Shape := ⟨2, ![9216, 2816]⟩
abbrev S512x1024 : Shape := ⟨2, ![512, 1024]⟩
abbrev S1408x1024 : Shape := ⟨2, ![1408, 1024]⟩
abbrev S512x1408 : Shape := ⟨2, ![512, 1408]⟩
abbrev S512x512 : Shape := ⟨2, ![512, 512]⟩
abbrev S384x1024 : Shape := ⟨2, ![384, 1024]⟩
abbrev S512x384 : Shape := ⟨2, ![512, 384]⟩

abbrev nBuf : Space → Nat
  | .hbm => 10
  | .vmem => 12
  | .smem => 0
  | _ => 0

abbrev bufTy : (tb : Table) → Fin (tcTables nBuf tb) → BufTy
  | .hbm, ⟨0, _⟩ => ⟨S9216x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2816x1024, .bf16⟩
  | .hbm, ⟨5, _⟩ => ⟨S2816x1024, .f32⟩
  | .hbm, ⟨6, _⟩ => ⟨S2816x1024, .bf16⟩
  | .hbm, ⟨7, _⟩ => ⟨S9216x2816, .bf16⟩
  | .hbm, ⟨8, _⟩ => ⟨S9216x2816, .bf16⟩
  | .hbm, ⟨9, _⟩ => ⟨S9216x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S9216x1024 : Shape := ⟨2, ![9216, 1024]⟩
abbrev S1024x2816 : Shape := ⟨2, ![1024, 2816]⟩
abbrev S9216x2816 : Shape := ⟨2, ![9216, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x2816, .f32⟩
  | .hbm, ⟨2, _⟩ => ⟨S1024x2816, .f32⟩
  | .hbm, ⟨3, _⟩ => ⟨S9216x1024, .f32⟩
  | .hbm, ⟨4, _⟩ => ⟨S9216x2816, .f32⟩
  | .hbm, ⟨5, _⟩ => ⟨S9216x2816, .f32⟩
  | .hbm, ⟨6, _⟩ => ⟨S9216x2816, .bf16⟩
  | .hbm, ⟨7, _⟩ => ⟨S9216x2816, .bf16⟩
  | .hbm, ⟨8, _⟩ => ⟨S9216x2816, .f32⟩
  | .hbm, ⟨9, _⟩ => ⟨S9216x2816, .f32⟩
  | .hbm, ⟨10, _⟩ => ⟨S_, .f32⟩
  | .hbm, ⟨11, _⟩ => ⟨S9216x2816, .f32⟩
  | .hbm, ⟨12, _⟩ => ⟨S9216x2816, .f32⟩
  | .hbm, ⟨13, _⟩ => ⟨S_, .f32⟩
  | .hbm, ⟨14, _⟩ => ⟨S9216x2816, .f32⟩
  | .hbm, ⟨15, _⟩ => ⟨S9216x2816, .f32⟩
  | .hbm, ⟨16, _⟩ => ⟨S9216x2816, .f32⟩
  | .hbm, ⟨17, _⟩ => ⟨S9216x2816, .f32⟩
  | .hbm, ⟨18, _⟩ => ⟨S9216x2816, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel6.lean ====
abbrev S9216x1024 : Shape := ⟨2, ![9216, 1024]⟩
abbrev S1024x2816 : Shape := ⟨2, ![1024, 2816]⟩
abbrev S2816x1024 : Shape := ⟨2, ![2816, 1024]⟩
abbrev S9216x2816 : Shape := ⟨2, ![9216, 2816]⟩
abbrev S_ : Shape := ⟨0, ![]⟩
abbrev S512x2816 : Shape := ⟨2, ![512, 2816]⟩
abbrev S512x1024 : Shape := ⟨2, ![512, 1024]⟩

abbrev nBuf : Space → Nat
  | .hbm => 20
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S9216x1024, .f32⟩
  | .hbm, ⟨5, _⟩ => ⟨S9216x2816, .f32⟩
  | .hbm, ⟨6, _⟩ => ⟨S9216x2816, .f32⟩
  | .hbm, ⟨7, _⟩ => ⟨S9216x2816, .f32⟩
  | .hbm, ⟨8, _⟩ => ⟨S_, .f32⟩
  | .hbm, ⟨9, _⟩ => ⟨S9216x2816, .f32⟩
  | .hbm, ⟨10, _⟩ => ⟨S9216x2816, .f32⟩
  | .hbm, ⟨11, _⟩ => ⟨S_, .f32⟩
  | .hbm, ⟨12, _⟩ => ⟨S9216x2816, .f32⟩
  | .hbm, ⟨13, _⟩ => ⟨S9216x2816, .f32⟩
  | .hbm, ⟨14, _⟩ => ⟨S9216x2816, .f32⟩
  | .hbm, ⟨15, _⟩ => ⟨S9216x2816, .f32⟩
  | .hbm, ⟨16, _⟩ => ⟨S9216x2816, .f32⟩
  | .hbm, ⟨17, _⟩ => ⟨S9216x2816, .bf16⟩
  | .hbm, ⟨18, _⟩ => ⟨S2816x1024, .bf16⟩
  | .hbm, ⟨19, _⟩ => ⟨S9216x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .bf16⟩
  | .local _ .vmem, ⟨4, _⟩ => ⟨S512x1024, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![18, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S9216x1024 : Shape := ⟨2, ![9216, 1024]⟩
abbrev S1024x2816 : Shape := ⟨2, ![1024, 2816]⟩
abbrev S2816x1024 : Shape := ⟨2, ![2816, 1024]⟩
abbrev S9216x2816 : Shape := ⟨2, ![9216, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S9216x1024, .f32⟩
  | .hbm, ⟨5, _⟩ => ⟨S9216x2816, .f32⟩
  | .hbm, ⟨6, _⟩ => ⟨S9216x2816, .f32⟩
  | .hbm, ⟨7, _⟩ => ⟨S9216x2816, .f32⟩
  | .hbm, ⟨8, _⟩ => ⟨S_, .f32⟩
  | .hbm, ⟨9, _⟩ => ⟨S9216x2816, .f32⟩
  | .hbm, ⟨10, _⟩ => ⟨S9216x2816, .f32⟩
  | .hbm, ⟨11, _⟩ => ⟨S_, .f32⟩
  | .hbm, ⟨12, _⟩ => ⟨S9216x2816, .f32⟩
  | .hbm, ⟨13, _⟩ => ⟨S9216x2816, .f32⟩
  | .hbm, ⟨14, _⟩ => ⟨S9216x2816, .f32⟩
  | .hbm, ⟨15, _⟩ => ⟨S9216x2816, .f32⟩
  | .hbm, ⟨16, _⟩ => ⟨S9216x2816, .f32⟩
  | .hbm, ⟨17, _⟩ => ⟨S9216x1024, .f32⟩
  | .hbm, ⟨18, _⟩ => ⟨S9216x1024, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Kernel7.lean ====
abbrev S9216x1024 : Shape := ⟨2, ![9216, 1024]⟩
abbrev S1024x1280 : Shape := ⟨2, ![1024, 1280]⟩
abbrev S1280x1024 : Shape := ⟨2, ![1280, 1024]⟩
abbrev S9216x1280 : Shape := ⟨2, ![9216, 1280]⟩
abbrev S512x1024 : Shape := ⟨2, ![512, 1024]⟩
abbrev S512x1280 : Shape := ⟨2, ![512, 1280]⟩

abbrev nBuf : Space → Nat
  | .hbm => 5
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S1024x1280, .f32⟩
  | .hbm, ⟨2, _⟩ => ⟨S1280x1024, .f32⟩
  | .hbm, ⟨3, _⟩ => ⟨S1280x1024, .bf16⟩
  | .hbm, ⟨4, _⟩ => ⟨S9216x1280, .bf16⟩
  | .local _ .vmem, ⟨0, _⟩ => ⟨S512x1024, .bf16⟩
  | .local _ .vmem, ⟨1, _⟩ => ⟨S512x1024, .bf16⟩
  | .local _ .vmem, ⟨2, _⟩ => ⟨S1280x1024, .bf16⟩
  | .local _ .vmem, ⟨3, _⟩ => ⟨S512x1280, .bf16⟩
  | .local _ .vmem, ⟨4, _⟩ => ⟨S512x1280, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![18, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S9216x1024 : Shape := ⟨2, ![9216, 1024]⟩
abbrev S1024x1280 : Shape := ⟨2, ![1024, 1280]⟩
abbrev S9216x1280 : Shape := ⟨2, ![9216, 1280]⟩

abbrev nBuf : Space → Nat
  | .hbm => 5
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x1280, .f32⟩
  | .hbm, ⟨2, _⟩ => ⟨S9216x1024, .f32⟩
  | .hbm, ⟨3, _⟩ => ⟨S9216x1280, .f32⟩
  | .hbm, ⟨4, _⟩ => ⟨S9216x1280, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S9216x1024 : Shape := ⟨2, ![9216, 1024]⟩
abbrev S1024x1280 : Shape := ⟨2, ![1024, 1280]⟩
abbrev S9216x1280 : Shape := ⟨2, ![9216, 1280]⟩
abbrev S1280x1024 : Shape := ⟨2, ![1280, 1024]⟩
abbrev S512x1280 : Shape := ⟨2, ![512, 1280]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S1024x1280, .f32⟩
  | .hbm, ⟨2, _⟩ => ⟨S9216x1280, .bf16⟩
  | .hbm, ⟨3, _⟩ => ⟨S1280x1024, .f32⟩
  | .hbm, ⟨4, _⟩ => ⟨S1280x1024, .bf16⟩
  | .hbm, ⟨5, _⟩ => ⟨S9216x1024, .bf16⟩
  | .local _ .vmem, ⟨0, _⟩ => ⟨S512x1280, .bf16⟩
  | .local _ .vmem, ⟨1, _⟩ => ⟨S512x1280, .bf16⟩
  | .local _ .vmem, ⟨2, _⟩ => ⟨S1280x1024, .bf16⟩
  | .local _ .vmem, ⟨3, _⟩ => ⟨S512x1024, .bf16⟩
  | .local _ .vmem, ⟨4, _⟩ => ⟨S512x1024, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![18, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S9216x1024 : Shape := ⟨2, ![9216, 1024]⟩
abbrev S1024x1280 : Shape := ⟨2, ![1024, 1280]⟩
abbrev S9216x1280 : Shape := ⟨2, ![9216, 1280]⟩

abbrev nBuf : Space → Nat
  | .hbm => 8
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x1280, .f32⟩
  | .hbm, ⟨2, _⟩ => ⟨S9216x1280, .bf16⟩
  | .hbm, ⟨3, _⟩ => ⟨S9216x1024, .f32⟩
  | .hbm, ⟨4, _⟩ => ⟨S9216x1280, .f32⟩
  | .hbm, ⟨5, _⟩ => ⟨S9216x1280, .f32⟩
  | .hbm, ⟨6, _⟩ => ⟨S9216x1024, .f32⟩
  | .hbm, ⟨7, _⟩ => ⟨S9216x1024, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S9216x1024 : Shape := ⟨2, ![9216, 1024]⟩
abbrev S1024x1280 : Shape := ⟨2, ![1024, 1280]⟩
abbrev S9216x1280 : Shape := ⟨2, ![9216, 1280]⟩
abbrev S1280x1024 : Shape := ⟨2, ![1280, 1024]⟩
abbrev S1536x1280 : Shape := ⟨2, ![1536, 1280]⟩
abbrev S1536x1024 : Shape := ⟨2, ![1536, 1024]⟩

abbrev nBuf : Space → Nat
  | .hbm => 4
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S1024x1280, .f32⟩
  | .hbm, ⟨2, _⟩ => ⟨S9216x1280, .bf16⟩
  | .hbm, ⟨3, _⟩ => ⟨S1280x1024, .bf16⟩
  | .local _ .vmem, ⟨0, _⟩ => ⟨S1536x1280, .bf16⟩
  | .local _ .vmem, ⟨1, _⟩ => ⟨S1536x1280, .bf16⟩
  | .local _ .vmem, ⟨2, _⟩ => ⟨S1536x1024, .bf16⟩
  | .local _ .vmem, ⟨3, _⟩ => ⟨S1536x1024, .bf16⟩
  | .local _ .vmem, ⟨4, _⟩ => ⟨S1280x1024, .bf16⟩
  | .local _ .vmem, ⟨5, _⟩ => ⟨S1280x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S9216x1024 : Shape := ⟨2, ![9216, 1024]⟩
abbrev S1024x1280 : Shape := ⟨2, ![1024, 1280]⟩
abbrev S9216x1280 : Shape := ⟨2, ![9216, 1280]⟩
abbrev S1280x1024 : Shape := ⟨2, ![1280, 1024]⟩

abbrev nBuf : Space → Nat
  | .hbm => 10
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x1280, .f32⟩
  | .hbm, ⟨2, _⟩ => ⟨S9216x1280, .bf16⟩
  | .hbm, ⟨3, _⟩ => ⟨S9216x1024, .f32⟩
  | .hbm, ⟨4, _⟩ => ⟨S9216x1280, .f32⟩
  | .hbm, ⟨5, _⟩ => ⟨S9216x1280, .f32⟩
  | .hbm, ⟨6, _⟩ => ⟨S1280x1024, .f32⟩
  | .hbm, ⟨7, _⟩ => ⟨S1024x1280, .f32⟩
  | .hbm, ⟨8, _⟩ => ⟨S1280x1024, .f32⟩
  | .hbm, ⟨9, _⟩ => ⟨S1280x1024, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S9216x256 : Shape := ⟨2, ![9216, 256]⟩
abbrev S9216x512 : Shape := ⟨2, ![9216, 512]⟩
abbrev S1024x1024 : Shape := ⟨2, ![1024, 1024]⟩
abbrev S4 : Shape := ⟨1, ![4]⟩
abbrev S9216x1024 : Shape := ⟨2, ![9216, 1024]⟩
abbrev S4x256x1024 : Shape := ⟨3, ![4, 256, 1024]⟩
abbrev S_ : Shape := ⟨0, ![]⟩
abbrev S4x1 : Shape := ⟨2, ![4, 1]⟩
abbrev S512x1024 : Shape := ⟨2, ![512, 1024]⟩

abbrev nBuf : Space → Nat
  | .hbm => 17
  | .vmem => 5
  | .smem => 0
  | _ => 0

abbrev bufTy : (tb : Table) → Fin (tcTables nBuf tb) → BufTy
  | .hbm, ⟨0, _⟩ => ⟨S9216x256, .bf16⟩
  | .hbm, ⟨1, _⟩ => ⟨S9216x512, .bf16⟩
  | .hbm, ⟨2, _⟩ => ⟨S9216x256, .bf16⟩
  | .hbm, ⟨3, _⟩ => ⟨S1024x1024, .f32⟩
  | .hbm, ⟨4, _⟩ => ⟨S4, .i32⟩
  | .hbm, ⟨5, _⟩ => ⟨S4, .i1⟩
  | .hbm, ⟨6, _⟩ => ⟨S9216x1024, .bf16⟩
  | .hbm, ⟨7, _⟩ => ⟨S1024x1024, .bf16⟩
  | .hbm, ⟨8, _⟩ => ⟨S4x256x1024, .bf16⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S4, .i32⟩
  | .hbm, ⟨13, _⟩ => ⟨S4x1, .i32⟩
  | .hbm, ⟨14, _⟩ => ⟨S4x256x1024, .bf16⟩
  | .hbm, ⟨15, _⟩ => ⟨S1024x1024, .bf16⟩
  | .hbm, ⟨16, _⟩ => ⟨S9216x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S9216x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![18, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S9216x256 : Shape := ⟨2, ![9216, 256]⟩
abbrev S9216x512 : Shape := ⟨2, ![9216, 512]⟩
abbrev S1024x1024 : Shape := ⟨2, ![1024, 1024]⟩
abbrev S9216x1024 : Shape := ⟨2, ![9216, 1024]⟩

abbrev nBuf : Space → Nat
  | .hbm => 10
  | .vmem => 0
  | .smem => 0
  | _ => 0

abbrev bufTy : (tb : Table) → Fin (tcTables nBuf tb) → BufTy
  | .hbm, ⟨0, _⟩ => ⟨S9216x256, .bf16⟩
  | .hbm, ⟨1, _⟩ => ⟨S9216x512, .bf16⟩
  | .hbm, ⟨2, _⟩ => ⟨S9216x256, .bf16⟩
  | .hbm, ⟨3, _⟩ => ⟨S1024x1024, .f32⟩
  | .hbm, ⟨4, _⟩ => ⟨S9216x256, .f32⟩
  | .hbm, ⟨5, _⟩ => ⟨S9216x512, .f32⟩
  | .hbm, ⟨6, _⟩ => ⟨S9216x256, .f32⟩
  | .hbm, ⟨7, _⟩ => ⟨S9216x1024, .f32⟩
  | .hbm, ⟨8, _⟩ => ⟨S9216x1024, .f32⟩
  | .hbm, ⟨9, _⟩ => ⟨S9216x1024, .bf16⟩
  | _, _ => ⟨S9216x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel11.lean ====
abbrev S9216x256 : Shape := ⟨2, ![9216, 256]⟩
abbrev S9216x512 : Shape := ⟨2, ![9216, 512]⟩
abbrev S1024x1024 : Shape := ⟨2, ![1024, 1024]⟩
abbrev S9216x1024 : Shape := ⟨2, ![9216, 1024]⟩
abbrev S4 : Shape := ⟨1, ![4]⟩
abbrev S4x256x1024 : Shape := ⟨3, ![4, 256, 1024]⟩
abbrev S_ : Shape := ⟨0, ![]⟩
abbrev S4x1 : Shape := ⟨2, ![4, 1]⟩
abbrev S512x1024 : Shape := ⟨2, ![512, 1024]⟩

abbrev nBuf : Space → Nat
  | .hbm => 17
  | .vmem => 5
  | .smem => 0
  | _ => 0

abbrev bufTy : (tb : Table) → Fin (tcTables nBuf tb) → BufTy
  | .hbm, ⟨0, _⟩ => ⟨S9216x256, .bf16⟩
  | .hbm, ⟨1, _⟩ => ⟨S9216x512, .bf16⟩
  | .hbm, ⟨2, _⟩ => ⟨S9216x256, .bf16⟩
  | .hbm, ⟨3, _⟩ => ⟨S1024x1024, .f32⟩
  | .hbm, ⟨4, _⟩ => ⟨S9216x1024, .bf16⟩
  | .hbm, ⟨5, _⟩ => ⟨S4, .i32⟩
  | .hbm, ⟨6, _⟩ => ⟨S4, .i1⟩
  | .hbm, ⟨7, _⟩ => ⟨S1024x1024, .bf16⟩
  | .hbm, ⟨8, _⟩ => ⟨S4x256x1024, .bf16⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S4, .i32⟩
  | .hbm, ⟨13, _⟩ => ⟨S4x1, .i32⟩
  | .hbm, ⟨14, _⟩ => ⟨S4x256x1024, .bf16⟩
  | .hbm, ⟨15, _⟩ => ⟨S1024x1024, .bf16⟩
  | .hbm, ⟨16, _⟩ => ⟨S9216x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S9216x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![18, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S9216x256 : Shape := ⟨2, ![9216, 256]⟩
abbrev S9216x512 : Shape := ⟨2, ![9216, 512]⟩
abbrev S1024x1024 : Shape := ⟨2, ![1024, 1024]⟩
abbrev S9216x1024 : Shape := ⟨2, ![9216, 1024]⟩

abbrev nBuf : Space → Nat
  | .hbm => 17
  | .vmem => 0
  | .smem => 0
  | _ => 0

abbrev bufTy : (tb : Table) → Fin (tcTables nBuf tb) → BufTy
  | .hbm, ⟨0, _⟩ => ⟨S9216x256, .bf16⟩
  | .hbm, ⟨1, _⟩ => ⟨S9216x512, .bf16⟩
  | .hbm, ⟨2, _⟩ => ⟨S9216x256, .bf16⟩
  | .hbm, ⟨3, _⟩ => ⟨S1024x1024, .f32⟩
  | .hbm, ⟨4, _⟩ => ⟨S9216x1024, .bf16⟩
  | .hbm, ⟨5, _⟩ => ⟨S9216x256, .f32⟩
  | .hbm, ⟨6, _⟩ => ⟨S9216x512, .f32⟩
  | .hbm, ⟨7, _⟩ => ⟨S9216x256, .f32⟩
  | .hbm, ⟨8, _⟩ => ⟨S9216x1024, .f32⟩
  | .hbm, ⟨9, _⟩ => ⟨S9216x1024, .f32⟩
  | .hbm, ⟨10, _⟩ => ⟨S9216x1024, .f32⟩
  | .hbm, ⟨11, _⟩ => ⟨S9216x1024, .f32⟩
  | .hbm, ⟨12, _⟩ => ⟨S9216x256, .f32⟩
  | .hbm, ⟨13, _⟩ => ⟨S9216x512, .f32⟩
  | .hbm, ⟨14, _⟩ => ⟨S9216x256, .f32⟩
  | .hbm, ⟨15, _⟩ => ⟨S9216x1024, .f32⟩
  | .hbm, ⟨16, _⟩ => ⟨S9216x1024, .bf16⟩
  | _, _ => ⟨S9216x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel12.lean ====
abbrev S9216x256 : Shape := ⟨2, ![9216, 256]⟩
abbrev S9216x512 : Shape := ⟨2, ![9216, 512]⟩
abbrev S1024x1024 : Shape := ⟨2, ![1024, 1024]⟩
abbrev S9216x1024 : Shape := ⟨2, ![9216, 1024]⟩
abbrev S1536x1024 : Shape := ⟨2, ![1536, 1024]⟩

abbrev nBuf : Space → Nat
  | .hbm => 7
  | .vmem => 6
  | .smem => 0
  | _ => 0

abbrev bufTy : (tb : Table) → Fin (tcTables nBuf tb) → BufTy
  | .hbm, ⟨0, _⟩ => ⟨S9216x256, .bf16⟩
  | .hbm, ⟨1, _⟩ => ⟨S9216x512, .bf16⟩
  | .hbm, ⟨2, _⟩ => ⟨S9216x256, .bf16⟩
  | .hbm, ⟨3, _⟩ => ⟨S1024x1024, .f32⟩
  | .hbm, ⟨4, _⟩ => ⟨S9216x1024, .bf16⟩
  | .hbm, ⟨5, _⟩ => ⟨S9216x1024, .bf16⟩
  | .hbm, ⟨6, _⟩ => ⟨S1024x1024, .bf16⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .bf16⟩
  | .local _ .vmem, ⟨5, _⟩ => ⟨S1024x1024, .f32⟩
  | _, _ => ⟨S9216x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v12 : BitVec 1 := Scalar.cmpi .eq arg2 c5_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S9216x256 : Shape := ⟨2, ![9216, 256]⟩
abbrev S9216x512 : Shape := ⟨2, ![9216, 512]⟩
abbrev S1024x1024 : Shape := ⟨2, ![1024, 1024]⟩
abbrev S9216x1024 : Shape := ⟨2, ![9216, 1024]⟩
abbrev S256x1024 : Shape := ⟨2, ![256, 1024]⟩
abbrev S512x1024 : Shape := ⟨2, ![512, 1024]⟩

abbrev nBuf : Space → Nat
  | .hbm => 18
  | .vmem => 0
  | .smem => 0
  | _ => 0

abbrev bufTy : (tb : Table) → Fin (tcTables nBuf tb) → BufTy
  | .hbm, ⟨0, _⟩ => ⟨S9216x256, .bf16⟩
  | .hbm, ⟨1, _⟩ => ⟨S9216x512, .bf16⟩
  | .hbm, ⟨2, _⟩ => ⟨S9216x256, .bf16⟩
  | .hbm, ⟨3, _⟩ => ⟨S1024x1024, .f32⟩
  | .hbm, ⟨4, _⟩ => ⟨S9216x1024, .bf16⟩
  | .hbm, ⟨5, _⟩ => ⟨S9216x256, .f32⟩
  | .hbm, ⟨6, _⟩ => ⟨S9216x512, .f32⟩
  | .hbm, ⟨7, _⟩ => ⟨S9216x256, .f32⟩
  | .hbm, ⟨8, _⟩ => ⟨S9216x1024, .f32⟩
  | .hbm, ⟨9, _⟩ => ⟨S9216x1024, .f32⟩
  | .hbm, ⟨10, _⟩ => ⟨S9216x1024, .f32⟩
  | .hbm, ⟨11, _⟩ => ⟨S1024x1024, .f32⟩
  | .hbm, ⟨12, _⟩ => ⟨S1024x1024, .f32⟩
  | .hbm, ⟨13, _⟩ => ⟨S256x1024, .f32⟩
  | .hbm, ⟨14, _⟩ => ⟨S512x1024, .f32⟩
  | .hbm, ⟨15, _⟩ => ⟨S256x1024, .f32⟩
  | .hbm, ⟨16, _⟩ => ⟨S1024x1024, .f32⟩
  | .hbm, ⟨17, _⟩ => ⟨S1024x1024, .bf16⟩
  | _, _ => ⟨S9216x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel13.lean ====
abbrev S9216x1024 : Shape := ⟨2, ![9216, 1024]⟩
abbrev S1024x2816 : Shape := ⟨2, ![1024, 2816]⟩
abbrev S9216x2816 : Shape := ⟨2, ![9216, 2816]⟩
abbrev S2816x1024 : Shape := ⟨2, ![2816, 1024]⟩
abbrev S1536x1408 : Shape := ⟨2, ![1536, 1408]⟩
abbrev S1536x1024 : Shape := ⟨2, ![1536, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S1024x2816, .f32⟩
  | .hbm, ⟨2, _⟩ => ⟨S9216x2816, .bf16⟩
  | .hbm, ⟨3, _⟩ => ⟨S2816x1024, .bf16⟩
  | .local _ .vmem, ⟨0, _⟩ => ⟨S1536x1408, .bf16⟩
  | .local _ .vmem, ⟨1, _⟩ => ⟨S1536x1408, .bf16⟩
  | .local _ .vmem, ⟨2, _⟩ => ⟨S1536x1024, .bf16⟩
  | .local _ .vmem, ⟨3, _⟩ => ⟨S1536x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S9216x1024 : Shape := ⟨2, ![9216, 1024]⟩
abbrev S1024x2816 : Shape := ⟨2, ![1024, 2816]⟩
abbrev S9216x2816 : Shape := ⟨2, ![9216, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x2816, .f32⟩
  | .hbm, ⟨2, _⟩ => ⟨S9216x2816, .bf16⟩
  | .hbm, ⟨3, _⟩ => ⟨S9216x1024, .f32⟩
  | .hbm, ⟨4, _⟩ => ⟨S9216x2816, .f32⟩
  | .hbm, ⟨5, _⟩ => ⟨S9216x2816, .f32⟩
  | .hbm, ⟨6, _⟩ => ⟨S2816x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S9216x1280 : Shape := ⟨2, ![9216, 1280]⟩
abbrev S9216x1024 : Shape := ⟨2, ![9216, 1024]⟩
abbrev S9216x512 : Shape := ⟨2, ![9216, 512]⟩
abbrev S32x16 : Shape := ⟨2, ![32, 16]⟩
abbrev S512x512 : Shape := ⟨2, ![512, 512]⟩
abbrev S512 : Shape := ⟨1, ![512]⟩
abbrev S1x512 : Shape := ⟨2, ![1, 512]⟩
abbrev S1024x512 : Shape := ⟨2, ![1024, 512]⟩

abbrev nBuf : Space → Nat
  | .hbm => 19
  | .vmem => 16
  | .smem => 0
  | _ => 0

abbrev bufTy : (tb : Table) → Fin (tcTables nBuf tb) → BufTy
  | .hbm, ⟨0, _⟩ => ⟨S9216x1280, .bf16⟩
  | .hbm, ⟨1, _⟩ => ⟨S9216x1024, .bf16⟩
  | .hbm, ⟨2, _⟩ => ⟨S9216x512, .f32⟩
  | .hbm, ⟨3, _⟩ => ⟨S32x16, .f32⟩
  | .hbm, ⟨4, _⟩ => ⟨S512x512, .f32⟩
  | .hbm, ⟨5, _⟩ => ⟨S512, .f32⟩
  | .hbm, ⟨6, _⟩ => ⟨S1x512, .f32⟩
  | .hbm, ⟨7, _⟩ => ⟨S9216x1280, .f32⟩
  | .hbm, ⟨8, _⟩ => ⟨S9216x512, .f32⟩
  | .hbm, ⟨9, _⟩ => ⟨S9216x512, .f32⟩
  | .hbm, ⟨10, _⟩ => ⟨S9216x512, .f32⟩
  | .hbm, ⟨11, _⟩ => ⟨S9216x512, .f32⟩
  | .hbm, ⟨12, _⟩ => ⟨S512x512, .bf16⟩
  | .hbm, ⟨13, _⟩ => ⟨S1x512, .f32⟩
  | .hbm, ⟨14, _⟩ => ⟨S9216x512, .bf16⟩
  | .hbm, ⟨15, _⟩ => ⟨S9216x512, .f32⟩
  | .hbm, ⟨16, _⟩ => ⟨S512x512, .f32⟩
  | .hbm, ⟨17, _⟩ => ⟨S1x512, .f32⟩
  | .hbm, ⟨18, _⟩ => ⟨S1x512, .f32⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | .local _ .vmem, ⟨6, _⟩ => ⟨S1x512, .f32⟩
  | .local _ .vmem, ⟨7, _⟩ => ⟨S512x512, .bf16⟩
  | .local _ .vmem, ⟨8, _⟩ => ⟨S1x512, .f32⟩
  | .local _ .vmem, ⟨9, _⟩ => ⟨S1024x512, .bf16⟩
  | .local _ .vmem, ⟨10, _⟩ => ⟨S1024x512, .bf16⟩
  | .local _ .vmem, ⟨11, _⟩ => ⟨S1024x512, .f32⟩
  | .local _ .vmem, ⟨12, _⟩ => ⟨S1024x512, .f32⟩
  | .local _ .vmem, ⟨13, _⟩ => ⟨S512x512, .f32⟩
  | .local _ .vmem, ⟨14, _⟩ => ⟨S1x512, .f32⟩
  | .local _ .vmem, ⟨15, _⟩ => ⟨S1x512, .f32⟩
  | _, _ => ⟨S9216x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Kernel14Ideal.lean ====
variable {F : FTy → Type} [FloatOps F] [Named F]
def κ : String → Option EReal := fun
  | "gelu" => some ((8943 / 200000 : ℝ) : EReal)
  | "gelu3" => some ((26829 / 200000 : ℝ) : EReal)
  | _ => none
-- ==== Reference14Ideal.lean ====
abbrev S9216x1280 : Shape := ⟨2, ![9216, 1280]⟩
abbrev S9216x1024 : Shape := ⟨2, ![9216, 1024]⟩
abbrev S9216x512 : Shape := ⟨2, ![9216, 512]⟩
abbrev S32x16 : Shape := ⟨2, ![32, 16]⟩
abbrev S512x512 : Shape := ⟨2, ![512, 512]⟩
abbrev S512 : Shape := ⟨1, ![512]⟩
abbrev S1x512 : Shape := ⟨2, ![1, 512]⟩

abbrev nBuf : Space → Nat
  | .hbm => 15
  | .vmem => 11
  | .smem => 0
  | _ => 0

abbrev bufTy : (tb : Table) → Fin (tcTables nBuf tb) → BufTy
  | .hbm, ⟨0, _⟩ => ⟨S9216x1280, .bf16⟩
  | .hbm, ⟨1, _⟩ => ⟨S9216x1024, .bf16⟩
  | .hbm, ⟨2, _⟩ => ⟨S9216x512, .f32⟩
  | .hbm, ⟨3, _⟩ => ⟨S32x16, .f32⟩
  | .hbm, ⟨4, _⟩ => ⟨S512x512, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S9216x512, .bf16⟩
  | .hbm, ⟨11, _⟩ => ⟨S9216x512, .f32⟩
  | .hbm, ⟨12, _⟩ => ⟨S512x512, .f32⟩
  | .hbm, ⟨13, _⟩ => ⟨S1x512, .f32⟩
  | .hbm, ⟨14, _⟩ => ⟨S1x512, .f32⟩
  | .local _ .vmem, ⟨0, _⟩ => ⟨S9216x1280, .bf16⟩
  | .local _ .vmem, ⟨1, _⟩ => ⟨S9216x1024, .bf16⟩
  | .local _ .vmem, ⟨2, _⟩ => ⟨S9216x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S9216x512, .bf16⟩
  | .local _ .vmem, ⟨7, _⟩ => ⟨S9216x512, .f32⟩
  | .local _ .vmem, ⟨8, _⟩ => ⟨S512x512, .f32⟩
  | .local _ .vmem, ⟨9, _⟩ => ⟨S1x512, .f32⟩
  | .local _ .vmem, ⟨10, _⟩ => ⟨S1x512, .f32⟩
  | _, _ => ⟨S9216x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "gelu" => some ((8943 / 200000 : ℝ) : EReal)
  | _ => none

abbrev grid0 : Pipeline.Grid := .none

abbrev stage0_0 : Fin 1 → Memref sig .tc .vmem S9216x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9216x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9216x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Kernel15.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel15Ideal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== Reference15Ideal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2x1024x704 : Shape := ⟨3, ![2, 1024, 704]⟩
abbrev S2048x704 : Shape := ⟨2, ![2048, 704]⟩
abbrev S512x704 : Shape := ⟨2, ![512, 704]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .hbm, ⟨10, _⟩ => ⟨S2048x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel16Ideal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== Reference16Ideal.lean ====
abbrev S2x1024x704 : Shape := ⟨3, ![2, 1024, 704]⟩
abbrev S_ : Shape := ⟨0, ![]⟩
abbrev S2048x704 : Shape := ⟨2, ![2048, 704]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S_, .f32⟩
  | .hbm, ⟨5, _⟩ => ⟨S2x1024x704, .f32⟩
  | .hbm, ⟨6, _⟩ => ⟨S2x1024x704, .f32⟩
  | .hbm, ⟨7, _⟩ => ⟨S_, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .hbm, ⟨11, _⟩ => ⟨S_, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | .hbm, ⟨37, _⟩ => ⟨S2048x704, .f32⟩
  | .hbm, ⟨38, _⟩ => ⟨S2048x704, .f32⟩
  | .hbm, ⟨39, _⟩ => ⟨S2048x704, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel17.lean ====
abbrev S2x704x1024 : Shape := ⟨3, ![2, 704, 1024]⟩
abbrev S1408x1024 : Shape := ⟨2, ![1408, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel17Ideal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== Reference17Ideal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel18.lean ====
abbrev S2x1024x320 : Shape := ⟨3, ![2, 1024, 320]⟩

abbrev nBuf : Space → Nat
  | .hbm => 7
  | .vmem => 7
  | .smem => 0
  | _ => 0

abbrev bufTy : (tb : Table) → Fin (tcTables nBuf tb) → BufTy
  | .hbm, ⟨0, _⟩ => ⟨S2x1024x320, .f32⟩
  | .hbm, ⟨1, _⟩ => ⟨S2x1024x320, .f32⟩
  | .hbm, ⟨2, _⟩ => ⟨S2x1024x320, .f32⟩
  | .hbm, ⟨3, _⟩ => ⟨S2x1024x320, .f32⟩
  | .hbm, ⟨4, _⟩ => ⟨S2x1024x320, .f32⟩
  | .hbm, ⟨5, _⟩ => ⟨S2x1024x320, .f32⟩
  | .hbm, ⟨6, _⟩ => ⟨S2x1024x320, .f32⟩
  | .local _ .vmem, ⟨0, _⟩ => ⟨S2x1024x320, .f32⟩
  | .local _ .vmem, ⟨1, _⟩ => ⟨S2x1024x320, .f32⟩
  | .local _ .vmem, ⟨2, _⟩ => ⟨S2x1024x320, .f32⟩
  | .local _ .vmem, ⟨3, _⟩ => ⟨S2x1024x320, .f32⟩
  | .local _ .vmem, ⟨4, _⟩ => ⟨S2x1024x320, .f32⟩
  | .local _ .vmem, ⟨5, _⟩ => ⟨S2x1024x320, .f32⟩
  | .local _ .vmem, ⟨6, _⟩ => ⟨S2x1024x320, .f32⟩
  | _, _ => ⟨S2x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x1024x320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x320 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel18Ideal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== Reference18Ideal.lean ====
abbrev S2x1024x320 : Shape := ⟨3, ![2, 1024, 320]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x320, .f32⟩
  | .hbm, ⟨1, _⟩ => ⟨S2x1024x320, .f32⟩
  | .hbm, ⟨2, _⟩ => ⟨S2x1024x320, .f32⟩
  | .hbm, ⟨3, _⟩ => ⟨S2x1024x320, .f32⟩
  | .hbm, ⟨4, _⟩ => ⟨S_, .f32⟩
  | .hbm, ⟨5, _⟩ => ⟨S2x1024x320, .f32⟩
  | .hbm, ⟨6, _⟩ => ⟨S2x1024x320, .f32⟩
  | .hbm, ⟨7, _⟩ => ⟨S_, .f32⟩
  | .hbm, ⟨8, _⟩ => ⟨S2x1024x320, .f32⟩
  | .hbm, ⟨9, _⟩ => ⟨S2x1024x320, .f32⟩
  | .hbm, ⟨10, _⟩ => ⟨S2x1024x320, .f32⟩
  | .hbm, ⟨11, _⟩ => ⟨S_, .f32⟩
  | .hbm, ⟨12, _⟩ => ⟨S2x1024x320, .f32⟩
  | .hbm, ⟨13, _⟩ => ⟨S2x1024x320, .f32⟩
  | .hbm, ⟨14, _⟩ => ⟨S2x1024x320, .f32⟩
  | .hbm, ⟨15, _⟩ => ⟨S_, .f32⟩
  | .hbm, ⟨16, _⟩ => ⟨S2x1024x320, .f32⟩
  | .hbm, ⟨17, _⟩ => ⟨S2x1024x320, .f32⟩
  | .hbm, ⟨18, _⟩ => ⟨S2x1024x320, .f32⟩
  | .hbm, ⟨19, _⟩ => ⟨S_, .f32⟩
  | .hbm, ⟨20, _⟩ => ⟨S2x1024x320, .f32⟩
  | .hbm, ⟨21, _⟩ => ⟨S2x1024x320, .f32⟩
  | .hbm, ⟨22, _⟩ => ⟨S_, .f32⟩
  | .hbm, ⟨23, _⟩ => ⟨S2x1024x320, .f32⟩
  | .hbm, ⟨24, _⟩ => ⟨S2x1024x320, .f32⟩
  | .hbm, ⟨25, _⟩ => ⟨S2x1024x320, .f32⟩
  | .hbm, ⟨26, _⟩ => ⟨S_, .f32⟩
  | .hbm, ⟨27, _⟩ => ⟨S2x1024x320, .f32⟩
  | .hbm, ⟨28, _⟩ => ⟨S2x1024x320, .f32⟩
  | .hbm, ⟨29, _⟩ => ⟨S2x1024x320, .f32⟩
  | .hbm, ⟨30, _⟩ => ⟨S_, .f32⟩
  | .hbm, ⟨31, _⟩ => ⟨S2x1024x320, .f32⟩
  | .hbm, ⟨32, _⟩ => ⟨S2x1024x320, .f32⟩
  | .hbm, ⟨33, _⟩ => ⟨S2x1024x320, .f32⟩
  | .hbm, ⟨34, _⟩ => ⟨S_, .f32⟩
  | .hbm, ⟨35, _⟩ => ⟨S2x1024x320, .f32⟩
  | .hbm, ⟨36, _⟩ => ⟨S2x1024x320, .f32⟩
  | _, _ => ⟨S2x1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2x256x1024 : Shape := ⟨3, ![2, 256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x256x1024, .f32⟩
  | .local _ .vmem, ⟨3, _⟩ => ⟨S2x256x1024, .f32⟩
  | .local _ .vmem, ⟨4, _⟩ => ⟨S2x256x1024, .f32⟩
  | .local _ .vmem, ⟨5, _⟩ => ⟨S2x256x1024, .f32⟩
  | .local _ .vmem, ⟨6, _⟩ => ⟨S2x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel19Ideal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== Reference19Ideal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S2x1024x1536 : Shape := ⟨3, ![2, 1024, 1536]⟩
abbrev S2048x1536 : Shape := ⟨2, ![2048, 1536]⟩
abbrev S256x1536 : Shape := ⟨2, ![256, 1536]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel20Ideal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== Reference20Ideal.lean ====
abbrev S2x1024x1536 : Shape := ⟨3, ![2, 1024, 1536]⟩
abbrev S_ : Shape := ⟨0, ![]⟩
abbrev S2048x1536 : Shape := ⟨2, ![2048, 1536]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S_, .f32⟩
  | .hbm, ⟨5, _⟩ => ⟨S2x1024x1536, .f32⟩
  | .hbm, ⟨6, _⟩ => ⟨S2x1024x1536, .f32⟩
  | .hbm, ⟨7, _⟩ => ⟨S_, .f32⟩
  | .hbm, ⟨8, _⟩ => ⟨S2x1024x1536, .f32⟩
  | .hbm, ⟨9, _⟩ => ⟨S2x1024x1536, .f32⟩
  | .hbm, ⟨10, _⟩ => ⟨S2x1024x1536, .f32⟩
  | .hbm, ⟨11, _⟩ => ⟨S_, .f32⟩
  | .hbm, ⟨12, _⟩ => ⟨S2x1024x1536, .f32⟩
  | .hbm, ⟨13, _⟩ => ⟨S2x1024x1536, .f32⟩
  | .hbm, ⟨14, _⟩ => ⟨S2x1024x1536, .f32⟩
  | .hbm, ⟨15, _⟩ => ⟨S_, .f32⟩
  | .hbm, ⟨16, _⟩ => ⟨S2x1024x1536, .f32⟩
  | .hbm, ⟨17, _⟩ => ⟨S2x1024x1536, .f32⟩
  | .hbm, ⟨18, _⟩ => ⟨S2x1024x1536, .f32⟩
  | .hbm, ⟨19, _⟩ => ⟨S_, .f32⟩
  | .hbm, ⟨20, _⟩ => ⟨S2x1024x1536, .f32⟩
  | .hbm, ⟨21, _⟩ => ⟨S2x1024x1536, .f32⟩
  | .hbm, ⟨22, _⟩ => ⟨S_, .f32⟩
  | .hbm, ⟨23, _⟩ => ⟨S2x1024x1536, .f32⟩
  | .hbm, ⟨24, _⟩ => ⟨S2x1024x1536, .f32⟩
  | .hbm, ⟨25, _⟩ => ⟨S2x1024x1536, .f32⟩
  | .hbm, ⟨26, _⟩ => ⟨S_, .f32⟩
  | .hbm, ⟨27, _⟩ => ⟨S2x1024x1536, .f32⟩
  | .hbm, ⟨28, _⟩ => ⟨S2x1024x1536, .f32⟩
  | .hbm, ⟨29, _⟩ => ⟨S2x1024x1536, .f32⟩
  | .hbm, ⟨30, _⟩ => ⟨S_, .f32⟩
  | .hbm, ⟨31, _⟩ => ⟨S2x1024x1536, .f32⟩
  | .hbm, ⟨32, _⟩ => ⟨S2x1024x1536, .f32⟩
  | .hbm, ⟨33, _⟩ => ⟨S2x1024x1536, .f32⟩
  | .hbm, ⟨34, _⟩ => ⟨S_, .f32⟩
  | .hbm, ⟨35, _⟩ => ⟨S2x1024x1536, .f32⟩
  | .hbm, ⟨36, _⟩ => ⟨S2x1024x1536, .f32⟩
  | .hbm, ⟨37, _⟩ => ⟨S2048x1536, .f32⟩
  | .hbm, ⟨38, _⟩ => ⟨S2048x1536, .f32⟩
  | .hbm, ⟨39, _⟩ => ⟨S2048x1536, .f32⟩
  | _, _ => ⟨S2x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel21.lean ====
abbrev S2x6144 : Shape := ⟨2, ![2, 6144]⟩

abbrev nBuf : Space → Nat
  | .hbm => 7
  | .vmem => 7
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x6144, .f32⟩
  | .hbm, ⟨5, _⟩ => ⟨S2x6144, .f32⟩
  | .hbm, ⟨6, _⟩ => ⟨S2x6144, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | .local _ .vmem, ⟨3, _⟩ => ⟨S2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel21Ideal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== Reference21Ideal.lean ====
abbrev S2x6144 : Shape := ⟨2, ![2, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S_, .f32⟩
  | .hbm, ⟨5, _⟩ => ⟨S2x6144, .f32⟩
  | .hbm, ⟨6, _⟩ => ⟨S2x6144, .f32⟩
  | .hbm, ⟨7, _⟩ => ⟨S_, .f32⟩
  | .hbm, ⟨8, _⟩ => ⟨S2x6144, .f32⟩
  | .hbm, ⟨9, _⟩ => ⟨S2x6144, .f32⟩
  | .hbm, ⟨10, _⟩ => ⟨S2x6144, .f32⟩
  | .hbm, ⟨11, _⟩ => ⟨S_, .f32⟩
  | .hbm, ⟨12, _⟩ => ⟨S2x6144, .f32⟩
  | .hbm, ⟨13, _⟩ => ⟨S2x6144, .f32⟩
  | .hbm, ⟨14, _⟩ => ⟨S2x6144, .f32⟩
  | .hbm, ⟨15, _⟩ => ⟨S_, .f32⟩
  | .hbm, ⟨16, _⟩ => ⟨S2x6144, .f32⟩
  | .hbm, ⟨17, _⟩ => ⟨S2x6144, .f32⟩
  | .hbm, ⟨18, _⟩ => ⟨S2x6144, .f32⟩
  | .hbm, ⟨19, _⟩ => ⟨S_, .f32⟩
  | .hbm, ⟨20, _⟩ => ⟨S2x6144, .f32⟩
  | .hbm, ⟨21, _⟩ => ⟨S2x6144, .f32⟩
  | .hbm, ⟨22, _⟩ => ⟨S_, .f32⟩
  | .hbm, ⟨23, _⟩ => ⟨S2x6144, .f32⟩
  | .hbm, ⟨24, _⟩ => ⟨S2x6144, .f32⟩
  | .hbm, ⟨25, _⟩ => ⟨S2x6144, .f32⟩
  | .hbm, ⟨26, _⟩ => ⟨S_, .f32⟩
  | .hbm, ⟨27, _⟩ => ⟨S2x6144, .f32⟩
  | .hbm, ⟨28, _⟩ => ⟨S2x6144, .f32⟩
  | .hbm, ⟨29, _⟩ => ⟨S2x6144, .f32⟩
  | .hbm, ⟨30, _⟩ => ⟨S_, .f32⟩
  | .hbm, ⟨31, _⟩ => ⟨S2x6144, .f32⟩
  | .hbm, ⟨32, _⟩ => ⟨S2x6144, .f32⟩
  | .hbm, ⟨33, _⟩ => ⟨S2x6144, .f32⟩
  | .hbm, ⟨34, _⟩ => ⟨S_, .f32⟩
  | .hbm, ⟨35, _⟩ => ⟨S2x6144, .f32⟩
  | .hbm, ⟨36, _⟩ => ⟨S2x6144, .f32⟩
  | _, _ => ⟨S2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2x4x128x128 : Shape := ⟨4, ![2, 4, 128, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x4x128x128, .f32⟩
  | .hbm, ⟨1, _⟩ => ⟨S2x4x128x128, .f32⟩
  | .hbm, ⟨2, _⟩ => ⟨S2x4x128x128, .f32⟩
  | .hbm, ⟨3, _⟩ => ⟨S2x4x128x128, .f32⟩
  | .hbm, ⟨4, _⟩ => ⟨S2x4x128x128, .f32⟩
  | .hbm, ⟨5, _⟩ => ⟨S2x4x128x128, .f32⟩
  | .hbm, ⟨6, _⟩ => ⟨S2x4x128x128, .f32⟩
  | .local _ .vmem, ⟨0, _⟩ => ⟨S2x4x128x128, .f32⟩
  | .local _ .vmem, ⟨1, _⟩ => ⟨S2x4x128x128, .f32⟩
  | .local _ .vmem, ⟨2, _⟩ => ⟨S2x4x128x128, .f32⟩
  | .local _ .vmem, ⟨3, _⟩ => ⟨S2x4x128x128, .f32⟩
  | .local _ .vmem, ⟨4, _⟩ => ⟨S2x4x128x128, .f32⟩
  | .local _ .vmem, ⟨5, _⟩ => ⟨S2x4x128x128, .f32⟩
  | .local _ .vmem, ⟨6, _⟩ => ⟨S2x4x128x128, .f32⟩
  | _, _ => ⟨S2x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x4x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel22Ideal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== Reference22Ideal.lean ====
abbrev S2x4x128x128 : Shape := ⟨4, ![2, 4, 128, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x4x128x128, .f32⟩
  | .hbm, ⟨1, _⟩ => ⟨S2x4x128x128, .f32⟩
  | .hbm, ⟨2, _⟩ => ⟨S2x4x128x128, .f32⟩
  | .hbm, ⟨3, _⟩ => ⟨S2x4x128x128, .f32⟩
  | .hbm, ⟨4, _⟩ => ⟨S_, .f32⟩
  | .hbm, ⟨5, _⟩ => ⟨S2x4x128x128, .f32⟩
  | .hbm, ⟨6, _⟩ => ⟨S2x4x128x128, .f32⟩
  | .hbm, ⟨7, _⟩ => ⟨S_, .f32⟩
  | .hbm, ⟨8, _⟩ => ⟨S2x4x128x128, .f32⟩
  | .hbm, ⟨9, _⟩ => ⟨S2x4x128x128, .f32⟩
  | .hbm, ⟨10, _⟩ => ⟨S2x4x128x128, .f32⟩
  | .hbm, ⟨11, _⟩ => ⟨S_, .f32⟩
  | .hbm, ⟨12, _⟩ => ⟨S2x4x128x128, .f32⟩
  | .hbm, ⟨13, _⟩ => ⟨S2x4x128x128, .f32⟩
  | .hbm, ⟨14, _⟩ => ⟨S2x4x128x128, .f32⟩
  | .hbm, ⟨15, _⟩ => ⟨S_, .f32⟩
  | .hbm, ⟨16, _⟩ => ⟨S2x4x128x128, .f32⟩
  | .hbm, ⟨17, _⟩ => ⟨S2x4x128x128, .f32⟩
  | .hbm, ⟨18, _⟩ => ⟨S2x4x128x128, .f32⟩
  | .hbm, ⟨19, _⟩ => ⟨S_, .f32⟩
  | .hbm, ⟨20, _⟩ => ⟨S2x4x128x128, .f32⟩
  | .hbm, ⟨21, _⟩ => ⟨S2x4x128x128, .f32⟩
  | .hbm, ⟨22, _⟩ => ⟨S_, .f32⟩
  | .hbm, ⟨23, _⟩ => ⟨S2x4x128x128, .f32⟩
  | .hbm, ⟨24, _⟩ => ⟨S2x4x128x128, .f32⟩
  | .hbm, ⟨25, _⟩ => ⟨S2x4x128x128, .f32⟩
  | .hbm, ⟨26, _⟩ => ⟨S_, .f32⟩
  | .hbm, ⟨27, _⟩ => ⟨S2x4x128x128, .f32⟩
  | .hbm, ⟨28, _⟩ => ⟨S2x4x128x128, .f32⟩
  | .hbm, ⟨29, _⟩ => ⟨S2x4x128x128, .f32⟩
  | .hbm, ⟨30, _⟩ => ⟨S_, .f32⟩
  | .hbm, ⟨31, _⟩ => ⟨S2x4x128x128, .f32⟩
  | .hbm, ⟨32, _⟩ => ⟨S2x4x128x128, .f32⟩
  | .hbm, ⟨33, _⟩ => ⟨S2x4x128x128, .f32⟩
  | .hbm, ⟨34, _⟩ => ⟨S_, .f32⟩
  | .hbm, ⟨35, _⟩ => ⟨S2x4x128x128, .f32⟩
  | .hbm, ⟨36, _⟩ => ⟨S2x4x128x128, .f32⟩
  | _, _ => ⟨S2x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2x4x128 : Shape := ⟨3, ![2, 4, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x4x128, .f32⟩
  | .hbm, ⟨1, _⟩ => ⟨S2x4x128, .f32⟩
  | .hbm, ⟨2, _⟩ => ⟨S2x4x128, .f32⟩
  | .hbm, ⟨3, _⟩ => ⟨S2x4x128, .f32⟩
  | .hbm, ⟨4, _⟩ => ⟨S2x4x128, .f32⟩
  | .hbm, ⟨5, _⟩ => ⟨S2x4x128, .f32⟩
  | .hbm, ⟨6, _⟩ => ⟨S2x4x128, .f32⟩
  | .local _ .vmem, ⟨0, _⟩ => ⟨S2x4x128, .f32⟩
  | .local _ .vmem, ⟨1, _⟩ => ⟨S2x4x128, .f32⟩
  | .local _ .vmem, ⟨2, _⟩ => ⟨S2x4x128, .f32⟩
  | .local _ .vmem, ⟨3, _⟩ => ⟨S2x4x128, .f32⟩
  | .local _ .vmem, ⟨4, _⟩ => ⟨S2x4x128, .f32⟩
  | .local _ .vmem, ⟨5, _⟩ => ⟨S2x4x128, .f32⟩
  | .local _ .vmem, ⟨6, _⟩ => ⟨S2x4x128, .f32⟩
  | _, _ => ⟨S2x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel23Ideal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== Reference23Ideal.lean ====
abbrev S2x4x128 : Shape := ⟨3, ![2, 4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x4x128, .f32⟩
  | .hbm, ⟨1, _⟩ => ⟨S2x4x128, .f32⟩
  | .hbm, ⟨2, _⟩ => ⟨S2x4x128, .f32⟩
  | .hbm, ⟨3, _⟩ => ⟨S2x4x128, .f32⟩
  | .hbm, ⟨4, _⟩ => ⟨S_, .f32⟩
  | .hbm, ⟨5, _⟩ => ⟨S2x4x128, .f32⟩
  | .hbm, ⟨6, _⟩ => ⟨S2x4x128, .f32⟩
  | .hbm, ⟨7, _⟩ => ⟨S_, .f32⟩
  | .hbm, ⟨8, _⟩ => ⟨S2x4x128, .f32⟩
  | .hbm, ⟨9, _⟩ => ⟨S2x4x128, .f32⟩
  | .hbm, ⟨10, _⟩ => ⟨S2x4x128, .f32⟩
  | .hbm, ⟨11, _⟩ => ⟨S_, .f32⟩
  | .hbm, ⟨12, _⟩ => ⟨S2x4x128, .f32⟩
  | .hbm, ⟨13, _⟩ => ⟨S2x4x128, .f32⟩
  | .hbm, ⟨14, _⟩ => ⟨S2x4x128, .f32⟩
  | .hbm, ⟨15, _⟩ => ⟨S_, .f32⟩
  | .hbm, ⟨16, _⟩ => ⟨S2x4x128, .f32⟩
  | .hbm, ⟨17, _⟩ => ⟨S2x4x128, .f32⟩
  | .hbm, ⟨18, _⟩ => ⟨S2x4x128, .f32⟩
  | .hbm, ⟨19, _⟩ => ⟨S_, .f32⟩
  | .hbm, ⟨20, _⟩ => ⟨S2x4x128, .f32⟩
  | .hbm, ⟨21, _⟩ => ⟨S2x4x128, .f32⟩
  | .hbm, ⟨22, _⟩ => ⟨S_, .f32⟩
  | .hbm, ⟨23, _⟩ => ⟨S2x4x128, .f32⟩
  | .hbm, ⟨24, _⟩ => ⟨S2x4x128, .f32⟩
  | .hbm, ⟨25, _⟩ => ⟨S2x4x128, .f32⟩
  | .hbm, ⟨26, _⟩ => ⟨S_, .f32⟩
  | .hbm, ⟨27, _⟩ => ⟨S2x4x128, .f32⟩
  | .hbm, ⟨28, _⟩ => ⟨S2x4x128, .f32⟩
  | .hbm, ⟨29, _⟩ => ⟨S2x4x128, .f32⟩
  | .hbm, ⟨30, _⟩ => ⟨S_, .f32⟩
  | .hbm, ⟨31, _⟩ => ⟨S2x4x128, .f32⟩
  | .hbm, ⟨32, _⟩ => ⟨S2x4x128, .f32⟩
  | .hbm, ⟨33, _⟩ => ⟨S2x4x128, .f32⟩
  | .hbm, ⟨34, _⟩ => ⟨S_, .f32⟩
  | .hbm, ⟨35, _⟩ => ⟨S2x4x128, .f32⟩
  | .hbm, ⟨36, _⟩ => ⟨S2x4x128, .f32⟩
  | _, _ => ⟨S2x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S2x2x32x64 : Shape := ⟨4, ![2, 2, 32, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x2x32x64, .f32⟩
  | .hbm, ⟨1, _⟩ => ⟨S2x2x32x64, .f32⟩
  | .hbm, ⟨2, _⟩ => ⟨S2x2x32x64, .f32⟩
  | .hbm, ⟨3, _⟩ => ⟨S2x2x32x64, .f32⟩
  | .hbm, ⟨4, _⟩ => ⟨S2x2x32x64, .f32⟩
  | .hbm, ⟨5, _⟩ => ⟨S2x2x32x64, .f32⟩
  | .hbm, ⟨6, _⟩ => ⟨S2x2x32x64, .f32⟩
  | .local _ .vmem, ⟨0, _⟩ => ⟨S2x2x32x64, .f32⟩
  | .local _ .vmem, ⟨1, _⟩ => ⟨S2x2x32x64, .f32⟩
  | .local _ .vmem, ⟨2, _⟩ => ⟨S2x2x32x64, .f32⟩
  | .local _ .vmem, ⟨3, _⟩ => ⟨S2x2x32x64, .f32⟩
  | .local _ .vmem, ⟨4, _⟩ => ⟨S2x2x32x64, .f32⟩
  | .local _ .vmem, ⟨5, _⟩ => ⟨S2x2x32x64, .f32⟩
  | .local _ .vmem, ⟨6, _⟩ => ⟨S2x2x32x64, .f32⟩
  | _, _ => ⟨S2x2x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x2x32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2x32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2x32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2x32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2x32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x2x32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel24Ideal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== Reference24Ideal.lean ====
abbrev S2x2x32x64 : Shape := ⟨4, ![2, 2, 32, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2x32x64, .f32⟩
  | .hbm, ⟨1, _⟩ => ⟨S2x2x32x64, .f32⟩
  | .hbm, ⟨2, _⟩ => ⟨S2x2x32x64, .f32⟩
  | .hbm, ⟨3, _⟩ => ⟨S2x2x32x64, .f32⟩
  | .hbm, ⟨4, _⟩ => ⟨S_, .f32⟩
  | .hbm, ⟨5, _⟩ => ⟨S2x2x32x64, .f32⟩
  | .hbm, ⟨6, _⟩ => ⟨S2x2x32x64, .f32⟩
  | .hbm, ⟨7, _⟩ => ⟨S_, .f32⟩
  | .hbm, ⟨8, _⟩ => ⟨S2x2x32x64, .f32⟩
  | .hbm, ⟨9, _⟩ => ⟨S2x2x32x64, .f32⟩
  | .hbm, ⟨10, _⟩ => ⟨S2x2x32x64, .f32⟩
  | .hbm, ⟨11, _⟩ => ⟨S_, .f32⟩
  | .hbm, ⟨12, _⟩ => ⟨S2x2x32x64, .f32⟩
  | .hbm, ⟨13, _⟩ => ⟨S2x2x32x64, .f32⟩
  | .hbm, ⟨14, _⟩ => ⟨S2x2x32x64, .f32⟩
  | .hbm, ⟨15, _⟩ => ⟨S_, .f32⟩
  | .hbm, ⟨16, _⟩ => ⟨S2x2x32x64, .f32⟩
  | .hbm, ⟨17, _⟩ => ⟨S2x2x32x64, .f32⟩
  | .hbm, ⟨18, _⟩ => ⟨S2x2x32x64, .f32⟩
  | .hbm, ⟨19, _⟩ => ⟨S_, .f32⟩
  | .hbm, ⟨20, _⟩ => ⟨S2x2x32x64, .f32⟩
  | .hbm, ⟨21, _⟩ => ⟨S2x2x32x64, .f32⟩
  | .hbm, ⟨22, _⟩ => ⟨S_, .f32⟩
  | .hbm, ⟨23, _⟩ => ⟨S2x2x32x64, .f32⟩
  | .hbm, ⟨24, _⟩ => ⟨S2x2x32x64, .f32⟩
  | .hbm, ⟨25, _⟩ => ⟨S2x2x32x64, .f32⟩
  | .hbm, ⟨26, _⟩ => ⟨S_, .f32⟩
  | .hbm, ⟨27, _⟩ => ⟨S2x2x32x64, .f32⟩
  | .hbm, ⟨28, _⟩ => ⟨S2x2x32x64, .f32⟩
  | .hbm, ⟨29, _⟩ => ⟨S2x2x32x64, .f32⟩
  | .hbm, ⟨30, _⟩ => ⟨S_, .f32⟩
  | .hbm, ⟨31, _⟩ => ⟨S2x2x32x64, .f32⟩
  | .hbm, ⟨32, _⟩ => ⟨S2x2x32x64, .f32⟩
  | .hbm, ⟨33, _⟩ => ⟨S2x2x32x64, .f32⟩
  | .hbm, ⟨34, _⟩ => ⟨S_, .f32⟩
  | .hbm, ⟨35, _⟩ => ⟨S2x2x32x64, .f32⟩
  | .hbm, ⟨36, _⟩ => ⟨S2x2x32x64, .f32⟩
  | _, _ => ⟨S2x2x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S2x2x32 : Shape := ⟨3, ![2, 2, 32]⟩

abbrev nBuf : Space → Nat
  | .hbm => 7
  | .vmem => 7
  | .smem => 0
  | _ => 0

abbrev bufTy : (tb : Table) → Fin (tcTables nBuf tb) → BufTy
  | .hbm, ⟨0, _⟩ => ⟨S2x2x32, .f32⟩
  | .hbm, ⟨1, _⟩ => ⟨S2x2x32, .f32⟩
  | .hbm, ⟨2, _⟩ => ⟨S2x2x32, .f32⟩
  | .hbm, ⟨3, _⟩ => ⟨S2x2x32, .f32⟩
  | .hbm, ⟨4, _⟩ => ⟨S2x2x32, .f32⟩
  | .hbm, ⟨5, _⟩ => ⟨S2x2x32, .f32⟩
  | .hbm, ⟨6, _⟩ => ⟨S2x2x32, .f32⟩
  | .local _ .vmem, ⟨0, _⟩ => ⟨S2x2x32, .f32⟩
  | .local _ .vmem, ⟨1, _⟩ => ⟨S2x2x32, .f32⟩
  | .local _ .vmem, ⟨2, _⟩ => ⟨S2x2x32, .f32⟩
  | .local _ .vmem, ⟨3, _⟩ => ⟨S2x2x32, .f32⟩
  | .local _ .vmem, ⟨4, _⟩ => ⟨S2x2x32, .f32⟩
  | .local _ .vmem, ⟨5, _⟩ => ⟨S2x2x32, .f32⟩
  | .local _ .vmem, ⟨6, _⟩ => ⟨S2x2x32, .f32⟩
  | _, _ => ⟨S2x2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x2x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel25Ideal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== Reference25Ideal.lean ====
abbrev S2x2x32 : Shape := ⟨3, ![2, 2, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2x32, .f32⟩
  | .hbm, ⟨1, _⟩ => ⟨S2x2x32, .f32⟩
  | .hbm, ⟨2, _⟩ => ⟨S2x2x32, .f32⟩
  | .hbm, ⟨3, _⟩ => ⟨S2x2x32, .f32⟩
  | .hbm, ⟨4, _⟩ => ⟨S_, .f32⟩
  | .hbm, ⟨5, _⟩ => ⟨S2x2x32, .f32⟩
  | .hbm, ⟨6, _⟩ => ⟨S2x2x32, .f32⟩
  | .hbm, ⟨7, _⟩ => ⟨S_, .f32⟩
  | .hbm, ⟨8, _⟩ => ⟨S2x2x32, .f32⟩
  | .hbm, ⟨9, _⟩ => ⟨S2x2x32, .f32⟩
  | .hbm, ⟨10, _⟩ => ⟨S2x2x32, .f32⟩
  | .hbm, ⟨11, _⟩ => ⟨S_, .f32⟩
  | .hbm, ⟨12, _⟩ => ⟨S2x2x32, .f32⟩
  | .hbm, ⟨13, _⟩ => ⟨S2x2x32, .f32⟩
  | .hbm, ⟨14, _⟩ => ⟨S2x2x32, .f32⟩
  | .hbm, ⟨15, _⟩ => ⟨S_, .f32⟩
  | .hbm, ⟨16, _⟩ => ⟨S2x2x32, .f32⟩
  | .hbm, ⟨17, _⟩ => ⟨S2x2x32, .f32⟩
  | .hbm, ⟨18, _⟩ => ⟨S2x2x32, .f32⟩
  | .hbm, ⟨19, _⟩ => ⟨S_, .f32⟩
  | .hbm, ⟨20, _⟩ => ⟨S2x2x32, .f32⟩
  | .hbm, ⟨21, _⟩ => ⟨S2x2x32, .f32⟩
  | .hbm, ⟨22, _⟩ => ⟨S_, .f32⟩
  | .hbm, ⟨23, _⟩ => ⟨S2x2x32, .f32⟩
  | .hbm, ⟨24, _⟩ => ⟨S2x2x32, .f32⟩
  | .hbm, ⟨25, _⟩ => ⟨S2x2x32, .f32⟩
  | .hbm, ⟨26, _⟩ => ⟨S_, .f32⟩
  | .hbm, ⟨27, _⟩ => ⟨S2x2x32, .f32⟩
  | .hbm, ⟨28, _⟩ => ⟨S2x2x32, .f32⟩
  | .hbm, ⟨29, _⟩ => ⟨S2x2x32, .f32⟩
  | .hbm, ⟨30, _⟩ => ⟨S_, .f32⟩
  | .hbm, ⟨31, _⟩ => ⟨S2x2x32, .f32⟩
  | .hbm, ⟨32, _⟩ => ⟨S2x2x32, .f32⟩
  | .hbm, ⟨33, _⟩ => ⟨S2x2x32, .f32⟩
  | .hbm, ⟨34, _⟩ => ⟨S_, .f32⟩
  | .hbm, ⟨35, _⟩ => ⟨S2x2x32, .f32⟩
  | .hbm, ⟨36, _⟩ => ⟨S2x2x32, .f32⟩
  | _, _ => ⟨S2x2x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S2x2x32x64x16 : Shape := ⟨5, ![2, 2, 32, 64, 16]⟩

abbrev nBuf : Space → Nat
  | .hbm => 7
  | .vmem => 7
  | .smem => 0
  | _ => 0

abbrev bufTy : (tb : Table) → Fin (tcTables nBuf tb) → BufTy
  | .hbm, ⟨0, _⟩ => ⟨S2x2x32x64x16, .f32⟩
  | .hbm, ⟨1, _⟩ => ⟨S2x2x32x64x16, .f32⟩
  | .hbm, ⟨2, _⟩ => ⟨S2x2x32x64x16, .f32⟩
  | .hbm, ⟨3, _⟩ => ⟨S2x2x32x64x16, .f32⟩
  | .hbm, ⟨4, _⟩ => ⟨S2x2x32x64x16, .f32⟩
  | .hbm, ⟨5, _⟩ => ⟨S2x2x32x64x16, .f32⟩
  | .hbm, ⟨6, _⟩ => ⟨S2x2x32x64x16, .f32⟩
  | .local _ .vmem, ⟨0, _⟩ => ⟨S2x2x32x64x16, .f32⟩
  | .local _ .vmem, ⟨1, _⟩ => ⟨S2x2x32x64x16, .f32⟩
  | .local _ .vmem, ⟨2, _⟩ => ⟨S2x2x32x64x16, .f32⟩
  | .local _ .vmem, ⟨3, _⟩ => ⟨S2x2x32x64x16, .f32⟩
  | .local _ .vmem, ⟨4, _⟩ => ⟨S2x2x32x64x16, .f32⟩
  | .local _ .vmem, ⟨5, _⟩ => ⟨S2x2x32x64x16, .f32⟩
  | .local _ .vmem, ⟨6, _⟩ => ⟨S2x2x32x64x16, .f32⟩
  | _, _ => ⟨S2x2x32x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x2x32x64x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2x32x64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2x32x64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2x32x64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2x32x64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2x32x64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x2x32x64x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel26Ideal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== Reference26Ideal.lean ====
abbrev S2x2x32x64x16 : Shape := ⟨5, ![2, 2, 32, 64, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2x32x64x16, .f32⟩
  | .hbm, ⟨1, _⟩ => ⟨S2x2x32x64x16, .f32⟩
  | .hbm, ⟨2, _⟩ => ⟨S2x2x32x64x16, .f32⟩
  | .hbm, ⟨3, _⟩ => ⟨S2x2x32x64x16, .f32⟩
  | .hbm, ⟨4, _⟩ => ⟨S_, .f32⟩
  | .hbm, ⟨5, _⟩ => ⟨S2x2x32x64x16, .f32⟩
  | .hbm, ⟨6, _⟩ => ⟨S2x2x32x64x16, .f32⟩
  | .hbm, ⟨7, _⟩ => ⟨S_, .f32⟩
  | .hbm, ⟨8, _⟩ => ⟨S2x2x32x64x16, .f32⟩
  | .hbm, ⟨9, _⟩ => ⟨S2x2x32x64x16, .f32⟩
  | .hbm, ⟨10, _⟩ => ⟨S2x2x32x64x16, .f32⟩
  | .hbm, ⟨11, _⟩ => ⟨S_, .f32⟩
  | .hbm, ⟨12, _⟩ => ⟨S2x2x32x64x16, .f32⟩
  | .hbm, ⟨13, _⟩ => ⟨S2x2x32x64x16, .f32⟩
  | .hbm, ⟨14, _⟩ => ⟨S2x2x32x64x16, .f32⟩
  | .hbm, ⟨15, _⟩ => ⟨S_, .f32⟩
  | .hbm, ⟨16, _⟩ => ⟨S2x2x32x64x16, .f32⟩
  | .hbm, ⟨17, _⟩ => ⟨S2x2x32x64x16, .f32⟩
  | .hbm, ⟨18, _⟩ => ⟨S2x2x32x64x16, .f32⟩
  | .hbm, ⟨19, _⟩ => ⟨S_, .f32⟩
  | .hbm, ⟨20, _⟩ => ⟨S2x2x32x64x16, .f32⟩
  | .hbm, ⟨21, _⟩ => ⟨S2x2x32x64x16, .f32⟩
  | .hbm, ⟨22, _⟩ => ⟨S_, .f32⟩
  | .hbm, ⟨23, _⟩ => ⟨S2x2x32x64x16, .f32⟩
  | .hbm, ⟨24, _⟩ => ⟨S2x2x32x64x16, .f32⟩
  | .hbm, ⟨25, _⟩ => ⟨S2x2x32x64x16, .f32⟩
  | .hbm, ⟨26, _⟩ => ⟨S_, .f32⟩
  | .hbm, ⟨27, _⟩ => ⟨S2x2x32x64x16, .f32⟩
  | .hbm, ⟨28, _⟩ => ⟨S2x2x32x64x16, .f32⟩
  | .hbm, ⟨29, _⟩ => ⟨S2x2x32x64x16, .f32⟩
  | .hbm, ⟨30, _⟩ => ⟨S_, .f32⟩
  | .hbm, ⟨31, _⟩ => ⟨S2x2x32x64x16, .f32⟩
  | .hbm, ⟨32, _⟩ => ⟨S2x2x32x64x16, .f32⟩
  | .hbm, ⟨33, _⟩ => ⟨S2x2x32x64x16, .f32⟩
  | .hbm, ⟨34, _⟩ => ⟨S_, .f32⟩
  | .hbm, ⟨35, _⟩ => ⟨S2x2x32x64x16, .f32⟩
  | .hbm, ⟨36, _⟩ => ⟨S2x2x32x64x16, .f32⟩
  | _, _ => ⟨S2x2x32x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S2x2x32x16x64 : Shape := ⟨5, ![2, 2, 32, 16, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x2x32x16x64, .f32⟩
  | .hbm, ⟨1, _⟩ => ⟨S2x2x32x16x64, .f32⟩
  | .hbm, ⟨2, _⟩ => ⟨S2x2x32x16x64, .f32⟩
  | .hbm, ⟨3, _⟩ => ⟨S2x2x32x16x64, .f32⟩
  | .hbm, ⟨4, _⟩ => ⟨S2x2x32x16x64, .f32⟩
  | .hbm, ⟨5, _⟩ => ⟨S2x2x32x16x64, .f32⟩
  | .hbm, ⟨6, _⟩ => ⟨S2x2x32x16x64, .f32⟩
  | .local _ .vmem, ⟨0, _⟩ => ⟨S2x2x32x16x64, .f32⟩
  | .local _ .vmem, ⟨1, _⟩ => ⟨S2x2x32x16x64, .f32⟩
  | .local _ .vmem, ⟨2, _⟩ => ⟨S2x2x32x16x64, .f32⟩
  | .local _ .vmem, ⟨3, _⟩ => ⟨S2x2x32x16x64, .f32⟩
  | .local _ .vmem, ⟨4, _⟩ => ⟨S2x2x32x16x64, .f32⟩
  | .local _ .vmem, ⟨5, _⟩ => ⟨S2x2x32x16x64, .f32⟩
  | .local _ .vmem, ⟨6, _⟩ => ⟨S2x2x32x16x64, .f32⟩
  | _, _ => ⟨S2x2x32x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x2x32x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2x32x16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2x32x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2x32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2x32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2x32x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x2x32x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel27Ideal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== Reference27Ideal.lean ====
abbrev S2x2x32x16x64 : Shape := ⟨5, ![2, 2, 32, 16, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2x32x16x64, .f32⟩
  | .hbm, ⟨1, _⟩ => ⟨S2x2x32x16x64, .f32⟩
  | .hbm, ⟨2, _⟩ => ⟨S2x2x32x16x64, .f32⟩
  | .hbm, ⟨3, _⟩ => ⟨S2x2x32x16x64, .f32⟩
  | .hbm, ⟨4, _⟩ => ⟨S_, .f32⟩
  | .hbm, ⟨5, _⟩ => ⟨S2x2x32x16x64, .f32⟩
  | .hbm, ⟨6, _⟩ => ⟨S2x2x32x16x64, .f32⟩
  | .hbm, ⟨7, _⟩ => ⟨S_, .f32⟩
  | .hbm, ⟨8, _⟩ => ⟨S2x2x32x16x64, .f32⟩
  | .hbm, ⟨9, _⟩ => ⟨S2x2x32x16x64, .f32⟩
  | .hbm, ⟨10, _⟩ => ⟨S2x2x32x16x64, .f32⟩
  | .hbm, ⟨11, _⟩ => ⟨S_, .f32⟩
  | .hbm, ⟨12, _⟩ => ⟨S2x2x32x16x64, .f32⟩
  | .hbm, ⟨13, _⟩ => ⟨S2x2x32x16x64, .f32⟩
  | .hbm, ⟨14, _⟩ => ⟨S2x2x32x16x64, .f32⟩
  | .hbm, ⟨15, _⟩ => ⟨S_, .f32⟩
  | .hbm, ⟨16, _⟩ => ⟨S2x2x32x16x64, .f32⟩
  | .hbm, ⟨17, _⟩ => ⟨S2x2x32x16x64, .f32⟩
  | .hbm, ⟨18, _⟩ => ⟨S2x2x32x16x64, .f32⟩
  | .hbm, ⟨19, _⟩ => ⟨S_, .f32⟩
  | .hbm, ⟨20, _⟩ => ⟨S2x2x32x16x64, .f32⟩
  | .hbm, ⟨21, _⟩ => ⟨S2x2x32x16x64, .f32⟩
  | .hbm, ⟨22, _⟩ => ⟨S_, .f32⟩
  | .hbm, ⟨23, _⟩ => ⟨S2x2x32x16x64, .f32⟩
  | .hbm, ⟨24, _⟩ => ⟨S2x2x32x16x64, .f32⟩
  | .hbm, ⟨25, _⟩ => ⟨S2x2x32x16x64, .f32⟩
  | .hbm, ⟨26, _⟩ => ⟨S_, .f32⟩
  | .hbm, ⟨27, _⟩ => ⟨S2x2x32x16x64, .f32⟩
  | .hbm, ⟨28, _⟩ => ⟨S2x2x32x16x64, .f32⟩
  | .hbm, ⟨29, _⟩ => ⟨S2x2x32x16x64, .f32⟩
  | .hbm, ⟨30, _⟩ => ⟨S_, .f32⟩
  | .hbm, ⟨31, _⟩ => ⟨S2x2x32x16x64, .f32⟩
  | .hbm, ⟨32, _⟩ => ⟨S2x2x32x16x64, .f32⟩
  | .hbm, ⟨33, _⟩ => ⟨S2x2x32x16x64, .f32⟩
  | .hbm, ⟨34, _⟩ => ⟨S_, .f32⟩
  | .hbm, ⟨35, _⟩ => ⟨S2x2x32x16x64, .f32⟩
  | .hbm, ⟨36, _⟩ => ⟨S2x2x32x16x64, .f32⟩
  | _, _ => ⟨S2x2x32x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S2x32x16 : Shape := ⟨3, ![2, 32, 16]⟩

abbrev nBuf : Space → Nat
  | .hbm => 7
  | .vmem => 7
  | .smem => 0
  | _ => 0

abbrev bufTy : (tb : Table) → Fin (tcTables nBuf tb) → BufTy
  | .hbm, ⟨0, _⟩ => ⟨S2x32x16, .f32⟩
  | .hbm, ⟨1, _⟩ => ⟨S2x32x16, .f32⟩
  | .hbm, ⟨2, _⟩ => ⟨S2x32x16, .f32⟩
  | .hbm, ⟨3, _⟩ => ⟨S2x32x16, .f32⟩
  | .hbm, ⟨4, _⟩ => ⟨S2x32x16, .f32⟩
  | .hbm, ⟨5, _⟩ => ⟨S2x32x16, .f32⟩
  | .hbm, ⟨6, _⟩ => ⟨S2x32x16, .f32⟩
  | .local _ .vmem, ⟨0, _⟩ => ⟨S2x32x16, .f32⟩
  | .local _ .vmem, ⟨1, _⟩ => ⟨S2x32x16, .f32⟩
  | .local _ .vmem, ⟨2, _⟩ => ⟨S2x32x16, .f32⟩
  | .local _ .vmem, ⟨3, _⟩ => ⟨S2x32x16, .f32⟩
  | .local _ .vmem, ⟨4, _⟩ => ⟨S2x32x16, .f32⟩
  | .local _ .vmem, ⟨5, _⟩ => ⟨S2x32x16, .f32⟩
  | .local _ .vmem, ⟨6, _⟩ => ⟨S2x32x16, .f32⟩
  | _, _ => ⟨S2x32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel28Ideal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== Reference28Ideal.lean ====
abbrev S2x32x16 : Shape := ⟨3, ![2, 32, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x32x16, .f32⟩
  | .hbm, ⟨1, _⟩ => ⟨S2x32x16, .f32⟩
  | .hbm, ⟨2, _⟩ => ⟨S2x32x16, .f32⟩
  | .hbm, ⟨3, _⟩ => ⟨S2x32x16, .f32⟩
  | .hbm, ⟨4, _⟩ => ⟨S_, .f32⟩
  | .hbm, ⟨5, _⟩ => ⟨S2x32x16, .f32⟩
  | .hbm, ⟨6, _⟩ => ⟨S2x32x16, .f32⟩
  | .hbm, ⟨7, _⟩ => ⟨S_, .f32⟩
  | .hbm, ⟨8, _⟩ => ⟨S2x32x16, .f32⟩
  | .hbm, ⟨9, _⟩ => ⟨S2x32x16, .f32⟩
  | .hbm, ⟨10, _⟩ => ⟨S2x32x16, .f32⟩
  | .hbm, ⟨11, _⟩ => ⟨S_, .f32⟩
  | .hbm, ⟨12, _⟩ => ⟨S2x32x16, .f32⟩
  | .hbm, ⟨13, _⟩ => ⟨S2x32x16, .f32⟩
  | .hbm, ⟨14, _⟩ => ⟨S2x32x16, .f32⟩
  | .hbm, ⟨15, _⟩ => ⟨S_, .f32⟩
  | .hbm, ⟨16, _⟩ => ⟨S2x32x16, .f32⟩
  | .hbm, ⟨17, _⟩ => ⟨S2x32x16, .f32⟩
  | .hbm, ⟨18, _⟩ => ⟨S2x32x16, .f32⟩
  | .hbm, ⟨19, _⟩ => ⟨S_, .f32⟩
  | .hbm, ⟨20, _⟩ => ⟨S2x32x16, .f32⟩
  | .hbm, ⟨21, _⟩ => ⟨S2x32x16, .f32⟩
  | .hbm, ⟨22, _⟩ => ⟨S_, .f32⟩
  | .hbm, ⟨23, _⟩ => ⟨S2x32x16, .f32⟩
  | .hbm, ⟨24, _⟩ => ⟨S2x32x16, .f32⟩
  | .hbm, ⟨25, _⟩ => ⟨S2x32x16, .f32⟩
  | .hbm, ⟨26, _⟩ => ⟨S_, .f32⟩
  | .hbm, ⟨27, _⟩ => ⟨S2x32x16, .f32⟩
  | .hbm, ⟨28, _⟩ => ⟨S2x32x16, .f32⟩
  | .hbm, ⟨29, _⟩ => ⟨S2x32x16, .f32⟩
  | .hbm, ⟨30, _⟩ => ⟨S_, .f32⟩
  | .hbm, ⟨31, _⟩ => ⟨S2x32x16, .f32⟩
  | .hbm, ⟨32, _⟩ => ⟨S2x32x16, .f32⟩
  | .hbm, ⟨33, _⟩ => ⟨S2x32x16, .f32⟩
  | .hbm, ⟨34, _⟩ => ⟨S_, .f32⟩
  | .hbm, ⟨35, _⟩ => ⟨S2x32x16, .f32⟩
  | .hbm, ⟨36, _⟩ => ⟨S2x32x16, .f32⟩
  | _, _ => ⟨S2x32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S2x128x512 : Shape := ⟨3, ![2, 128, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S2x128x512, .f32⟩
  | .hbm, ⟨5, _⟩ => ⟨S2x128x512, .f32⟩
  | .hbm, ⟨6, _⟩ => ⟨S2x128x512, .f32⟩
  | .local _ .vmem, ⟨0, _⟩ => ⟨S2x128x512, .f32⟩
  | .local _ .vmem, ⟨1, _⟩ => ⟨S2x128x512, .f32⟩
  | .local _ .vmem, ⟨2, _⟩ => ⟨S2x128x512, .f32⟩
  | .local _ .vmem, ⟨3, _⟩ => ⟨S2x128x512, .f32⟩
  | .local _ .vmem, ⟨4, _⟩ => ⟨S2x128x512, .f32⟩
  | .local _ .vmem, ⟨5, _⟩ => ⟨S2x128x512, .f32⟩
  | .local _ .vmem, ⟨6, _⟩ => ⟨S2x128x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel29Ideal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== Reference29Ideal.lean ====
abbrev S2x128x512 : Shape := ⟨3, ![2, 128, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S_, .f32⟩
  | .hbm, ⟨5, _⟩ => ⟨S2x128x512, .f32⟩
  | .hbm, ⟨6, _⟩ => ⟨S2x128x512, .f32⟩
  | .hbm, ⟨7, _⟩ => ⟨S_, .f32⟩
  | .hbm, ⟨8, _⟩ => ⟨S2x128x512, .f32⟩
  | .hbm, ⟨9, _⟩ => ⟨S2x128x512, .f32⟩
  | .hbm, ⟨10, _⟩ => ⟨S2x128x512, .f32⟩
  | .hbm, ⟨11, _⟩ => ⟨S_, .f32⟩
  | .hbm, ⟨12, _⟩ => ⟨S2x128x512, .f32⟩
  | .hbm, ⟨13, _⟩ => ⟨S2x128x512, .f32⟩
  | .hbm, ⟨14, _⟩ => ⟨S2x128x512, .f32⟩
  | .hbm, ⟨15, _⟩ => ⟨S_, .f32⟩
  | .hbm, ⟨16, _⟩ => ⟨S2x128x512, .f32⟩
  | .hbm, ⟨17, _⟩ => ⟨S2x128x512, .f32⟩
  | .hbm, ⟨18, _⟩ => ⟨S2x128x512, .f32⟩
  | .hbm, ⟨19, _⟩ => ⟨S_, .f32⟩
  | .hbm, ⟨20, _⟩ => ⟨S2x128x512, .f32⟩
  | .hbm, ⟨21, _⟩ => ⟨S2x128x512, .f32⟩
  | .hbm, ⟨22, _⟩ => ⟨S_, .f32⟩
  | .hbm, ⟨23, _⟩ => ⟨S2x128x512, .f32⟩
  | .hbm, ⟨24, _⟩ => ⟨S2x128x512, .f32⟩
  | .hbm, ⟨25, _⟩ => ⟨S2x128x512, .f32⟩
  | .hbm, ⟨26, _⟩ => ⟨S_, .f32⟩
  | .hbm, ⟨27, _⟩ => ⟨S2x128x512, .f32⟩
  | .hbm, ⟨28, _⟩ => ⟨S2x128x512, .f32⟩
  | .hbm, ⟨29, _⟩ => ⟨S2x128x512, .f32⟩
  | .hbm, ⟨30, _⟩ => ⟨S_, .f32⟩
  | .hbm, ⟨31, _⟩ => ⟨S2x128x512, .f32⟩
  | .hbm, ⟨32, _⟩ => ⟨S2x128x512, .f32⟩
  | .hbm, ⟨33, _⟩ => ⟨S2x128x512, .f32⟩
  | .hbm, ⟨34, _⟩ => ⟨S_, .f32⟩
  | .hbm, ⟨35, _⟩ => ⟨S2x128x512, .f32⟩
  | .hbm, ⟨36, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel30Ideal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== Reference30Ideal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S2x4x64x64 : Shape := ⟨4, ![2, 4, 64, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x4x64x64, .f32⟩
  | .hbm, ⟨1, _⟩ => ⟨S2x4x64x64, .f32⟩
  | .hbm, ⟨2, _⟩ => ⟨S2x4x64x64, .f32⟩
  | .hbm, ⟨3, _⟩ => ⟨S2x4x64x64, .f32⟩
  | .hbm, ⟨4, _⟩ => ⟨S2x4x64x64, .f32⟩
  | .hbm, ⟨5, _⟩ => ⟨S2x4x64x64, .f32⟩
  | .hbm, ⟨6, _⟩ => ⟨S2x4x64x64, .f32⟩
  | .local _ .vmem, ⟨0, _⟩ => ⟨S2x4x64x64, .f32⟩
  | .local _ .vmem, ⟨1, _⟩ => ⟨S2x4x64x64, .f32⟩
  | .local _ .vmem, ⟨2, _⟩ => ⟨S2x4x64x64, .f32⟩
  | .local _ .vmem, ⟨3, _⟩ => ⟨S2x4x64x64, .f32⟩
  | .local _ .vmem, ⟨4, _⟩ => ⟨S2x4x64x64, .f32⟩
  | .local _ .vmem, ⟨5, _⟩ => ⟨S2x4x64x64, .f32⟩
  | .local _ .vmem, ⟨6, _⟩ => ⟨S2x4x64x64, .f32⟩
  | _, _ => ⟨S2x4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x4x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel31Ideal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== Reference31Ideal.lean ====
abbrev S2x4x64x64 : Shape := ⟨4, ![2, 4, 64, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x4x64x64, .f32⟩
  | .hbm, ⟨1, _⟩ => ⟨S2x4x64x64, .f32⟩
  | .hbm, ⟨2, _⟩ => ⟨S2x4x64x64, .f32⟩
  | .hbm, ⟨3, _⟩ => ⟨S2x4x64x64, .f32⟩
  | .hbm, ⟨4, _⟩ => ⟨S_, .f32⟩
  | .hbm, ⟨5, _⟩ => ⟨S2x4x64x64, .f32⟩
  | .hbm, ⟨6, _⟩ => ⟨S2x4x64x64, .f32⟩
  | .hbm, ⟨7, _⟩ => ⟨S_, .f32⟩
  | .hbm, ⟨8, _⟩ => ⟨S2x4x64x64, .f32⟩
  | .hbm, ⟨9, _⟩ => ⟨S2x4x64x64, .f32⟩
  | .hbm, ⟨10, _⟩ => ⟨S2x4x64x64, .f32⟩
  | .hbm, ⟨11, _⟩ => ⟨S_, .f32⟩
  | .hbm, ⟨12, _⟩ => ⟨S2x4x64x64, .f32⟩
  | .hbm, ⟨13, _⟩ => ⟨S2x4x64x64, .f32⟩
  | .hbm, ⟨14, _⟩ => ⟨S2x4x64x64, .f32⟩
  | .hbm, ⟨15, _⟩ => ⟨S_, .f32⟩
  | .hbm, ⟨16, _⟩ => ⟨S2x4x64x64, .f32⟩
  | .hbm, ⟨17, _⟩ => ⟨S2x4x64x64, .f32⟩
  | .hbm, ⟨18, _⟩ => ⟨S2x4x64x64, .f32⟩
  | .hbm, ⟨19, _⟩ => ⟨S_, .f32⟩
  | .hbm, ⟨20, _⟩ => ⟨S2x4x64x64, .f32⟩
  | .hbm, ⟨21, _⟩ => ⟨S2x4x64x64, .f32⟩
  | .hbm, ⟨22, _⟩ => ⟨S_, .f32⟩
  | .hbm, ⟨23, _⟩ => ⟨S2x4x64x64, .f32⟩
  | .hbm, ⟨24, _⟩ => ⟨S2x4x64x64, .f32⟩
  | .hbm, ⟨25, _⟩ => ⟨S2x4x64x64, .f32⟩
  | .hbm, ⟨26, _⟩ => ⟨S_, .f32⟩
  | .hbm, ⟨27, _⟩ => ⟨S2x4x64x64, .f32⟩
  | .hbm, ⟨28, _⟩ => ⟨S2x4x64x64, .f32⟩
  | .hbm, ⟨29, _⟩ => ⟨S2x4x64x64, .f32⟩
  | .hbm, ⟨30, _⟩ => ⟨S_, .f32⟩
  | .hbm, ⟨31, _⟩ => ⟨S2x4x64x64, .f32⟩
  | .hbm, ⟨32, _⟩ => ⟨S2x4x64x64, .f32⟩
  | .hbm, ⟨33, _⟩ => ⟨S2x4x64x64, .f32⟩
  | .hbm, ⟨34, _⟩ => ⟨S_, .f32⟩
  | .hbm, ⟨35, _⟩ => ⟨S2x4x64x64, .f32⟩
  | .hbm, ⟨36, _⟩ => ⟨S2x4x64x64, .f32⟩
  | _, _ => ⟨S2x4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel32Ideal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== Reference32Ideal.lean ====
abbrev S2x256 : Shape := ⟨2, ![2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S2x256, .f32⟩
  | .hbm, ⟨7, _⟩ => ⟨S_, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S_, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S_, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S1024 : Shape := ⟨1, ![1024]⟩
abbrev S2x512 : Shape := ⟨2, ![2, 512]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S2x512, .f32⟩
  | .hbm, ⟨5, _⟩ => ⟨S2x512, .f32⟩
  | .hbm, ⟨6, _⟩ => ⟨S2x512, .f32⟩
  | .hbm, ⟨7, _⟩ => ⟨S2x512, .f32⟩
  | .hbm, ⟨8, _⟩ => ⟨S2x512, .f32⟩
  | .hbm, ⟨9, _⟩ => ⟨S2x512, .f32⟩
  | .hbm, ⟨10, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel33Ideal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== Reference33Ideal.lean ====
abbrev S1024 : Shape := ⟨1, ![1024]⟩
abbrev S_ : Shape := ⟨0, ![]⟩
abbrev S2x512 : Shape := ⟨2, ![2, 512]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S2x512, .f32⟩
  | .hbm, ⟨38, _⟩ => ⟨S2x512, .f32⟩
  | .hbm, ⟨39, _⟩ => ⟨S2x512, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel34.lean ====
abbrev S32x1024 : Shape := ⟨2, ![32, 1024]⟩
abbrev S1024 : Shape := ⟨1, ![1024]⟩
abbrev S2x1024x1536 : Shape := ⟨3, ![2, 1024, 1536]⟩
abbrev S2x32x1536 : Shape := ⟨3, ![2, 32, 1536]⟩
abbrev S8x2x1x1536 : Shape := ⟨4, ![8, 2, 1, 1536]⟩
abbrev S1x1024 : Shape := ⟨2, ![1, 1024]⟩
abbrev S_ : Shape := ⟨0, ![]⟩
abbrev S7x1024 : Shape := ⟨2, ![7, 1024]⟩
abbrev S40x1024 : Shape := ⟨2, ![40, 1024]⟩
abbrev S2x8x1536 : Shape := ⟨3, ![2, 8, 1536]⟩
abbrev S2x40x1536 : Shape := ⟨3, ![2, 40, 1536]⟩
abbrev S40x1 : Shape := ⟨2, ![40, 1]⟩
abbrev S1x1x1x1536 : Shape := ⟨4, ![1, 1, 1, 1536]⟩
abbrev S1x1536 : Shape := ⟨2, ![1, 1536]⟩
abbrev S1x40x1536 : Shape := ⟨3, ![1, 40, 1536]⟩
abbrev S40x1536 : Shape := ⟨2, ![40, 1536]⟩
abbrev S1024x1536 : Shape := ⟨2, ![1024, 1536]⟩
abbrev S1x1024x1536 : Shape := ⟨3, ![1, 1024, 1536]⟩

abbrev nBuf : Space → Nat
  | .hbm => 14
  | .vmem => 6
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S2x1024x1536, .f32⟩
  | .hbm, ⟨3, _⟩ => ⟨S2x32x1536, .f32⟩
  | .hbm, ⟨4, _⟩ => ⟨S8x2x1x1536, .f32⟩
  | .hbm, ⟨5, _⟩ => ⟨S1x1024, .f32⟩
  | .hbm, ⟨6, _⟩ => ⟨S_, .f32⟩
  | .hbm, ⟨7, _⟩ => ⟨S7x1024, .f32⟩
  | .hbm, ⟨8, _⟩ => ⟨S40x1024, .f32⟩
  | .hbm, ⟨9, _⟩ => ⟨S_, .f32⟩
  | .hbm, ⟨10, _⟩ => ⟨S2x8x1536, .f32⟩
  | .hbm, ⟨11, _⟩ => ⟨S2x40x1536, .f32⟩
  | .hbm, ⟨12, _⟩ => ⟨S2x1024x1536, .f32⟩
  | .hbm, ⟨13, _⟩ => ⟨S1x1024, .f32⟩
  | .local _ .vmem, ⟨0, _⟩ => ⟨S40x1024, .f32⟩
  | .local _ .vmem, ⟨1, _⟩ => ⟨S2x1024x1536, .f32⟩
  | .local _ .vmem, ⟨2, _⟩ => ⟨S2x40x1536, .f32⟩
  | .local _ .vmem, ⟨3, _⟩ => ⟨S8x2x1x1536, .f32⟩
  | .local _ .vmem, ⟨4, _⟩ => ⟨S2x1024x1536, .f32⟩
  | .local _ .vmem, ⟨5, _⟩ => ⟨S1x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x40x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2x1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference34Ideal.lean ====
abbrev S32x1024 : Shape := ⟨2, ![32, 1024]⟩
abbrev S1024 : Shape := ⟨1, ![1024]⟩
abbrev S2x1024x1536 : Shape := ⟨3, ![2, 1024, 1536]⟩
abbrev S2x32x1536 : Shape := ⟨3, ![2, 32, 1536]⟩
abbrev S8x2x1x1536 : Shape := ⟨4, ![8, 2, 1, 1536]⟩
abbrev S_ : Shape := ⟨0, ![]⟩
abbrev S2x1x1536 : Shape := ⟨3, ![2, 1, 1536]⟩
abbrev S1x1024x1536 : Shape := ⟨3, ![1, 1024, 1536]⟩
abbrev S1024x1536 : Shape := ⟨2, ![1024, 1536]⟩
abbrev S1x1024 : Shape := ⟨2, ![1, 1024]⟩
abbrev S32x1536 : Shape := ⟨2, ![32, 1536]⟩
abbrev S1x1536 : Shape := ⟨2, ![1, 1536]⟩
abbrev S1x32x1536 : Shape := ⟨3, ![1, 32, 1536]⟩
abbrev S1x1x1536 : Shape := ⟨3, ![1, 1, 1536]⟩
abbrev S1536x1024 : Shape := ⟨2, ![1536, 1024]⟩

abbrev nBuf : Space → Nat
  | .hbm => 77
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S2x1024x1536, .f32⟩
  | .hbm, ⟨3, _⟩ => ⟨S2x32x1536, .f32⟩
  | .hbm, ⟨4, _⟩ => ⟨S8x2x1x1536, .f32⟩
  | .hbm, ⟨5, _⟩ => ⟨S_, .f32⟩
  | .hbm, ⟨6, _⟩ => ⟨S2x1x1536, .f32⟩
  | .hbm, ⟨7, _⟩ => ⟨S1x1024x1536, .f32⟩
  | .hbm, ⟨8, _⟩ => ⟨S1024x1536, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1x1024, .f32⟩
  | .hbm, ⟨19, _⟩ => ⟨S32x1024, .f32⟩
  | .hbm, ⟨20, _⟩ => ⟨S32x1024, .f32⟩
  | .hbm, ⟨21, _⟩ => ⟨S_, .f32⟩
  | .hbm, ⟨22, _⟩ => ⟨S32x1024, .f32⟩
  | .hbm, ⟨23, _⟩ => ⟨S32x1024, .f32⟩
  | .hbm, ⟨24, _⟩ => ⟨S_, .f32⟩
  | .hbm, ⟨25, _⟩ => ⟨S32x1024, .f32⟩
  | .hbm, ⟨26, _⟩ => ⟨S32x1024, .f32⟩
  | .hbm, ⟨27, _⟩ => ⟨S32x1024, .f32⟩
  | .hbm, ⟨28, _⟩ => ⟨S32x1536, .f32⟩
  | .hbm, ⟨29, _⟩ => ⟨S1x1536, .f32⟩
  | .hbm, ⟨30, _⟩ => ⟨S1x32x1536, .f32⟩
  | .hbm, ⟨31, _⟩ => ⟨S32x1536, .f32⟩
  | .hbm, ⟨32, _⟩ => ⟨S1x1x1536, .f32⟩
  | .hbm, ⟨33, _⟩ => ⟨S1x1536, .f32⟩
  | .hbm, ⟨34, _⟩ => ⟨S1536x1024, .f32⟩
  | .hbm, ⟨35, _⟩ => ⟨S1024x1536, .f32⟩
  | .hbm, ⟨36, _⟩ => ⟨S1x1024, .f32⟩
  | .hbm, ⟨37, _⟩ => ⟨S1536x1024, .f32⟩
  | .hbm, ⟨38, _⟩ => ⟨S1024x1536, .f32⟩
  | .hbm, ⟨39, _⟩ => ⟨S1024x1536, .f32⟩
  | .hbm, ⟨40, _⟩ => ⟨S1x1024x1536, .f32⟩
  | .hbm, ⟨41, _⟩ => ⟨S1024x1536, .f32⟩
  | .hbm, ⟨42, _⟩ => ⟨S1024, .f32⟩
  | .hbm, ⟨43, _⟩ => ⟨S1024, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S1x1024, .f32⟩
  | .hbm, ⟨52, _⟩ => ⟨S32x1024, .f32⟩
  | .hbm, ⟨53, _⟩ => ⟨S32x1024, .f32⟩
  | .hbm, ⟨54, _⟩ => ⟨S_, .f32⟩
  | .hbm, ⟨55, _⟩ => ⟨S32x1024, .f32⟩
  | .hbm, ⟨56, _⟩ => ⟨S32x1024, .f32⟩
  | .hbm, ⟨57, _⟩ => ⟨S_, .f32⟩
  | .hbm, ⟨58, _⟩ => ⟨S32x1024, .f32⟩
  | .hbm, ⟨59, _⟩ => ⟨S32x1024, .f32⟩
  | .hbm, ⟨60, _⟩ => ⟨S32x1024, .f32⟩
  | .hbm, ⟨61, _⟩ => ⟨S32x1536, .f32⟩
  | .hbm, ⟨62, _⟩ => ⟨S1x1536, .f32⟩
  | .hbm, ⟨63, _⟩ => ⟨S1x32x1536, .f32⟩
  | .hbm, ⟨64, _⟩ => ⟨S32x1536, .f32⟩
  | .hbm, ⟨65, _⟩ => ⟨S1x1x1536, .f32⟩
  | .hbm, ⟨66, _⟩ => ⟨S1x1536, .f32⟩
  | .hbm, ⟨67, _⟩ => ⟨S1536x1024, .f32⟩
  | .hbm, ⟨68, _⟩ => ⟨S1024x1536, .f32⟩
  | .hbm, ⟨69, _⟩ => ⟨S1x1024, .f32⟩
  | .hbm, ⟨70, _⟩ => ⟨S1536x1024, .f32⟩
  | .hbm, ⟨71, _⟩ => ⟨S1024x1536, .f32⟩
  | .hbm, ⟨72, _⟩ => ⟨S1024x1536, .f32⟩
  | .hbm, ⟨73, _⟩ => ⟨S1x1024x1536, .f32⟩
  | .hbm, ⟨74, _⟩ => ⟨S1x1024x1536, .f32⟩
  | .hbm, ⟨75, _⟩ => ⟨S2x1024x1536, .f32⟩
  | .hbm, ⟨76, _⟩ => ⟨S1x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_call2_v0 : Ref sig .tc := ⟨.hbm, 42, rfl⟩
abbrev main_call2_v1 : Ref sig .tc := ⟨.hbm, 43, rfl⟩
abbrev main_call2_cst : Ref sig .tc := ⟨.hbm, 44, rfl⟩
abbrev main_call2_v2 : Ref sig .tc := ⟨.hbm, 45, rfl⟩
abbrev main_call2_v3 : Ref sig .tc := ⟨.hbm, 46, rfl⟩
abbrev main_call2_cst_0 : Ref sig .tc := ⟨.hbm, 47, rfl⟩
abbrev main_call2_v4 : Ref sig .tc := ⟨.hbm, 48, rfl⟩
abbrev main_call2_v5 : Ref sig .tc := ⟨.hbm, 49, rfl⟩
abbrev main_v20 : Ref sig .tc := ⟨.hbm, 50, rfl⟩
abbrev main_v21 : Ref sig .tc := ⟨.hbm, 51, rfl⟩
abbrev main_call3_v0 : Ref sig .tc := ⟨.hbm, 52, rfl⟩
abbrev main_call3_v1 : Ref sig .tc := ⟨.hbm, 53, rfl⟩
abbrev main_call3_cst : Ref sig .tc := ⟨.hbm, 54, rfl⟩
abbrev main_call3_v2 : Ref sig .tc := ⟨.hbm, 55, rfl⟩
abbrev main_call3_v3 : Ref sig .tc := ⟨.hbm, 56, rfl⟩
abbrev main_call3_cst_0 : Ref sig .tc := ⟨.hbm, 57, rfl⟩
abbrev main_call3_v4 : Ref sig .tc := ⟨.hbm, 58, rfl⟩
abbrev main_call3_v5 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩

abbrev nD : Nat := 1
abbrev τ : Topo := Topo.v7x

variable {F : FTy → Type} [FloatOps F]
-- ==== Kernel35.lean ====
abbrev S8x2x8x6144 : Shape := ⟨4, ![8, 2, 8, 6144]⟩
abbrev S4x1x1024 : Shape := ⟨3, ![4, 1, 1024]⟩
abbrev S1024 : Shape := ⟨1, ![1024]⟩
abbrev S1x1024 : Shape := ⟨2, ![1, 1024]⟩
abbrev S2x6144 : Shape := ⟨2, ![2, 6144]⟩
abbrev S1x1x8x6144 : Shape := ⟨4, ![1, 1, 8, 6144]⟩
abbrev S8x6144 : Shape := ⟨2, ![8, 6144]⟩
abbrev S6144 : Shape := ⟨1, ![6144]⟩
abbrev S1x6144 : Shape := ⟨2, ![1, 6144]⟩
abbrev S1x1x1024 : Shape := ⟨3, ![1, 1, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8x2x8x6144, .f32⟩
  | .hbm, ⟨1, _⟩ => ⟨S4x1x1024, .f32⟩
  | .hbm, ⟨2, _⟩ => ⟨S1024, .f32⟩
  | .hbm, ⟨3, _⟩ => ⟨S1x1024, .f32⟩
  | .hbm, ⟨4, _⟩ => ⟨S2x6144, .f32⟩
  | .hbm, ⟨5, _⟩ => ⟨S1x1024, .f32⟩
  | .local _ .vmem, ⟨0, _⟩ => ⟨S8x2x8x6144, .f32⟩
  | .local _ .vmem, ⟨1, _⟩ => ⟨S4x1x1024, .f32⟩
  | .local _ .vmem, ⟨2, _⟩ => ⟨S1x1024, .f32⟩
  | .local _ .vmem, ⟨3, _⟩ => ⟨S2x6144, .f32⟩
  | .local _ .vmem, ⟨4, _⟩ => ⟨S1x1024, .f32⟩
  | _, _ => ⟨S8x2x8x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x2x8x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference35Ideal.lean ====
abbrev S8x2x8x6144 : Shape := ⟨4, ![8, 2, 8, 6144]⟩
abbrev S4x1x1024 : Shape := ⟨3, ![4, 1, 1024]⟩
abbrev S1024 : Shape := ⟨1, ![1024]⟩
abbrev S_ : Shape := ⟨0, ![]⟩
abbrev S4x1024 : Shape := ⟨2, ![4, 1024]⟩
abbrev S8x2x6144 : Shape := ⟨3, ![8, 2, 6144]⟩
abbrev S2x6144 : Shape := ⟨2, ![2, 6144]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8x2x8x6144, .f32⟩
  | .hbm, ⟨1, _⟩ => ⟨S4x1x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S4x1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S8x2x6144, .f32⟩
  | .hbm, ⟨25, _⟩ => ⟨S_, .f32⟩
  | .hbm, ⟨26, _⟩ => ⟨S2x6144, .f32⟩
  | .hbm, ⟨27, _⟩ => ⟨S1x1024, .f32⟩
  | _, _ => ⟨S8x2x8x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_cst_1 : Ref sig .tc := ⟨.hbm, 25, rfl⟩
abbrev main_v5 : Ref sig .tc := ⟨.hbm, 26, rfl⟩
abbrev main_v6 : Ref sig .tc := ⟨.hbm, 27, rfl⟩

abbrev nD : Nat := 1
abbrev τ : Topo := Topo.v7x

variable {F : FTy → Type} [FloatOps F]
-- ==== Kernel36.lean ====
abbrev S9216x1024 : Shape := ⟨2, ![9216, 1024]⟩
abbrev S1024 : Shape := ⟨1, ![1024]⟩
abbrev S8x6144 : Shape := ⟨2, ![8, 6144]⟩
abbrev S9x4 : Shape := ⟨2, ![9, 4]⟩
abbrev S1x1024 : Shape := ⟨2, ![1, 1024]⟩
abbrev S_ : Shape := ⟨0, ![]⟩
abbrev S9x4x1 : Shape := ⟨3, ![9, 4, 1]⟩
abbrev S9x4x6144 : Shape := ⟨3, ![9, 4, 6144]⟩
abbrev S9x4x6x1024 : Shape := ⟨4, ![9, 4, 6, 1024]⟩
abbrev S9x6x4x1024 : Shape := ⟨4, ![9, 6, 4, 1024]⟩
abbrev S54x4x1x1024 : Shape := ⟨4, ![54, 4, 1, 1024]⟩
abbrev S4x8x256x1024 : Shape := ⟨4, ![4, 8, 256, 1024]⟩
abbrev S8x1x1024 : Shape := ⟨3, ![8, 1, 1024]⟩
abbrev S512x1024 : Shape := ⟨2, ![512, 1024]⟩
abbrev S1x2x1x1024 : Shape := ⟨4, ![1, 2, 1, 1024]⟩
abbrev S2x1x256x1024 : Shape := ⟨4, ![2, 1, 256, 1024]⟩
abbrev S2x256x1024 : Shape := ⟨3, ![2, 256, 1024]⟩
abbrev S2x1x1024 : Shape := ⟨3, ![2, 1, 1024]⟩
abbrev S2x256 : Shape := ⟨2, ![2, 256]⟩
abbrev S2x256x1 : Shape := ⟨3, ![2, 256, 1]⟩
abbrev S1x1x1024 : Shape := ⟨3, ![1, 1, 1024]⟩
abbrev S2x1024 : Shape := ⟨2, ![2, 1024]⟩

abbrev nBuf : Space → Nat
  | .hbm => 21
  | .vmem => 14
  | .smem => 0
  | _ => 0

abbrev bufTy : (tb : Table) → Fin (tcTables nBuf tb) → BufTy
  | .hbm, ⟨0, _⟩ => ⟨S9216x1024, .f32⟩
  | .hbm, ⟨1, _⟩ => ⟨S9216x1024, .bf16⟩
  | .hbm, ⟨2, _⟩ => ⟨S9216x1024, .f32⟩
  | .hbm, ⟨3, _⟩ => ⟨S1024, .f32⟩
  | .hbm, ⟨4, _⟩ => ⟨S8x6144, .f32⟩
  | .hbm, ⟨5, _⟩ => ⟨S9x4, .i32⟩
  | .hbm, ⟨6, _⟩ => ⟨S9x4, .i1⟩
  | .hbm, ⟨7, _⟩ => ⟨S1x1024, .f32⟩
  | .hbm, ⟨8, _⟩ => ⟨S_, .i32⟩
  | .hbm, ⟨9, _⟩ => ⟨S9x4, .i32⟩
  | .hbm, ⟨10, _⟩ => ⟨S9x4, .i32⟩
  | .hbm, ⟨11, _⟩ => ⟨S9x4, .i32⟩
  | .hbm, ⟨12, _⟩ => ⟨S9x4x1, .i32⟩
  | .hbm, ⟨13, _⟩ => ⟨S9x4x6144, .f32⟩
  | .hbm, ⟨14, _⟩ => ⟨S9x4x6x1024, .f32⟩
  | .hbm, ⟨15, _⟩ => ⟨S9x6x4x1024, .f32⟩
  | .hbm, ⟨16, _⟩ => ⟨S54x4x1x1024, .f32⟩
  | .hbm, ⟨17, _⟩ => ⟨S4x8x256x1024, .f32⟩
  | .hbm, ⟨18, _⟩ => ⟨S8x1x1024, .f32⟩
  | .hbm, ⟨19, _⟩ => ⟨S8x1x1024, .f32⟩
  | .hbm, ⟨20, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x2x1x1024, .f32⟩
  | .local _ .vmem, ⟨8, _⟩ => ⟨S1x2x1x1024, .f32⟩
  | .local _ .vmem, ⟨9, _⟩ => ⟨S2x1x256x1024, .f32⟩
  | .local _ .vmem, ⟨10, _⟩ => ⟨S2x1x256x1024, .f32⟩
  | .local _ .vmem, ⟨11, _⟩ => ⟨S8x1x1024, .f32⟩
  | .local _ .vmem, ⟨12, _⟩ => ⟨S8x1x1024, .f32⟩
  | .local _ .vmem, ⟨13, _⟩ => ⟨S1x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_c_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![2, 9], ![false, false]⟩

def k0_cond3 (i : grid0.Coords) : BitVec 1 :=
  let arg1 : BitVec 32 := BitVec.ofNat 32 (i 1).val
  let c0_i32_25 : BitVec 32 := 0#32
  let v51 : BitVec 1 := Scalar.cmpi .sgt arg1 c0_i32_25
  let v52 : BitVec 32 := Scalar.extui v51
  let c0_i32_26 : BitVec 32 := 0#32
  let v53 : BitVec 1 := Scalar.cmpi .ne v52 c0_i32_26
  v53

def k0_off1 (i : grid0.Coords) : Fin 3 → Nat :=
  let arg0 : BitVec 32 := BitVec.ofNat 32 (i 0).val
  let c2_i32 : BitVec 32 := 2#32
  let v76 : BitVec 32 := Scalar.muli arg0 c2_i32
  let v77 : Index := Scalar.indexCast v76
  let c0_37 : Index := 0#32
  let c0_38 : Index := 0#32
  ![v77.toNat, 0, 0]
def k0_cond5 (i : grid0.Coords) : BitVec 1 :=
  let arg1 : BitVec 32 := BitVec.ofNat 32 (i 1).val
  let c0_i32_30 : BitVec 32 := 0#32
  let v63 : BitVec 1 := Scalar.cmpi .sgt arg1 c0_i32_30
  let v64 : BitVec 32 := Scalar.extui v63
  let c0_i32_31 : BitVec 32 := 0#32
  let v65 : BitVec 1 := Scalar.cmpi .ne v64 c0_i32_31
  v65

def k0_off2 (i : grid0.Coords) : Fin 3 → Nat :=
  let arg0 : BitVec 32 := BitVec.ofNat 32 (i 0).val
  let c2_i32 : BitVec 32 := 2#32
  let v76 : BitVec 32 := Scalar.muli arg0 c2_i32
  let v77 : Index := Scalar.indexCast v76
  let c0_37 : Index := 0#32
  let c0_38 : Index := 0#32
  ![v77.toNat, 0, 0]
def k0_cond1 (i : grid0.Coords) : BitVec 1 :=
  let arg0 : BitVec 32 := BitVec.ofNat 32 (i 0).val
  let c0_i32 : BitVec 32 := 0#32
  let v41 : BitVec 1 := Scalar.cmpi .eq arg0 c0_i32
  let arg1 : BitVec 32 := BitVec.ofNat 32 (i 1).val
  let c0_i32_20 : BitVec 32 := 0#32
  let v42 : BitVec 1 := Scalar.cmpi .eq arg1 c0_i32_20
  let v43 : BitVec 1 := Scalar.andi v41 v42
  let v44 : BitVec 32 := Scalar.extui v43
  let c0_i32_21 : BitVec 32 := 0#32
  let v45 : BitVec 1 := Scalar.cmpi .ne v44 c0_i32_21
  v45

def k0_cond2 (i : grid0.Coords) : BitVec 1 :=
  let arg1 : BitVec 32 := BitVec.ofNat 32 (i 1).val
  let c0_i32_23 : BitVec 32 := 0#32
  let v48 : BitVec 1 := Scalar.cmpi .eq arg1 c0_i32_23
  let v49 : BitVec 32 := Scalar.extui v48
  let c0_i32_24 : BitVec 32 := 0#32
  let v50 : BitVec 1 := Scalar.cmpi .ne v49 c0_i32_24
  v50

def k0_cond4 (i : grid0.Coords) : BitVec 1 :=
  let arg1 : BitVec 32 := BitVec.ofNat 32 (i 1).val
  let c0_i32_28 : BitVec 32 := 0#32
  let v60 : BitVec 1 := Scalar.cmpi .eq arg1 c0_i32_28
  let v61 : BitVec 32 := Scalar.extui v60
  let c0_i32_29 : BitVec 32 := 0#32
  let v62 : BitVec 1 := Scalar.cmpi .ne v61 c0_i32_29
  v62

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.muli arg1 c6_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference36Ideal.lean ====
abbrev S9216x1024 : Shape := ⟨2, ![9216, 1024]⟩
abbrev S1024 : Shape := ⟨1, ![1024]⟩
abbrev S8x6144 : Shape := ⟨2, ![8, 6144]⟩
abbrev S8x1024 : Shape := ⟨2, ![8, 1024]⟩
abbrev S_ : Shape := ⟨0, ![]⟩
abbrev S9216 : Shape := ⟨1, ![9216]⟩
abbrev S9216x1 : Shape := ⟨2, ![9216, 1]⟩
abbrev S1x1024 : Shape := ⟨2, ![1, 1024]⟩
abbrev S9x4x256x1024 : Shape := ⟨4, ![9, 4, 256, 1024]⟩
abbrev S4x1024 : Shape := ⟨2, ![4, 1024]⟩
abbrev S1x4x1024 : Shape := ⟨3, ![1, 4, 1024]⟩
abbrev S8x4x1024 : Shape := ⟨3, ![8, 4, 1024]⟩
abbrev S9x4x1024 : Shape := ⟨3, ![9, 4, 1024]⟩
abbrev S9x4x1x1024 : Shape := ⟨4, ![9, 4, 1, 1024]⟩
abbrev S8192x1024 : Shape := ⟨2, ![8192, 1024]⟩
abbrev S8x4x256x1024 : Shape := ⟨4, ![8, 4, 256, 1024]⟩
abbrev S4x8x256x1024 : Shape := ⟨4, ![4, 8, 256, 1024]⟩
abbrev S8x1x1024 : Shape := ⟨3, ![8, 1, 1024]⟩

abbrev nBuf : Space → Nat
  | .hbm => 125
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .bf16⟩
  | .hbm, ⟨2, _⟩ => ⟨S9216x1024, .f32⟩
  | .hbm, ⟨3, _⟩ => ⟨S1024, .f32⟩
  | .hbm, ⟨4, _⟩ => ⟨S8x6144, .f32⟩
  | .hbm, ⟨5, _⟩ => ⟨S8x1024, .f32⟩
  | .hbm, ⟨6, _⟩ => ⟨S8x1024, .f32⟩
  | .hbm, ⟨7, _⟩ => ⟨S9216x1024, .f32⟩
  | .hbm, ⟨8, _⟩ => ⟨S_, .f32⟩
  | .hbm, ⟨9, _⟩ => ⟨S9216, .f32⟩
  | .hbm, ⟨10, _⟩ => ⟨S9216x1, .f32⟩
  | .hbm, ⟨11, _⟩ => ⟨S_, .f32⟩
  | .hbm, ⟨12, _⟩ => ⟨S9216x1, .f32⟩
  | .hbm, ⟨13, _⟩ => ⟨S9216x1, .f32⟩
  | .hbm, ⟨14, _⟩ => ⟨S_, .f32⟩
  | .hbm, ⟨15, _⟩ => ⟨S9216x1, .f32⟩
  | .hbm, ⟨16, _⟩ => ⟨S9216x1, .f32⟩
  | .hbm, ⟨17, _⟩ => ⟨S9216x1, .f32⟩
  | .hbm, ⟨18, _⟩ => ⟨S9216x1, .f32⟩
  | .hbm, ⟨19, _⟩ => ⟨S_, .f32⟩
  | .hbm, ⟨20, _⟩ => ⟨S9216x1, .f32⟩
  | .hbm, ⟨21, _⟩ => ⟨S9216x1, .f32⟩
  | .hbm, ⟨22, _⟩ => ⟨S9216x1024, .f32⟩
  | .hbm, ⟨23, _⟩ => ⟨S9216x1024, .f32⟩
  | .hbm, ⟨24, _⟩ => ⟨S1x1024, .f32⟩
  | .hbm, ⟨25, _⟩ => ⟨S9216x1024, .f32⟩
  | .hbm, ⟨26, _⟩ => ⟨S9216x1024, .f32⟩
  | .hbm, ⟨27, _⟩ => ⟨S9x4x256x1024, .f32⟩
  | .hbm, ⟨28, _⟩ => ⟨S1x1024, .f32⟩
  | .hbm, ⟨29, _⟩ => ⟨S4x1024, .f32⟩
  | .hbm, ⟨30, _⟩ => ⟨S1x4x1024, .f32⟩
  | .hbm, ⟨31, _⟩ => ⟨S4x1024, .f32⟩
  | .hbm, ⟨32, _⟩ => ⟨S8x4x1024, .f32⟩
  | .hbm, ⟨33, _⟩ => ⟨S9x4x1024, .f32⟩
  | .hbm, ⟨34, _⟩ => ⟨S9x4x1x1024, .f32⟩
  | .hbm, ⟨35, _⟩ => ⟨S1x1024, .f32⟩
  | .hbm, ⟨36, _⟩ => ⟨S4x1024, .f32⟩
  | .hbm, ⟨37, _⟩ => ⟨S1x4x1024, .f32⟩
  | .hbm, ⟨38, _⟩ => ⟨S4x1024, .f32⟩
  | .hbm, ⟨39, _⟩ => ⟨S8x4x1024, .f32⟩
  | .hbm, ⟨40, _⟩ => ⟨S9x4x1024, .f32⟩
  | .hbm, ⟨41, _⟩ => ⟨S9x4x1x1024, .f32⟩
  | .hbm, ⟨42, _⟩ => ⟨S_, .f32⟩
  | .hbm, ⟨43, _⟩ => ⟨S9x4x1x1024, .f32⟩
  | .hbm, ⟨44, _⟩ => ⟨S9x4x1x1024, .f32⟩
  | .hbm, ⟨45, _⟩ => ⟨S9x4x256x1024, .f32⟩
  | .hbm, ⟨46, _⟩ => ⟨S9x4x256x1024, .f32⟩
  | .hbm, ⟨47, _⟩ => ⟨S9x4x256x1024, .f32⟩
  | .hbm, ⟨48, _⟩ => ⟨S9x4x256x1024, .f32⟩
  | .hbm, ⟨49, _⟩ => ⟨S9216x1024, .f32⟩
  | .hbm, ⟨50, _⟩ => ⟨S9x4x256x1024, .f32⟩
  | .hbm, ⟨51, _⟩ => ⟨S_, .f32⟩
  | .hbm, ⟨52, _⟩ => ⟨S9x4x1024, .f32⟩
  | .hbm, ⟨53, _⟩ => ⟨S9x4x1x1024, .f32⟩
  | .hbm, ⟨54, _⟩ => ⟨S9x4x256x1024, .f32⟩
  | .hbm, ⟨55, _⟩ => ⟨S_, .f32⟩
  | .hbm, ⟨56, _⟩ => ⟨S9x4x1024, .f32⟩
  | .hbm, ⟨57, _⟩ => ⟨S9x4x1x1024, .f32⟩
  | .hbm, ⟨58, _⟩ => ⟨S9x4x256x1024, .f32⟩
  | .hbm, ⟨59, _⟩ => ⟨S9x4x256x1024, .f32⟩
  | .hbm, ⟨60, _⟩ => ⟨S_, .f32⟩
  | .hbm, ⟨61, _⟩ => ⟨S9x4x1024, .f32⟩
  | .hbm, ⟨62, _⟩ => ⟨S1x4x1024, .f32⟩
  | .hbm, ⟨63, _⟩ => ⟨S8x4x1024, .f32⟩
  | .hbm, ⟨64, _⟩ => ⟨S_, .f32⟩
  | .hbm, ⟨65, _⟩ => ⟨S4x1024, .f32⟩
  | .hbm, ⟨66, _⟩ => ⟨S_, .f32⟩
  | .hbm, ⟨67, _⟩ => ⟨S8x1024, .f32⟩
  | .hbm, ⟨68, _⟩ => ⟨S_, .f32⟩
  | .hbm, ⟨69, _⟩ => ⟨S4x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S8x1024, .f32⟩
  | .hbm, ⟨75, _⟩ => ⟨S8x1024, .f32⟩
  | .hbm, ⟨76, _⟩ => ⟨S_, .f32⟩
  | .hbm, ⟨77, _⟩ => ⟨S9x4x1024, .f32⟩
  | .hbm, ⟨78, _⟩ => ⟨S1x4x1024, .f32⟩
  | .hbm, ⟨79, _⟩ => ⟨S8x4x1024, .f32⟩
  | .hbm, ⟨80, _⟩ => ⟨S_, .f32⟩
  | .hbm, ⟨81, _⟩ => ⟨S4x1024, .f32⟩
  | .hbm, ⟨82, _⟩ => ⟨S_, .f32⟩
  | .hbm, ⟨83, _⟩ => ⟨S8x1024, .f32⟩
  | .hbm, ⟨84, _⟩ => ⟨S_, .f32⟩
  | .hbm, ⟨85, _⟩ => ⟨S4x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S_, .f32⟩
  | .hbm, ⟨90, _⟩ => ⟨S8x1024, .f32⟩
  | .hbm, ⟨91, _⟩ => ⟨S8x1024, .f32⟩
  | .hbm, ⟨92, _⟩ => ⟨S9216x1024, .f32⟩
  | .hbm, ⟨93, _⟩ => ⟨S9216x1024, .f32⟩
  | .hbm, ⟨94, _⟩ => ⟨S_, .f32⟩
  | .hbm, ⟨95, _⟩ => ⟨S1024, .f32⟩
  | .hbm, ⟨96, _⟩ => ⟨S1x1024, .f32⟩
  | .hbm, ⟨97, _⟩ => ⟨S9216x1024, .f32⟩
  | .hbm, ⟨98, _⟩ => ⟨S9216x1024, .f32⟩
  | .hbm, ⟨99, _⟩ => ⟨S_, .f32⟩
  | .hbm, ⟨100, _⟩ => ⟨S1024, .f32⟩
  | .hbm, ⟨101, _⟩ => ⟨S9216x1024, .f32⟩
  | .hbm, ⟨102, _⟩ => ⟨S_, .f32⟩
  | .hbm, ⟨103, _⟩ => ⟨S9216, .f32⟩
  | .hbm, ⟨104, _⟩ => ⟨S9216x1, .f32⟩
  | .hbm, ⟨105, _⟩ => ⟨S9216x1024, .f32⟩
  | .hbm, ⟨106, _⟩ => ⟨S9216x1024, .f32⟩
  | .hbm, ⟨107, _⟩ => ⟨S9216x1024, .f32⟩
  | .hbm, ⟨108, _⟩ => ⟨S9216x1, .f32⟩
  | .hbm, ⟨109, _⟩ => ⟨S_, .f32⟩
  | .hbm, ⟨110, _⟩ => ⟨S9216x1, .f32⟩
  | .hbm, ⟨111, _⟩ => ⟨S9216x1, .f32⟩
  | .hbm, ⟨112, _⟩ => ⟨S_, .f32⟩
  | .hbm, ⟨113, _⟩ => ⟨S9216, .f32⟩
  | .hbm, ⟨114, _⟩ => ⟨S9216x1024, .f32⟩
  | .hbm, ⟨115, _⟩ => ⟨S9216x1024, .f32⟩
  | .hbm, ⟨116, _⟩ => ⟨S9216x1024, .f32⟩
  | .hbm, ⟨117, _⟩ => ⟨S9216x1024, .f32⟩
  | .hbm, ⟨118, _⟩ => ⟨S9216x1024, .f32⟩
  | .hbm, ⟨119, _⟩ => ⟨S8192x1024, .f32⟩
  | .hbm, ⟨120, _⟩ => ⟨S8x4x256x1024, .f32⟩
  | .hbm, ⟨121, _⟩ => ⟨S4x8x256x1024, .f32⟩
  | .hbm, ⟨122, _⟩ => ⟨S8x1x1024, .f32⟩
  | .hbm, ⟨123, _⟩ => ⟨S8x1x1024, .f32⟩
  | .hbm, ⟨124, _⟩ => ⟨S1x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_cst_10 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_13 : Ref sig .tc := ⟨.hbm, 80, rfl⟩
abbrev main_v61 : Ref sig .tc := ⟨.hbm, 81, rfl⟩
abbrev main_cst_14 : Ref sig .tc := ⟨.hbm, 82, rfl⟩
abbrev main_v62 : Ref sig .tc := ⟨.hbm, 83, rfl⟩
abbrev main_cst_15 : Ref sig .tc := ⟨.hbm, 84, rfl⟩
abbrev main_v63 : Ref sig .tc := ⟨.hbm, 85, rfl⟩
abbrev main_cst_16 : Ref sig .tc := ⟨.hbm, 86, rfl⟩
abbrev main_v64 : Ref sig .tc := ⟨.hbm, 87, rfl⟩
abbrev main_v65 : Ref sig .tc := ⟨.hbm, 88, rfl⟩
abbrev main_cst_17 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_18 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_19 : Ref sig .tc := ⟨.hbm, 99, rfl⟩
abbrev main_v74 : Ref sig .tc := ⟨.hbm, 100, rfl⟩
abbrev main_v75 : Ref sig .tc := ⟨.hbm, 101, rfl⟩
abbrev main_cst_20 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_21 : Ref sig .tc := ⟨.hbm, 109, rfl⟩
abbrev main_v82 : Ref sig .tc := ⟨.hbm, 110, rfl⟩
abbrev main_v83 : Ref sig .tc := ⟨.hbm, 111, rfl⟩
abbrev main_cst_22 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩

abbrev nD : Nat := 1
abbrev τ : Topo := Topo.v7x

variable {F : FTy → Type} [FloatOps F]
-- ==== Proof.Reals.lean ====
module

public import Idealize.ShloMosaic.PureOps.Ideal.Laws
public import Idealize.ShloMosaic.PureOps

@[expose] public section

noncomputable section

/-! Extended reals that are real numbers, and what the operations do to them. -/

namespace Cert.Reals

open Idealize.ShloMosaic

/-- An extended real that is neither infinity. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) (f : ι → EReal) (h : ∀ i, IsReal (f i)) : IsReal (∑ i ∈ s, f i) := by
  classical
  refine Finset.sum_induction f IsReal (fun a b => IsReal.add) ⟨0, rfl⟩ fun i _ => h i

/-- A magnitude below the greatest extended real is a real number's. -/
theorem isReal_of_abs_lt_top {x : EReal} (h : max x (-x) < ⊤) : IsReal x := by
  induction x with
  | bot => simp at h
  | top => simp at h
  | coe r => exact ⟨r, rfl⟩

/-- The pattern of an infinite binary32 number. -/
theorem infinity : (Ideal.ofBits .f32 0x7F800000#32 : EReal) = ⊤ := by
  simp [Ideal.ofBits, Ideal.ieee]

/-- The logistic function of a real number, as the division that computes it. -/
theorem logistic_coe (x : ℝ) : Ideal.div 1 (1 + Ideal.exp (0 - (x : EReal))) = ((1 / (1 + Real.exp (-x)) : ℝ) : EReal) := by
  have hp : (0 : ℝ) < 1 + Real.exp (-x) := by positivity
  have e : (1 : EReal) + Ideal.exp (0 - (x : EReal)) = ((1 + Real.exp (-x) : ℝ) : EReal) := by
    rw [zero_sub, ← EReal.coe_neg]; rfl
  rw [e, Ideal.div_coe hp.ne', one_mul]

/-- The logistic function at the two infinities. -/
theorem logistic_top : Ideal.div 1 (1 + Ideal.exp (0 - (⊤ : EReal))) = 1 := by
  have e : (1 : EReal) + Ideal.exp (0 - (⊤ : EReal)) = ((1 : ℝ) : EReal) := by
    rw [zero_sub, EReal.neg_top, Ideal.exp_bot, add_zero, EReal.coe_one]
  rw [e, Ideal.div_coe one_ne_zero, one_mul, div_one, EReal.coe_one]

theorem logistic_bot : Ideal.div 1 (1 + Ideal.exp (0 - (⊥ : EReal))) = 0 := by
  have e : (1 : EReal) + Ideal.exp (0 - (⊥ : EReal)) = ⊤ := by
    rw [zero_sub, EReal.neg_bot, Ideal.exp_top]
    rfl
  rw [e]
  simp [Ideal.div]

/-- Its values are real numbers. -/
theorem isReal_logistic (x : EReal) : IsReal (Ideal.div 1 (1 + Ideal.exp (0 - x))) := by
  induction x with
  | bot => exact ⟨0, logistic_bot⟩
  | top => exact ⟨1, logistic_top⟩
  | coe r => exact ⟨_, logistic_coe r⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem isReal_one : IsReal 1 := ⟨1, rfl⟩

theorem isReal_tanh {x : EReal} (hx : IsReal x) : IsReal (Ideal.tanh x) := by
  obtain ⟨a, rfl⟩ := hx
  exact ⟨_, Ideal.tanh_coe a⟩

end Cert.Reals

end
-- ==== Proof.Finite.lean ====
module

public import proofs.«01_k».proof.Defs
public import proofs.«01_k».proof.Proof.Reals
public import Idealize.ShloMosaic.Lib.ReduceAll
public import Idealize.ShloMosaic.Lib.IdealHost

@[expose] public section

noncomputable section

/-! What the precondition says: the elements of the arguments it names are real numbers. -/

namespace Cert.Finite

open Idealize.ShloMosaic Cert.Reals

theorem facts : Cert.Pre_finite.Facts where
  bitsLt_bf16_f32 := by decide
  bcast_S_S9216x1024 := by decide
  reducesTo_S9216x1024_S_d0_1 := by decide
  h_S_ := by decide
  bcast_S_S1024x2816 := by decide
  reducesTo_S1024x2816_S_d0_1 := by decide
  bcast_S_S2816x1024 := by decide
  reducesTo_S2816x1024_S_d0_1 := by decide

/-- "The magnitude is below infinity", as the comparison's bit. -/
theorem isReal_of_bit {x y : EReal} (hy : y = ⊤) (h : Ideal.cmp .olt (max x (-x)) y = 1#1) : IsReal x := by
  subst hy
  refine isReal_of_abs_lt_top ?_
  by_contra hn
  simp [Ideal.cmp, hn] at h

/-- The input, the two weights besides the gate's and the gradient of the result are real numbers. -/
theorem isReal_args [Cert.Pre_finite.Facts] (h : FVec Ideal Pre_finite.S9216x1024 .bf16) (wg wu : FVec Ideal Pre_finite.S1024x2816 .f32)
    (wd : FVec Ideal Pre_finite.S2816x1024 .f32) (df : FVec Ideal Pre_finite.S9216x1024 .bf16)
    (e : Cert.Pre_finite.fn (F := Ideal) h wg wu wd df = fun _ => 1#1) :
    (∀ i, IsReal (h i)) ∧ (∀ i, IsReal (wu i)) ∧ (∀ i, IsReal (wd i)) ∧ ∀ i, IsReal (df i) := by
  have e := congrFun e fun a => a.elim0
  dsimp only [Pre_finite.fn, Pre_finite.fn_part1] at e
  obtain ⟨e, e3⟩ := IntOp.andi_eq_one.1 e
  obtain ⟨e, e2⟩ := IntOp.andi_eq_one.1 e
  obtain ⟨e0, e1⟩ := IntOp.andi_eq_one.1 e
  exact ⟨fun i => isReal_of_bit infinity (Host.reduce_andi_all _ _ _ _ _ e0 i),
    fun i => isReal_of_bit infinity (Host.reduce_andi_all _ _ _ _ _ e1 i),
    fun i => isReal_of_bit infinity (Host.reduce_andi_all _ _ _ _ _ e2 i),
    fun i => isReal_of_bit infinity (Host.reduce_andi_all _ _ _ _ _ e3 i)⟩

theorem facts14 : Cert.Pre_finite14.Facts where
  bitsLt_bf16_f32 := by decide
  bcast_S_S9216x1280 := by decide
  reducesTo_S9216x1280_S_d0_1 := by decide
  h_S_ := by decide
  bcast_S_S9216x1024 := by decide
  reducesTo_S9216x1024_S_d0_1 := by decide
  bcast_S_S9216x512 := by decide
  reducesTo_S9216x512_S_d0_1 := by decide
  bcast_S_S32x16 := by decide
  reducesTo_S32x16_S_d0_1 := by decide
  bcast_S_S512x512 := by decide
  reducesTo_S512x512_S_d0_1 := by decide

/-- Of the gated unit's gradient every argument but the gate's bias is made of real numbers. -/
theorem isReal_args14 [Cert.Pre_finite14.Facts] (z : FVec Ideal Pre_finite14.S9216x1280 .bf16)
    (ct : FVec Ideal Pre_finite14.S9216x1024 .bf16) (ys : FVec Ideal Pre_finite14.S9216x512 .f32)
    (d : FVec Ideal Pre_finite14.S32x16 .f32) (w : FVec Ideal Pre_finite14.S512x512 .f32) (b : FVec Ideal Pre_finite14.S512 .f32)
    (e : Cert.Pre_finite14.fn (F := Ideal) z ct ys d w b = fun _ => 1#1) :
    (∀ i, IsReal (z i)) ∧ (∀ i, IsReal (ct i)) ∧ (∀ i, IsReal (ys i)) ∧ (∀ i, IsReal (d i)) ∧ ∀ i, IsReal (w i) := by
  have e := congrFun e fun a => a.elim0
  dsimp only [Pre_finite14.fn, Pre_finite14.fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => isReal_of_bit infinity (Host.reduce_andi_all _ _ _ _ _ e0 i),
    fun i => isReal_of_bit infinity (Host.reduce_andi_all _ _ _ _ _ e1 i),
    fun i => isReal_of_bit infinity (Host.reduce_andi_all _ _ _ _ _ e2 i),
    fun i => isReal_of_bit infinity (Host.reduce_andi_all _ _ _ _ _ e3 i),
    fun i => isReal_of_bit infinity (Host.reduce_andi_all _ _ _ _ _ e4 i)⟩

theorem facts35 : Cert.Pre_finite35.Facts where
  bcast_S_S4x1x1024 := by decide
  reducesTo_S4x1x1024_S_d0_1_2 := by decide
  h_S_ := by decide

/-- The devices' parts of the context's gradient are real numbers. -/
theorem isReal_args35 [Cert.Pre_finite35.Facts] (d : FVec Ideal Pre_finite35.S8x2x8x6144 .f32)
    (g : FVec Ideal Pre_finite35.S4x1x1024 .f32) (x : FVec Ideal Pre_finite35.S1024 .f32)
    (e : Cert.Pre_finite35.fn (F := Ideal) d g x = fun _ => 1#1) : ∀ i, IsReal (g i) := by
  have e := congrFun e fun a => a.elim0
  dsimp only [Pre_finite35.fn] at e
  exact fun i => isReal_of_bit infinity (Host.reduce_andi_all _ _ _ _ _ e i)

end Cert.Finite

end
-- ==== Proof.Ffn.Kernel.lean ====
module

public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Ffn

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

theorem idx : ∀ t : Fin cfg0.N, win0_0.index t = ![t.val % 18, 0] ∧ win0_1.index t = ![t.val / 18, 0]
    ∧ win0_2.index t = ![t.val % 18, t.val / 18] ∧ win0_3.index t = ![t.val % 18, t.val / 18]
    ∧ win0_4.index t = ![t.val % 18, t.val / 18] ∧ win0_5.index t = ![t.val % 18, t.val / 18] :=
  (by decide +kernel : ∀ t : Fin grid0.N, _)

def preact (h : FVec Ideal S9216x1024 .bf16) (w : FVec Ideal S1024x2816 .f32) : FVec Ideal S9216x2816 .bf16 := fun i =>
  ∑ k : Fin 1024, h (ix2 (i 0) k) * w (ix2 k (i 1))

def actGrad (df : FVec Ideal S9216x1024 .bf16) (wd : FVec Ideal S2816x1024 .f32) : FVec Ideal S9216x2816 .bf16 := fun i =>
  ∑ k : Fin 1024, df (ix2 (i 0) k) * wd (ix2 (i 1) k)

def sigm (x : EReal) : EReal := Ideal.div 1 (1 + Ideal.exp (0 - x))

def gateGrad (h : FVec Ideal S9216x1024 .bf16) (wg wu : FVec Ideal S1024x2816 .f32)
    (wd : FVec Ideal S2816x1024 .f32) (df : FVec Ideal S9216x1024 .bf16) : FVec Ideal S9216x2816 .bf16 := fun j =>
  actGrad df wd j * preact h wu j * (sigm (preact h wg j) * (1 + preact h wg j * (1 - sigm (preact h wg j))))

def upGrad (h : FVec Ideal S9216x1024 .bf16) (wg : FVec Ideal S1024x2816 .f32)
    (wd : FVec Ideal S2816x1024 .f32) (df : FVec Ideal S9216x1024 .bf16) : FVec Ideal S9216x2816 .bf16 := fun j =>
  actGrad df wd j * preact h wg j * sigm (preact h wg j)

def A0 (c : Dev nD) := (m ((c : Thread nD τ).loc main_arg0) : FVec Ideal S9216x1024 .bf16)
def A1 (c : Dev nD) := (m ((c : Thread nD τ).loc main_arg1) : FVec Ideal S1024x2816 .f32)
def A2 (c : Dev nD) := (m ((c : Thread nD τ).loc main_arg2) : FVec Ideal S1024x2816 .f32)
def A3 (c : Dev nD) := (m ((c : Thread nD τ).loc main_arg3) : FVec Ideal S2816x1024 .f32)
def A4 (c : Dev nD) := (m ((c : Thread nD τ).loc main_arg4) : FVec Ideal S9216x1024 .bf16)

theorem rows (t : Fin cfg0.N) (a : Fin 512) : 512 * (t.val % 18) + a.val < 9216 := by omega
theorem cols (t : Fin cfg0.N) (b : Fin 1408) : 1408 * (t.val / 18) + b.val < 2816 := by
  have : t.val < 36 := t.isLt
  omega

theorem blk0 (c : Dev nD) (t : Fin cfg0.N) (a : Fin 512) (k : Fin 1024) :
    iblk m c 0 t (ix2 a k) = A4 m c (ix2 ⟨512 * (t.val % 18) + a.val, rows t a⟩ k) := by
  blk_point [iblk, V, A4, idx t]

theorem blk1 (c : Dev nD) (t : Fin cfg0.N) (b : Fin 1408) (k : Fin 1024) :
    iblk m c 1 t (ix2 b k) = A3 m c (ix2 ⟨1408 * (t.val / 18) + b.val, cols t b⟩ k) := by
  have e : V m c main_v5 = A3 m c := by entry_read; rfl
  blk_point [iblk, e, idx t]

theorem blk2 (c : Dev nD) (t : Fin cfg0.N) (a : Fin 512) (b : Fin 1408) :
    iblk m c 2 t (ix2 a b) = preact (A0 m c) (A1 m c) (ix2 ⟨512 * (t.val % 18) + a.val, rows t a⟩ ⟨1408 * (t.val / 18) + b.val, cols t b⟩) := by
  have e : V m c main_v2 = preact (A0 m c) (A1 m c) := by
    funext i; entry_read; pointwise [preact, A0, A1]
  generalize preact (A0 m c) (A1 m c) = X at e ⊢
  blk_point [iblk, e, idx t]

theorem blk3 (c : Dev nD) (t : Fin cfg0.N) (a : Fin 512) (b : Fin 1408) :
    iblk m c 3 t (ix2 a b) = preact (A0 m c) (A2 m c) (ix2 ⟨512 * (t.val % 18) + a.val, rows t a⟩ ⟨1408 * (t.val / 18) + b.val, cols t b⟩) := by
  have e : V m c main_v4 = preact (A0 m c) (A2 m c) := by
    funext i; entry_read; pointwise [preact, A0, A2]
  generalize preact (A0 m c) (A2 m c) = X at e ⊢
  blk_point [iblk, e, idx t]

theorem emb4 (X : FVec Ideal S9216x2816 .bf16) (t : Fin cfg0.N) (y : S512x1408.Idx) :
    X ((win0_4.blk t).view.emb y) = X (ix2 ⟨512 * (t.val % 18) + (y 0).val, rows t (y 0)⟩ ⟨1408 * (t.val / 18) + (y 1).val, cols t (y 1)⟩) := by
  blk_point [idx t]

theorem emb5 (X : FVec Ideal S9216x2816 .bf16) (t : Fin cfg0.N) (y : S512x1408.Idx) :
    X ((win0_5.blk t).view.emb y) = X (ix2 ⟨512 * (t.val % 18) + (y 0).val, rows t (y 0)⟩ ⟨1408 * (t.val / 18) + (y 1).val, cols t (y 1)⟩) := by
  blk_point [idx t]

theorem final4 (c : Dev nD) : (dats m 0 c).arrAt 4 cfg0.N = gateGrad (A0 m c) (A1 m c) (A2 m c) (A3 m c) (A4 m c) := by
  refine (dats m 0 c).arrAt_eq_of_covers 4 _ (by decide +kernel) fun t hf y => ?_
  blk_simp
  refine Eq.trans ?_ (emb4 _ t y).symm
  rw [after0_4]
  unfold outsAt0
  frame_out
  canon_tiles x h using View.cover_of_tiledBy _ ![512, 128] (by sl_kernel_rfl) _
  all_goals (open_payloads; pointwise)
  all_goals idx_vars x
  all_goals (simp only [blk0, blk1, blk2, blk3, gateGrad, actGrad, sigm, h0, h1])
  all_goals rfl

theorem final5 (c : Dev nD) : (dats m 0 c).arrAt 5 cfg0.N = upGrad (A0 m c) (A1 m c) (A3 m c) (A4 m c) := by
  refine (dats m 0 c).arrAt_eq_of_covers 5 _ (by decide +kernel) fun t hf y => ?_
  blk_simp
  refine Eq.trans ?_ (emb5 _ t y).symm
  rw [after0_5]
  unfold outsAt0
  frame_out
  canon_tiles x h using View.cover_of_tiledBy _ ![512, 128] (by sl_kernel_rfl) _
  all_goals (open_payloads; pointwise)
  all_goals idx_vars x
  all_goals (simp only [blk0, blk1, blk2, blk3, upGrad, actGrad, sigm, h0, h1])
  all_goals rfl
end Cert.KernelIdeal.Ffn
-- ==== Proof.Ffn.Reference.lean ====
module

public import proofs.«01_k».proof.Proof.Gen.ReferenceIdeal.Read
public import proofs.«01_k».proof.Proof.Ffn.Kernel
public import proofs.«01_k».proof.Proof.Reals
public import Idealize.ShloMosaic.Lib.Pointwise

/-! The reference's two gradients are the kernel's. -/

@[expose] public section

set_option maxRecDepth 16384

noncomputable section

namespace Cert.ReferenceIdeal.Ffn

open Idealize.ShloMosaic Idealize.ShloMosaic.TcCoe Idealize.SL.Sem
open Cert.ReferenceIdeal Cert.ReferenceIdeal.Gen

variable (m : (ℓ : Loc nD τ sig) → Buf (Elt Ideal) ℓ)

open Cert.KernelIdeal.Ffn Cert.Reals

/-- The derivative of a gate times its logistic, at any gate. -/
theorem gate_identity {d u : EReal} (hd : IsReal d) (hu : IsReal u) (g : EReal) :
    d * u * sigm g + g * (d * u) * (sigm g * (1 - sigm g)) = d * u * (sigm g * (1 + g * (1 - sigm g))) := by
  obtain ⟨d, rfl⟩ := hd
  obtain ⟨u, rfl⟩ := hu
  have e : (1 : EReal) - 1 = 0 := by rw [← EReal.coe_one, ← EReal.coe_sub, sub_self, EReal.coe_zero]
  induction g with
  | top =>
    rw [sigm, logistic_top, e]
    simp only [mul_zero, add_zero, mul_one]
  | bot =>
    rw [sigm, logistic_bot]
    simp only [zero_mul, mul_zero, add_zero]
  | coe g =>
    rw [sigm, logistic_coe]
    generalize 1 / (1 + Real.exp (-g)) = s
    norm_cast
    ring

/-- The logistic function with its argument's negative written as a negation. -/
theorem sigm_eq (x : EReal) : sigm x = Ideal.div 1 (1 + Ideal.exp (-x)) := by
  rw [sigm, zero_sub]

/-- A finite sum of products of real numbers is a real number. -/
theorem isReal_dot {n : Nat} (f g : Fin n → EReal) (hf : ∀ k, IsReal (f k)) (hg : ∀ k, IsReal (g k)) :
    IsReal (∑ k, f k * g k) :=
  IsReal.sum _ _ fun k => (hf k).mul (hg k)

/-- The reference's gradient with respect to the gate's preactivation. -/
theorem ref_gate (h : FVec Ideal S9216x1024 .bf16) (wg wu : FVec Ideal S1024x2816 .f32) (wd : FVec Ideal S2816x1024 .f32)
    (df : FVec Ideal S9216x1024 .bf16) (hh : ∀ i, IsReal (h i)) (hu : ∀ i, IsReal (wu i))
    (hd : ∀ i, IsReal (wd i)) (hf : ∀ i, IsReal (df i)) :
    Read.val_main_v11 (F := Ideal) h wg wu wd df = gateGrad h wg wu wd df := by
  rw [← Read.val_main_v11_eq]
  funext i
  pointwise
  simp only [← sigm_eq]
  exact gate_identity (isReal_dot _ _ (fun k => hf _) fun k => hd _) (isReal_dot _ _ (fun k => hh _) fun k => hu _) _

/-- The reference's gradient with respect to the other preactivation. -/
theorem ref_up (h : FVec Ideal S9216x1024 .bf16) (wg : FVec Ideal S1024x2816 .f32) (wd : FVec Ideal S2816x1024 .f32)
    (df : FVec Ideal S9216x1024 .bf16) :
    Read.val_main_v12 (F := Ideal) h wg wd df = upGrad h wg wd df := by
  rw [← Read.val_main_v12_eq]
  funext i
  pointwise [upGrad, preact, actGrad]
  simp only [← sigm_eq]
  rw [mul_comm, ← mul_assoc]

end Cert.ReferenceIdeal.Ffn

end
-- ==== Proof.Products.FfnInput.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

/-! The gradient of the gated layer's input: the sum of two products with transposed weights. -/

@[expose] public section

set_option maxRecDepth 16384

noncomputable section

namespace Cert.Kernel2Ideal.Product

open Idealize.ShloMosaic Idealize.ShloMosaic.TcCoe Idealize.SL.Sem
open Cert.Kernel2Ideal Cert.Kernel2Ideal.Gen
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] :=
  (by decide +kernel : ∀ t : Fin grid0.N, _)

/-- The sum of the two products. -/
def target (wg wu : FVec Ideal S1024x2816 .f32) (dg du : FVec Ideal S9216x2816 .bf16) : FVec Ideal S9216x1024 .bf16 := fun i =>
  (∑ k : Fin 2816, dg (ix2 (i 0) k) * wg (ix2 (i 1) k)) + ∑ k : Fin 2816, du (ix2 (i 0) k) * wu (ix2 (i 1) k)

def A1 (c : Dev nD) := (m ((c : Thread nD τ).loc main_arg1) : FVec Ideal S1024x2816 .f32)
def A2 (c : Dev nD) := (m ((c : Thread nD τ).loc main_arg2) : FVec Ideal S1024x2816 .f32)
def A3 (c : Dev nD) := (m ((c : Thread nD τ).loc main_arg3) : FVec Ideal S9216x2816 .bf16)
def A4 (c : Dev nD) := (m ((c : Thread nD τ).loc main_arg4) : FVec Ideal S9216x2816 .bf16)

theorem rows (t : Fin cfg0.N) (a : Fin 512) : 512 * t.val + a.val < 9216 := by
  have : t.val < 18 := t.isLt
  omega

theorem blk0 (c : Dev nD) (t : Fin cfg0.N) (a : Fin 512) (k : Fin 2816) :
    iblk m c 0 t (ix2 a k) = A3 m c (ix2 ⟨512 * t.val + a.val, rows t a⟩ k) := by
  blk_point [iblk, V, A3, idx t]

theorem blk2 (c : Dev nD) (t : Fin cfg0.N) (a : Fin 512) (k : Fin 2816) :
    iblk m c 2 t (ix2 a k) = A4 m c (ix2 ⟨512 * t.val + a.val, rows t a⟩ k) := by
  blk_point [iblk, V, A4, idx t]

theorem entry1 (c : Dev nD) (k : Fin 2816) (b : Fin 1024) : V m c main_v1 (ix2 k b) = A1 m c (ix2 b k) := by
  entry_read
  pointwise [A1]

theorem entry3 (c : Dev nD) (k : Fin 2816) (b : Fin 1024) : V m c main_v3 (ix2 k b) = A2 m c (ix2 b k) := by
  entry_read
  pointwise [A2]

theorem blk1 (c : Dev nD) (t : Fin cfg0.N) (k : Fin 2816) (b : Fin 1024) :
    iblk m c 1 t (ix2 k b) = A1 m c (ix2 b k) := by
  refine Eq.trans ?_ (entry1 m c k b)
  blk_point [iblk, idx t]

theorem blk3 (c : Dev nD) (t : Fin cfg0.N) (k : Fin 2816) (b : Fin 1024) :
    iblk m c 3 t (ix2 k b) = A2 m c (ix2 b k) := by
  refine Eq.trans ?_ (entry3 m c k b)
  blk_point [iblk, idx t]

theorem emb4 (X : FVec Ideal S9216x1024 .bf16) (t : Fin cfg0.N) (y : S512x1024.Idx) :
    X ((win0_4.blk t).view.emb y) = X (ix2 ⟨512 * t.val + (y 0).val, rows t (y 0)⟩ (y 1)) := by
  blk_point [idx t]

/-- What the launch leaves in its output. -/
theorem final (c : Dev nD) : (dats m 0 c).arrAt 4 cfg0.N = target (A1 m c) (A2 m c) (A3 m c) (A4 m c) := by
  refine (dats m 0 c).arrAt_eq_of_covers 4 _ (by decide +kernel) fun t hf y => ?_
  blk_simp
  refine Eq.trans ?_ (emb4 _ t y).symm
  rw [after0_4]
  frame_out
  pointwise [k0_pay1]
  idx_vars y
  simp only [blk0, blk1, blk2, blk3, target]
  rfl

/-- What the reference computes. -/
theorem reference (wg wu : FVec Ideal S1024x2816 .f32) (dg du : FVec Ideal S9216x2816 .bf16) :
    Cert.Reference2Ideal.Read.val_main_v8 (F := Ideal) wg wu dg du = target wg wu dg du := by
  rw [← Cert.Reference2Ideal.Read.val_main_v8_eq]
  funext i
  pointwise [target]
  exact add_comm _ _

/-- The reference finishes and leaves its arguments as they were. -/
theorem reference_frame : Cert.quiescent_Reference2Ideal := fun m g _ =>
  (θ_run Cert.Reference2Ideal.defs _ _).mono
    (fun r h => ⟨fun c => (h c).2, sem_eq_zero_of_no_sems (by decide) r.2⟩)
    (Cert.Reference2Ideal.Value.run m g)

/-- The kernel and the reference compute the same array over the reals. -/
theorem algebraic : Cert.algebraic_Kernel2Ideal_Reference2Ideal := by
  pair_intro
  · run_from Cert.Kernel2Ideal.Gen.run_main m g
  · run_from Cert.Reference2Ideal.Value.run m' g'
    exact (reference _ _ _ _).trans (final m c).symm

end Cert.Kernel2Ideal.Product

end
-- ==== Proof.Products.GateWeight.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

/-! The gradient of the gate's weight: a product over the 9216 rows, summed in six parts of 1536 rows. -/

@[expose] public section

set_option maxRecDepth 16384

noncomputable section

namespace Cert.Kernel3Ideal.Product

open Idealize.ShloMosaic Idealize.ShloMosaic.TcCoe Idealize.SL.Sem
open Cert.Kernel3Ideal Cert.Kernel3Ideal.Gen
open Idealize.ShloMosaic.Pipeline (Dat)

variable (m : (ℓ : Loc nD τ sig) → Buf (Elt Ideal) ℓ)

theorem idx : ∀ t : Fin cfg0.N, win0_0.index t = ![t.val % 6, t.val / 6] ∧ win0_1.index t = ![t.val % 6, 0]
    ∧ win0_2.index t = ![t.val / 6, 0] :=
  (by decide +kernel : ∀ t : Fin grid0.N, _)

/-- The product of the transpose of `a` with `b`: the sum over the rows of both. -/
def target (a : FVec Ideal S9216x2816 .bf16) (b : FVec Ideal S9216x1024 .bf16) : FVec Ideal S2816x1024 .bf16 := fun i =>
  ∑ k : Fin 9216, a (ix2 k (i 0)) * b (ix2 k (i 1))

def left (c : Dev nD) := (m ((c : Thread nD τ).loc main_arg2) : FVec Ideal S9216x2816 .bf16)
def right (c : Dev nD) := (m ((c : Thread nD τ).loc main_arg0) : FVec Ideal S9216x1024 .bf16)

theorem rows (t : Fin cfg0.N) (k : Fin 1536) : 1536 * (t.val % 6) + k.val < 9216 := by omega
theorem cols (t : Fin cfg0.N) (a : Fin 1408) : 1408 * (t.val / 6) + a.val < 2816 := by
  have : t.val < 12 := t.isLt
  omega

theorem blk0 (c : Dev nD) (t : Fin cfg0.N) (k : Fin 1536) (a : Fin 1408) :
    iblk m c 0 t (ix2 k a) = left m c (ix2 ⟨1536 * (t.val % 6) + k.val, rows t k⟩ ⟨1408 * (t.val / 6) + a.val, cols t a⟩) := by
  blk_point [iblk, V, left, idx t]

theorem blk1 (c : Dev nD) (t : Fin cfg0.N) (k : Fin 1536) (b : Fin 1024) :
    iblk m c 1 t (ix2 k b) = right m c (ix2 ⟨1536 * (t.val % 6) + k.val, rows t k⟩ b) := by
  blk_point [iblk, V, right, idx t]

theorem emb2 (X : FVec Ideal S2816x1024 .bf16) (t : Fin cfg0.N) (y : S1408x1024.Idx) :
    X ((win0_2.blk t).view.emb y) = X (ix2 ⟨1408 * (t.val / 6) + (y 0).val, cols t (y 0)⟩ (y 1)) := by
  blk_point [idx t]

/-- One step adds the product of its two blocks. -/
def part (x : Vec Ideal S1536x1408 .bf16) (y : Vec Ideal S1536x1024 .bf16) (i : S1408x1024.Idx) : EReal :=
  ∑ k : Fin 1536, x (ix2 k (i 0)) * y (ix2 k (i 1))

theorem step (acc : Vec Ideal S1408x1024 .f32) (x : Vec Ideal S1536x1408 .bf16) (y : Vec Ideal S1536x1024 .bf16)
    (i : S1408x1024.Idx) : k0_pay2 acc x y i = acc i + part x y i := by
  pointwise [k0_pay2, part]

theorem zero (i : S1408x1024.Idx) : k0_pay1 (F := Ideal) i = 0 := by
  pointwise [k0_pay1]

/-- The accumulator after the last of a block's six steps. -/
theorem acc_last (c : Dev nD) (t : Fin cfg0.N) (h : t.val % 6 = 5) (i : S1408x1024.Idx) :
    (outsAt0 m c t.val t.isLt).2 i
      = ∑ s : Fin 6, part (iblk m c 0 ⟨6 * (t.val / 6) + s.val, Pipeline.run_point_lt_of_flush t h s⟩)
          (iblk m c 1 ⟨6 * (t.val / 6) + s.val, Pipeline.run_point_lt_of_flush t h s⟩) i := by
  rw [Pipeline.eq_sum_fin_of_reset_step_apply_of_flush (fun n h => (outsAt0 m c n h).2) 6 (fun _ => 0)
    (fun t i => part (iblk m c 0 t) (iblk m c 1 t) i) (fun t h i => ?_) (fun t h i => ?_) t h i, zero_add]
  · rw [outsAt0_A m c t h (by omega)]
    frame_out
    rw [step, zero]
  · by_cases h5 : t.val % 6 = 5
    · rw [outsAt0_C m c t h h5]
      frame_out
      rw [step, read_unread_whole]
    · rw [outsAt0_B m c t h h5]
      frame_out
      rw [step, read_unread_whole]

/-- The accumulator after the last step of a block is the sum over all rows. -/
theorem acc_last_sum (c : Dev nD) (t : Fin cfg0.N) (h : t.val % 6 = 5) (i : S1408x1024.Idx) :
    (outsAt0 m c t.val t.isLt).2 i
      = target (left m c) (right m c) (ix2 ⟨1408 * (t.val / 6) + (i 0).val, cols t (i 0)⟩ (i 1)) := by
  rw [acc_last m c t h i]
  unfold part target
  refine Fin.sum_mul_add_congr fun s k hl => ?_
  refine congrArg₂ (· * ·) ((blk0 m c _ k _).trans (congrArg _ (congrArg₂ ix2 (Fin.ext ?_) (Fin.ext ?_))))
    ((blk1 m c _ k _).trans (congrArg _ (congrArg₂ ix2 (Fin.ext ?_) rfl)))
  all_goals
    dsimp
    omega

/-- What the launch leaves in its output. -/
theorem final (c : Dev nD) : (dats m 0 c).arrAt 2 cfg0.N = target (left m c) (right m c) := by
  refine (dats m 0 c).arrAt_eq_of_covers 2 _ (by decide +kernel) fun t hf y => ?_
  have h5 : t.val % 6 = 5 := (flush0_2 t).mp hf
  blk_simp
  refine Eq.trans ?_ (emb2 _ t y).symm
  rw [after0_2]
  refine Eq.trans ?_ (acc_last_sum m c t h5 y)
  rw [outsAt0_C m c t (by omega) h5]
  frame_out
  rfl

/-- What the reference computes. -/
theorem reference (h : FVec Ideal S9216x1024 .bf16) (d : FVec Ideal S9216x2816 .bf16) :
    Cert.Reference3Ideal.Read.val_main_v6 (F := Ideal) h d = target d h := by
  rw [← Cert.Reference3Ideal.Read.val_main_v6_eq]
  funext i
  pointwise [target]

/-- The reference finishes and leaves its arguments as they were. -/
theorem reference_frame : Cert.quiescent_Reference3Ideal := fun m g _ =>
  (θ_run Cert.Reference3Ideal.defs _ _).mono
    (fun r h => ⟨fun c => (h c).2, sem_eq_zero_of_no_sems (by decide) r.2⟩)
    (Cert.Reference3Ideal.Value.run m g)

/-- The kernel and the reference compute the same array over the reals. -/
theorem algebraic : Cert.algebraic_Kernel3Ideal_Reference3Ideal := by
  pair_intro
  · run_from Cert.Kernel3Ideal.Gen.run_main m g
  · run_from Cert.Reference3Ideal.Value.run m' g'
    exact (reference _ _).trans (final m c).symm

end Cert.Kernel3Ideal.Product

end
-- ==== Proof.Swiglu.lean ====
module

public import proofs.«01_k».proof.KernelIdeal
public import Idealize.ShloMosaic.PureOps.Ideal.Laws
public import Idealize.ShloMosaic.Lib.Pointwise

/-! The gated layer's two preactivations and its activation, as functions of the input and the two weights. -/

@[expose] public section

noncomputable section

namespace Cert.Swiglu

open Idealize.ShloMosaic Idealize.ShloMosaic.TcCoe
open Cert.KernelIdeal

/-- A row of the input times a column of a weight. -/
def preact (h : FVec Ideal S9216x1024 .bf16) (w : FVec Ideal S1024x2816 .f32) : FVec Ideal S9216x2816 .bf16 := fun i =>
  ∑ k : Fin 1024, h (ix2 (i 0) k) * w (ix2 k (i 1))

/-- The activation: the gate's preactivation times its logistic, times the other preactivation. -/
def act (h : FVec Ideal S9216x1024 .bf16) (wg wu : FVec Ideal S1024x2816 .f32) : FVec Ideal S9216x2816 .bf16 := fun i =>
  preact h wg i * Ideal.div 1 (1 + Ideal.exp (-preact h wg i)) * preact h wu i

end Cert.Swiglu

end
-- ==== Proof.Products.DownWeight.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init
public import proofs.«01_k».proof.Proof.Swiglu

/-! The gradient of the down weight: a product over the 9216 rows, summed in six parts of 1536 rows. -/

@[expose] public section

set_option maxRecDepth 16384

noncomputable section

namespace Cert.Kernel4Ideal.Product

open Idealize.ShloMosaic Idealize.ShloMosaic.TcCoe Idealize.SL.Sem
open Cert.Kernel4Ideal Cert.Kernel4Ideal.Gen
open Idealize.ShloMosaic.Pipeline (Dat)

variable (m : (ℓ : Loc nD τ sig) → Buf (Elt Ideal) ℓ)

theorem idx : ∀ t : Fin cfg0.N, win0_0.index t = ![t.val % 6, t.val / 6] ∧ win0_1.index t = ![t.val % 6, 0]
    ∧ win0_2.index t = ![t.val / 6, 0] :=
  (by decide +kernel : ∀ t : Fin grid0.N, _)

/-- The product of the transpose of `a` with `b`: the sum over the rows of both. -/
def target (a : FVec Ideal S9216x2816 .bf16) (b : FVec Ideal S9216x1024 .bf16) : FVec Ideal S2816x1024 .bf16 := fun i =>
  ∑ k : Fin 9216, a (ix2 k (i 0)) * b (ix2 k (i 1))

open Cert.Swiglu

def A0 (c : Dev nD) := (m ((c : Thread nD τ).loc main_arg0) : FVec Ideal S9216x1024 .bf16)
def A1 (c : Dev nD) := (m ((c : Thread nD τ).loc main_arg1) : FVec Ideal S1024x2816 .f32)
def A2 (c : Dev nD) := (m ((c : Thread nD τ).loc main_arg2) : FVec Ideal S1024x2816 .f32)
def left (c : Dev nD) := act (A0 m c) (A1 m c) (A2 m c)
def right (c : Dev nD) := (m ((c : Thread nD τ).loc main_arg4) : FVec Ideal S9216x1024 .bf16)

theorem entry (c : Dev nD) : V m c main_v5 = left m c := by
  funext i
  simp only [V, hostOps0, hostOps0_1, hostOps0_2, List.flatten_cons, List.flatten_nil, List.append_nil, List.cons_append,
    List.nil_append]
  after_results
  simp only [StableHlo.TRef.ofBuf_toBuf]
  simp -implicitDefEqProofs only [StableHlo.TRef.toBuf, StableHlo.TRef.ofBuf, StableHlo.TRef.of, cast_eq]
  pointwise [left, act, preact, A0, A1, A2]

theorem rows (t : Fin cfg0.N) (k : Fin 1536) : 1536 * (t.val % 6) + k.val < 9216 := by omega
theorem cols (t : Fin cfg0.N) (a : Fin 1408) : 1408 * (t.val / 6) + a.val < 2816 := by
  have : t.val < 12 := t.isLt
  omega

theorem blk0 (c : Dev nD) (t : Fin cfg0.N) (k : Fin 1536) (a : Fin 1408) :
    iblk m c 0 t (ix2 k a) = left m c (ix2 ⟨1536 * (t.val % 6) + k.val, rows t k⟩ ⟨1408 * (t.val / 6) + a.val, cols t a⟩) := by
  have e := entry m c
  generalize left m c = X at e ⊢
  blk_point [iblk, e, idx t]

theorem blk1 (c : Dev nD) (t : Fin cfg0.N) (k : Fin 1536) (b : Fin 1024) :
    iblk m c 1 t (ix2 k b) = right m c (ix2 ⟨1536 * (t.val % 6) + k.val, rows t k⟩ b) := by
  blk_point [iblk, V, right, idx t]

theorem emb2 (X : FVec Ideal S2816x1024 .bf16) (t : Fin cfg0.N) (y : S1408x1024.Idx) :
    X ((win0_2.blk t).view.emb y) = X (ix2 ⟨1408 * (t.val / 6) + (y 0).val, cols t (y 0)⟩ (y 1)) := by
  blk_point [idx t]

/-- One step adds the product of its two blocks. -/
def part (x : Vec Ideal S1536x1408 .bf16) (y : Vec Ideal S1536x1024 .bf16) (i : S1408x1024.Idx) : EReal :=
  ∑ k : Fin 1536, x (ix2 k (i 0)) * y (ix2 k (i 1))

theorem step (acc : Vec Ideal S1408x1024 .f32) (x : Vec Ideal S1536x1408 .bf16) (y : Vec Ideal S1536x1024 .bf16)
    (i : S1408x1024.Idx) : k0_pay2 acc x y i = acc i + part x y i := by
  pointwise [k0_pay2, part]

theorem zero (i : S1408x1024.Idx) : k0_pay1 (F := Ideal) i = 0 := by
  pointwise [k0_pay1]

/-- The accumulator after the last of a block's six steps. -/
theorem acc_last (c : Dev nD) (t : Fin cfg0.N) (h : t.val % 6 = 5) (i : S1408x1024.Idx) :
    (outsAt0 m c t.val t.isLt).2 i
      = ∑ s : Fin 6, part (iblk m c 0 ⟨6 * (t.val / 6) + s.val, Pipeline.run_point_lt_of_flush t h s⟩)
          (iblk m c 1 ⟨6 * (t.val / 6) + s.val, Pipeline.run_point_lt_of_flush t h s⟩) i := by
  rw [Pipeline.eq_sum_fin_of_reset_step_apply_of_flush (fun n h => (outsAt0 m c n h).2) 6 (fun _ => 0)
    (fun t i => part (iblk m c 0 t) (iblk m c 1 t) i) (fun t h i => ?_) (fun t h i => ?_) t h i, zero_add]
  · rw [outsAt0_A m c t h (by omega)]
    frame_out
    rw [step, zero]
  · by_cases h5 : t.val % 6 = 5
    · rw [outsAt0_C m c t h h5]
      frame_out
      rw [step, read_unread_whole]
    · rw [outsAt0_B m c t h h5]
      frame_out
      rw [step, read_unread_whole]

/-- The accumulator after the last step of a block is the sum over all rows. -/
theorem acc_last_sum (c : Dev nD) (t : Fin cfg0.N) (h : t.val % 6 = 5) (i : S1408x1024.Idx) :
    (outsAt0 m c t.val t.isLt).2 i
      = target (left m c) (right m c) (ix2 ⟨1408 * (t.val / 6) + (i 0).val, cols t (i 0)⟩ (i 1)) := by
  rw [acc_last m c t h i]
  unfold part target
  refine Fin.sum_mul_add_congr fun s k hl => ?_
  refine congrArg₂ (· * ·) ((blk0 m c _ k _).trans (congrArg _ (congrArg₂ ix2 (Fin.ext ?_) (Fin.ext ?_))))
    ((blk1 m c _ k _).trans (congrArg _ (congrArg₂ ix2 (Fin.ext ?_) rfl)))
  all_goals
    dsimp
    omega

/-- What the launch leaves in its output. -/
theorem final (c : Dev nD) : (dats m 0 c).arrAt 2 cfg0.N = target (left m c) (right m c) := by
  refine (dats m 0 c).arrAt_eq_of_covers 2 _ (by decide +kernel) fun t hf y => ?_
  have h5 : t.val % 6 = 5 := (flush0_2 t).mp hf
  blk_simp
  refine Eq.trans ?_ (emb2 _ t y).symm
  rw [after0_2]
  refine Eq.trans ?_ (acc_last_sum m c t h5 y)
  rw [outsAt0_C m c t (by omega) h5]
  frame_out
  rfl

/-- What the reference computes. -/
theorem reference (h : FVec Ideal S9216x1024 .bf16) (wg wu : FVec Ideal S1024x2816 .f32) (d : FVec Ideal S9216x1024 .bf16) :
    Cert.Reference4Ideal.Read.val_main_v9 (F := Ideal) h wg wu d = target (act h wg wu) d := by
  rw [← Cert.Reference4Ideal.Read.val_main_v9_eq]
  funext i
  pointwise [target, act, preact]
  exact Finset.sum_congr rfl fun k _ => mul_comm _ _

/-- The reference finishes and leaves its arguments as they were. -/
theorem reference_frame : Cert.quiescent_Reference4Ideal := fun m g _ =>
  (θ_run Cert.Reference4Ideal.defs _ _).mono
    (fun r h => ⟨fun c => (h c).2, sem_eq_zero_of_no_sems (by decide) r.2⟩)
    (Cert.Reference4Ideal.Value.run m g)

/-- The kernel and the reference compute the same array over the reals. -/
theorem algebraic : Cert.algebraic_Kernel4Ideal_Reference4Ideal := by
  pair_intro
  · run_from Cert.Kernel4Ideal.Gen.run_main m g
    all_goals first | exact V_main_arg0 m c | exact V_main_arg1 m c | exact V_main_arg2 m c | exact V_main_arg3 m c
  · run_from Cert.Reference4Ideal.Value.run m' g'
    exact (reference _ _ _ _).trans (final m c).symm

end Cert.Kernel4Ideal.Product

end
-- ==== Proof.Products.FfnUp.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init
public import proofs.«01_k».proof.Proof.Swiglu

/-! The gated layer's two preactivations and its activation. -/

@[expose] public section

set_option maxRecDepth 16384

noncomputable section

namespace Cert.Kernel5Ideal.Product

open Idealize.ShloMosaic Idealize.ShloMosaic.TcCoe Idealize.SL.Sem
open Cert.Kernel5Ideal Cert.Kernel5Ideal.Gen
open Idealize.ShloMosaic.Pipeline (Dat)

variable (m : (ℓ : Loc nD τ sig) → Buf (Elt Ideal) ℓ)

open Cert.Swiglu

theorem idx : ∀ t : Fin cfg0.N, win0_0.index t = ![t.val % 18, 0] ∧ win0_1.index t = ![t.val / 18, 0]
    ∧ win0_2.index t = ![t.val / 18, 0] ∧ win0_3.index t = ![t.val % 18, t.val / 18]
    ∧ win0_4.index t = ![t.val % 18, t.val / 18] ∧ win0_5.index t = ![t.val % 18, t.val / 18] :=
  (by decide +kernel : ∀ t : Fin grid0.N, _)

def A0 (c : Dev nD) := (m ((c : Thread nD τ).loc main_arg0) : FVec Ideal S9216x1024 .bf16)
def A1 (c : Dev nD) := (m ((c : Thread nD τ).loc main_arg1) : FVec Ideal S1024x2816 .f32)
def A2 (c : Dev nD) := (m ((c : Thread nD τ).loc main_arg2) : FVec Ideal S1024x2816 .f32)

theorem rows (t : Fin cfg0.N) (a : Fin 512) : 512 * (t.val % 18) + a.val < 9216 := by omega
theorem cols (t : Fin cfg0.N) (b : Fin 1408) : 1408 * (t.val / 18) + b.val < 2816 := by
  have : t.val < 36 := t.isLt
  omega

theorem blk0 (c : Dev nD) (t : Fin cfg0.N) (a : Fin 512) (k : Fin 1024) :
    iblk m c 0 t (ix2 a k) = A0 m c (ix2 ⟨512 * (t.val % 18) + a.val, rows t a⟩ k) := by
  blk_point [iblk, V, A0, idx t]

theorem entry1 (c : Dev nD) (b : Fin 2816) (k : Fin 1024) : V m c main_v1 (ix2 b k) = A1 m c (ix2 k b) := by
  entry_read
  pointwise [A1]

theorem entry2 (c : Dev nD) (b : Fin 2816) (k : Fin 1024) : V m c main_v3 (ix2 b k) = A2 m c (ix2 k b) := by
  entry_read
  pointwise [A2]

theorem blk1 (c : Dev nD) (t : Fin cfg0.N) (b : Fin 1408) (k : Fin 1024) :
    iblk m c 1 t (ix2 b k) = A1 m c (ix2 k ⟨1408 * (t.val / 18) + b.val, cols t b⟩) := by
  refine Eq.trans ?_ (entry1 m c _ k)
  blk_point [iblk, idx t]

theorem blk2 (c : Dev nD) (t : Fin cfg0.N) (b : Fin 1408) (k : Fin 1024) :
    iblk m c 2 t (ix2 b k) = A2 m c (ix2 k ⟨1408 * (t.val / 18) + b.val, cols t b⟩) := by
  refine Eq.trans ?_ (entry2 m c _ k)
  blk_point [iblk, idx t]

theorem emb3 (X : FVec Ideal S9216x2816 .bf16) (t : Fin cfg0.N) (y : S512x1408.Idx) :
    X ((win0_3.blk t).view.emb y) = X (ix2 ⟨512 * (t.val % 18) + (y 0).val, rows t (y 0)⟩ ⟨1408 * (t.val / 18) + (y 1).val, cols t (y 1)⟩) := by
  blk_point [idx t]

theorem emb4 (X : FVec Ideal S9216x2816 .bf16) (t : Fin cfg0.N) (y : S512x1408.Idx) :
    X ((win0_4.blk t).view.emb y) = X (ix2 ⟨512 * (t.val % 18) + (y 0).val, rows t (y 0)⟩ ⟨1408 * (t.val / 18) + (y 1).val, cols t (y 1)⟩) := by
  blk_point [idx t]

theorem emb5 (X : FVec Ideal S9216x2816 .bf16) (t : Fin cfg0.N) (y : S512x1408.Idx) :
    X ((win0_5.blk t).view.emb y) = X (ix2 ⟨512 * (t.val % 18) + (y 0).val, rows t (y 0)⟩ ⟨1408 * (t.val / 18) + (y 1).val, cols t (y 1)⟩) := by
  blk_point [idx t]

theorem final3 (c : Dev nD) : (dats m 0 c).arrAt 3 cfg0.N = preact (A0 m c) (A1 m c) := by
  refine (dats m 0 c).arrAt_eq_of_covers 3 _ (by decide +kernel) fun t hf y => ?_
  blk_simp
  refine Eq.trans ?_ (emb3 _ t y).symm
  rw [after0_3]
  unfold outsAt0
  frame_out
  canon_tiles x h using View.cover_of_tiledBy _ ![512, 128] (by sl_kernel_rfl) _
  all_goals (open_payloads; pointwise)
  all_goals idx_vars x
  all_goals (simp only [blk0, blk1, blk2, act, preact, zero_sub, h0, h1])
  all_goals rfl

theorem final4 (c : Dev nD) : (dats m 0 c).arrAt 4 cfg0.N = preact (A0 m c) (A2 m c) := by
  refine (dats m 0 c).arrAt_eq_of_covers 4 _ (by decide +kernel) fun t hf y => ?_
  blk_simp
  refine Eq.trans ?_ (emb4 _ t y).symm
  rw [after0_4]
  unfold outsAt0
  frame_out
  canon_tiles x h using View.cover_of_tiledBy _ ![512, 128] (by sl_kernel_rfl) _
  all_goals (open_payloads; pointwise)
  all_goals idx_vars x
  all_goals (simp only [blk0, blk1, blk2, act, preact, zero_sub, h0, h1])
  all_goals rfl

theorem final5 (c : Dev nD) : (dats m 0 c).arrAt 5 cfg0.N = act (A0 m c) (A1 m c) (A2 m c) := by
  refine (dats m 0 c).arrAt_eq_of_covers 5 _ (by decide +kernel) fun t hf y => ?_
  blk_simp
  refine Eq.trans ?_ (emb5 _ t y).symm
  rw [after0_5]
  unfold outsAt0
  frame_out
  canon_tiles x h using View.cover_of_tiledBy _ ![512, 128] (by sl_kernel_rfl) _
  all_goals (open_payloads; pointwise)
  all_goals idx_vars x
  all_goals (simp only [blk0, blk1, blk2, act, preact, zero_sub, h0, h1])
  all_goals rfl

theorem reference3 (h : FVec Ideal S9216x1024 .bf16) (w : FVec Ideal S1024x2816 .f32) :
    Cert.Reference5Ideal.Read.val_main_v3 (F := Ideal) h w = preact h w := by
  rw [← Cert.Reference5Ideal.Read.val_main_v3_eq]
  funext i
  pointwise [preact]

theorem reference4 (h : FVec Ideal S9216x1024 .bf16) (w : FVec Ideal S1024x2816 .f32) :
    Cert.Reference5Ideal.Read.val_main_v4 (F := Ideal) h w = preact h w := by
  rw [← Cert.Reference5Ideal.Read.val_main_v4_eq]
  funext i
  pointwise [preact]

theorem reference7 (h : FVec Ideal S9216x1024 .bf16) (wg wu : FVec Ideal S1024x2816 .f32) :
    Cert.Reference5Ideal.Read.val_main_v7 (F := Ideal) h wg wu = act h wg wu := by
  rw [← Cert.Reference5Ideal.Read.val_main_v7_eq]
  funext i
  pointwise [act, preact]

/-- The reference finishes and leaves its arguments as they were. -/
theorem reference_frame : Cert.quiescent_Reference5Ideal := fun m g _ =>
  (θ_run Cert.Reference5Ideal.defs _ _).mono
    (fun r h => ⟨fun c => (h c).2.2.2, sem_eq_zero_of_no_sems (by decide) r.2⟩)
    (Cert.Reference5Ideal.Value.run m g)

/-- The kernel and the reference compute the same array over the reals. -/
theorem algebraic : Cert.algebraic_Kernel5Ideal_Reference5Ideal := by
  pair_intro
  · run_from Cert.Kernel5Ideal.Gen.run_main m g
  · run_from Cert.Reference5Ideal.Value.run m' g'
    · exact (reference3 _ _).trans (final3 m c).symm
    · exact (reference4 _ _).trans (final4 m c).symm
    · exact (reference7 _ _ _).trans (final5 m c).symm

end Cert.Kernel5Ideal.Product

end
-- ==== Proof.Products.FfnDown.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init
public import proofs.«01_k».proof.Proof.Swiglu

/-! The gated layer's output: the activation times the down weight. -/

@[expose] public section

set_option maxRecDepth 16384

noncomputable section

namespace Cert.Kernel6Ideal.Product

open Idealize.ShloMosaic Idealize.ShloMosaic.TcCoe Idealize.SL.Sem
open Cert.Kernel6Ideal Cert.Kernel6Ideal.Gen
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

open Cert.Swiglu

/-- The layer's output. -/
def target (h : FVec Ideal S9216x1024 .bf16) (wg wu : FVec Ideal S1024x2816 .f32) (wd : FVec Ideal S2816x1024 .f32) :
    FVec Ideal S9216x1024 .bf16 := fun i =>
  ∑ k : Fin 2816, act h wg wu (ix2 (i 0) k) * wd (ix2 k (i 1))

def A0 (c : Dev nD) := (m ((c : Thread nD τ).loc main_arg0) : FVec Ideal S9216x1024 .bf16)
def A1 (c : Dev nD) := (m ((c : Thread nD τ).loc main_arg1) : FVec Ideal S1024x2816 .f32)
def A2 (c : Dev nD) := (m ((c : Thread nD τ).loc main_arg2) : FVec Ideal S1024x2816 .f32)
def A3 (c : Dev nD) := (m ((c : Thread nD τ).loc main_arg3) : FVec Ideal S2816x1024 .f32)

theorem rows (t : Fin cfg0.N) (a : Fin 512) : 512 * t.val + a.val < 9216 := by
  have : t.val < 18 := t.isLt
  omega

theorem entry (c : Dev nD) : V m c main_v5 = act (A0 m c) (A1 m c) (A2 m c) := by
  funext i
  simp only [V, hostOps0, hostOps0_1, hostOps0_2, List.flatten_cons, List.flatten_nil, List.append_nil, List.cons_append,
    List.nil_append]
  after_results
  simp only [StableHlo.TRef.ofBuf_toBuf]
  simp -implicitDefEqProofs only [StableHlo.TRef.toBuf, StableHlo.TRef.ofBuf, StableHlo.TRef.of, cast_eq]
  pointwise [act, preact, A0, A1, A2]

theorem entryW (c : Dev nD) : V m c main_v6 = A3 m c := by
  funext i
  simp only [V, hostOps0, hostOps0_1, hostOps0_2, List.flatten_cons, List.flatten_nil, List.append_nil, List.cons_append,
    List.nil_append]
  after_results
  pointwise [A3]

theorem blk0 (c : Dev nD) (t : Fin cfg0.N) (a : Fin 512) (k : Fin 2816) :
    iblk m c 0 t (ix2 a k) = act (A0 m c) (A1 m c) (A2 m c) (ix2 ⟨512 * t.val + a.val, rows t a⟩ k) := by
  have e := entry m c
  generalize act (A0 m c) (A1 m c) (A2 m c) = X at e ⊢
  blk_point [iblk, e, idx t]

theorem blk1 (c : Dev nD) (t : Fin cfg0.N) (k : Fin 2816) (b : Fin 1024) :
    iblk m c 1 t (ix2 k b) = A3 m c (ix2 k b) := by
  have e := entryW m c
  generalize A3 m c = X at e ⊢
  blk_point [iblk, e, idx t]

theorem emb2 (X : FVec Ideal S9216x1024 .bf16) (t : Fin cfg0.N) (y : S512x1024.Idx) :
    X ((win0_2.blk t).view.emb y) = X (ix2 ⟨512 * t.val + (y 0).val, rows t (y 0)⟩ (y 1)) := by
  blk_point [idx t]

/-- What the launch leaves in its output. -/
theorem final (c : Dev nD) : (dats m 0 c).arrAt 2 cfg0.N = target (A0 m c) (A1 m c) (A2 m c) (A3 m c) := by
  refine (dats m 0 c).arrAt_eq_of_covers 2 _ (by decide +kernel) fun t hf y => ?_
  blk_simp
  refine Eq.trans ?_ (emb2 _ t y).symm
  rw [after0_2]
  frame_out
  pointwise [k0_pay1]
  idx_vars y
  simp only [blk0, blk1, target]
  rfl

/-- What the reference computes. -/
theorem reference (h : FVec Ideal S9216x1024 .bf16) (wg wu : FVec Ideal S1024x2816 .f32) (wd : FVec Ideal S2816x1024 .f32) :
    Cert.Reference6Ideal.Read.val_main_v6 (F := Ideal) h wg wu wd = target h wg wu wd := by
  rw [← Cert.Reference6Ideal.Read.val_main_v6_eq]
  funext i
  pointwise [target, act, preact]

/-- The reference finishes and leaves its arguments as they were. -/
theorem reference_frame : Cert.quiescent_Reference6Ideal := fun m g _ =>
  (θ_run Cert.Reference6Ideal.defs _ _).mono
    (fun r h => ⟨fun c => (h c).2, sem_eq_zero_of_no_sems (by decide) r.2⟩)
    (Cert.Reference6Ideal.Value.run m g)

/-- The kernel and the reference compute the same array over the reals. -/
theorem algebraic : Cert.algebraic_Kernel6Ideal_Reference6Ideal := by
  pair_intro
  · run_from Cert.Kernel6Ideal.Gen.run_main m g
    all_goals first | exact V_main_arg0 m c | exact V_main_arg1 m c | exact V_main_arg2 m c | exact V_main_arg3 m c
  · run_from Cert.Reference6Ideal.Value.run m' g'
    exact (reference _ _ _ _).trans (final m c).symm

end Cert.Kernel6Ideal.Product

end
-- ==== Proof.Products.InForward.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

/-! The product with the input weight. -/

@[expose] public section

set_option maxRecDepth 16384

noncomputable section

namespace Cert.Kernel7Ideal.Product

open Idealize.ShloMosaic Idealize.ShloMosaic.TcCoe Idealize.SL.Sem
open Cert.Kernel7Ideal Cert.Kernel7Ideal.Gen
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The product the call computes. -/
def target (a : FVec Ideal S9216x1024 .bf16) (w : FVec Ideal S1024x1280 .f32) : FVec Ideal S9216x1280 .bf16 := fun i =>
  ∑ k : Fin 1024, a (ix2 (i 0) k) * w (ix2 k (i 1))

def left (c : Dev nD) := (m ((c : Thread nD τ).loc main_arg0) : FVec Ideal S9216x1024 .bf16)
def right (c : Dev nD) := (m ((c : Thread nD τ).loc main_arg1) : FVec Ideal S1024x1280 .f32)

theorem rows (t : Fin cfg0.N) (a : Fin 512) : 512 * t.val + a.val < 9216 := by
  have : t.val < 18 := t.isLt
  omega

theorem blk0 (c : Dev nD) (t : Fin cfg0.N) (a : Fin 512) (k : Fin 1024) :
    iblk m c 0 t (ix2 a k) = left m c (ix2 ⟨512 * t.val + a.val, rows t a⟩ k) := by
  blk_point [iblk, V, left, idx t]

theorem entry (c : Dev nD) (a : Fin 1280) (b : Fin 1024) : V m c main_v1 (ix2 a b) = right m c (ix2 b a) := by
  entry_read
  pointwise [right]

theorem blk1 (c : Dev nD) (t : Fin cfg0.N) (a : Fin 1280) (b : Fin 1024) :
    iblk m c 1 t (ix2 a b) = right m c (ix2 b a) := by
  refine Eq.trans ?_ (entry m c a b)
  blk_point [iblk, idx t]

theorem emb2 (X : FVec Ideal S9216x1280 .bf16) (t : Fin cfg0.N) (y : S512x1280.Idx) :
    X ((win0_2.blk t).view.emb y) = X (ix2 ⟨512 * t.val + (y 0).val, rows t (y 0)⟩ (y 1)) := by
  blk_point [idx t]

/-- What the launch leaves in its output. -/
theorem final (c : Dev nD) : (dats m 0 c).arrAt 2 cfg0.N = target (left m c) (right m c) := by
  refine (dats m 0 c).arrAt_eq_of_covers 2 _ (by decide +kernel) fun t hf y => ?_
  blk_simp
  refine Eq.trans ?_ (emb2 _ t y).symm
  rw [after0_2]
  frame_out
  pointwise [k0_pay1]
  idx_vars y
  simp only [blk0, blk1, target]
  rfl

/-- What the reference computes. -/
theorem reference (a : FVec Ideal S9216x1024 .bf16) (w : FVec Ideal S1024x1280 .f32) :
    Cert.Reference7Ideal.Read.val_main_v2 (F := Ideal) a w = target a w := by
  rw [← Cert.Reference7Ideal.Read.val_main_v2_eq]
  funext i
  pointwise [target]

/-- The reference finishes and leaves its arguments as they were. -/
theorem reference_frame : Cert.quiescent_Reference7Ideal := fun m g _ =>
  (θ_run Cert.Reference7Ideal.defs _ _).mono
    (fun r h => ⟨fun c => (h c).2, sem_eq_zero_of_no_sems (by decide) r.2⟩)
    (Cert.Reference7Ideal.Value.run m g)

/-- The kernel and the reference compute the same array over the reals. -/
theorem algebraic : Cert.algebraic_Kernel7Ideal_Reference7Ideal := by
  pair_intro
  · run_from Cert.Kernel7Ideal.Gen.run_main m g
  · run_from Cert.Reference7Ideal.Value.run m' g'
    exact (reference _ _).trans (final m c).symm

end Cert.Kernel7Ideal.Product

end
-- ==== Proof.Products.InBackward.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

/-! The gradient, with respect to its input, of the product with the input weight. -/

@[expose] public section

set_option maxRecDepth 16384

noncomputable section

namespace Cert.Kernel8Ideal.Product

open Idealize.ShloMosaic Idealize.ShloMosaic.TcCoe Idealize.SL.Sem
open Cert.Kernel8Ideal Cert.Kernel8Ideal.Gen
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The product the call computes. -/
def target (a : FVec Ideal S9216x1280 .bf16) (w : FVec Ideal S1024x1280 .f32) : FVec Ideal S9216x1024 .bf16 := fun i =>
  ∑ k : Fin 1280, a (ix2 (i 0) k) * w (ix2 (i 1) k)

def left (c : Dev nD) := (m ((c : Thread nD τ).loc main_arg2) : FVec Ideal S9216x1280 .bf16)
def right (c : Dev nD) := (m ((c : Thread nD τ).loc main_arg1) : FVec Ideal S1024x1280 .f32)

theorem rows (t : Fin cfg0.N) (a : Fin 512) : 512 * t.val + a.val < 9216 := by
  have : t.val < 18 := t.isLt
  omega

theorem blk0 (c : Dev nD) (t : Fin cfg0.N) (a : Fin 512) (k : Fin 1280) :
    iblk m c 0 t (ix2 a k) = left m c (ix2 ⟨512 * t.val + a.val, rows t a⟩ k) := by
  blk_point [iblk, V, left, idx t]

theorem entry (c : Dev nD) (a : Fin 1280) (b : Fin 1024) : V m c main_v1 (ix2 a b) = right m c (ix2 b a) := by
  entry_read
  pointwise [right]

theorem blk1 (c : Dev nD) (t : Fin cfg0.N) (a : Fin 1280) (b : Fin 1024) :
    iblk m c 1 t (ix2 a b) = right m c (ix2 b a) := by
  refine Eq.trans ?_ (entry m c a b)
  blk_point [iblk, idx t]

theorem emb2 (X : FVec Ideal S9216x1024 .bf16) (t : Fin cfg0.N) (y : S512x1024.Idx) :
    X ((win0_2.blk t).view.emb y) = X (ix2 ⟨512 * t.val + (y 0).val, rows t (y 0)⟩ (y 1)) := by
  blk_point [idx t]

/-- What the launch leaves in its output. -/
theorem final (c : Dev nD) : (dats m 0 c).arrAt 2 cfg0.N = target (left m c) (right m c) := by
  refine (dats m 0 c).arrAt_eq_of_covers 2 _ (by decide +kernel) fun t hf y => ?_
  blk_simp
  refine Eq.trans ?_ (emb2 _ t y).symm
  rw [after0_2]
  frame_out
  pointwise [k0_pay1]
  idx_vars y
  simp only [blk0, blk1, target]
  rfl

/-- What the reference computes. -/
theorem reference (w : FVec Ideal S1024x1280 .f32) (a : FVec Ideal S9216x1280 .bf16) :
    Cert.Reference8Ideal.Read.val_main_v4 (F := Ideal) w a = target a w := by
  rw [← Cert.Reference8Ideal.Read.val_main_v4_eq]
  funext i
  pointwise [target]

/-- The reference finishes and leaves its arguments as they were. -/
theorem reference_frame : Cert.quiescent_Reference8Ideal := fun m g _ =>
  (θ_run Cert.Reference8Ideal.defs _ _).mono
    (fun r h => ⟨fun c => (h c).2, sem_eq_zero_of_no_sems (by decide) r.2⟩)
    (Cert.Reference8Ideal.Value.run m g)

/-- The kernel and the reference compute the same array over the reals. -/
theorem algebraic : Cert.algebraic_Kernel8Ideal_Reference8Ideal := by
  pair_intro
  · run_from Cert.Kernel8Ideal.Gen.run_main m g
  · run_from Cert.Reference8Ideal.Value.run m' g'
    exact (reference _ _).trans (final m c).symm

end Cert.Kernel8Ideal.Product

end
-- ==== Proof.Products.InWeight.lean ====
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

/-! The gradient of the input weight: a product over the 9216 rows, summed in six parts of 1536 rows. -/

@[expose] public section

set_option maxRecDepth 16384

noncomputable section

namespace Cert.Kernel9Ideal.Product

open Idealize.ShloMosaic Idealize.ShloMosaic.TcCoe Idealize.SL.Sem
open Cert.Kernel9Ideal Cert.Kernel9Ideal.Gen
open Idealize.ShloMosaic.Pipeline (Dat)

variable (m : (ℓ : Loc nD τ sig) → Buf (Elt Ideal) ℓ)

theorem idx : ∀ t : Fin cfg0.N, win0_0.index t = ![t.val % 6, t.val / 6] ∧ win0_1.index t = ![t.val % 6, 0]
    ∧ win0_2.index t = ![t.val / 6, 0] :=
  (by decide +kernel : ∀ t : Fin grid0.N, _)

/-- The product of the transpose of `a` with `b`: the sum over the rows of both. -/
def target (a : FVec Ideal S9216x1280 .bf16) (b : FVec Ideal S9216x1024 .bf16) : FVec Ideal S1280x1024 .bf16 := fun i =>
  ∑ k : Fin 9216, a (ix2 k (i 0)) * b (ix2 k (i 1))

def left (c : Dev nD) := (m ((c : Thread nD τ).loc main_arg2) : FVec Ideal S9216x1280 .bf16)
def right (c : Dev nD) := (m ((c : Thread nD τ).loc main_arg0) : FVec Ideal S9216x1024 .bf16)

theorem rows (t : Fin cfg0.N) (k : Fin 1536) : 1536 * (t.val % 6) + k.val < 9216 := by omega
theorem cols (t : Fin cfg0.N) (a : Fin 1280) : 1280 * (t.val / 6) + a.val < 1280 := by
  have : t.val < 6 := t.isLt
  omega

theorem blk0 (c : Dev nD) (t : Fin cfg0.N) (k : Fin 1536) (a : Fin 1280) :
    iblk m c 0 t (ix2 k a) = left m c (ix2 ⟨1536 * (t.val % 6) + k.val, rows t k⟩ ⟨1280 * (t.val / 6) + a.val, cols t a⟩) := by
  blk_point [iblk, V, left, idx t]

theorem blk1 (c : Dev nD) (t : Fin cfg0.N) (k : Fin 1536) (b : Fin 1024) :
    iblk m c 1 t (ix2 k b) = right m c (ix2 ⟨1536 * (t.val % 6) + k.val, rows t k⟩ b) := by
  blk_point [iblk, V, right, idx t]

theorem emb2 (X : FVec Ideal S1280x1024 .bf16) (t : Fin cfg0.N) (y : S1280x1024.Idx) :
    X ((win0_2.blk t).view.emb y) = X (ix2 ⟨1280 * (t.val / 6) + (y 0).val, cols t (y 0)⟩ (y 1)) := by
  blk_point [idx t]

/-- One step adds the product of its two blocks. -/
def part (x : Vec Ideal S1536x1280 .bf16) (y : Vec Ideal S1536x1024 .bf16) (i : S1280x1024.Idx) : EReal :=
  ∑ k : Fin 1536, x (ix2 k (i 0)) * y (ix2 k (i 1))

theorem step (acc : Vec Ideal S1280x1024 .f32) (x : Vec Ideal S1536x1280 .bf16) (y : Vec Ideal S1536x1024 .bf16)
    (i : S1280x1024.Idx) : k0_pay2 acc x y i = acc i + part x y i := by
  pointwise [k0_pay2, part]

theorem zero (i : S1280x1024.Idx) : k0_pay1 (F := Ideal) i = 0 := by
  pointwise [k0_pay1]

/-- The accumulator after the last of a block's six steps. -/
theorem acc_last (c : Dev nD) (t : Fin cfg0.N) (h : t.val % 6 = 5) (i : S1280x1024.Idx) :
    (outsAt0 m c t.val t.isLt).2 i
      = ∑ s : Fin 6, part (iblk m c 0 ⟨6 * (t.val / 6) + s.val, Pipeline.run_point_lt_of_flush t h s⟩)
          (iblk m c 1 ⟨6 * (t.val / 6) + s.val, Pipeline.run_point_lt_of_flush t h s⟩) i := by
  rw [Pipeline.eq_sum_fin_of_reset_step_apply_of_flush (fun n h => (outsAt0 m c n h).2) 6 (fun _ => 0)
    (fun t i => part (iblk m c 0 t) (iblk m c 1 t) i) (fun t h i => ?_) (fun t h i => ?_) t h i, zero_add]
  · rw [outsAt0_A m c t h (by omega)]
    frame_out
    rw [step, zero]
  · by_cases h5 : t.val % 6 = 5
    · rw [outsAt0_C m c t h h5]
      frame_out
      rw [step, read_unread_whole]
    · rw [outsAt0_B m c t h h5]
      frame_out
      rw [step, read_unread_whole]

/-- The accumulator after the last step of a block is the sum over all rows. -/
theorem acc_last_sum (c : Dev nD) (t : Fin cfg0.N) (h : t.val % 6 = 5) (i : S1280x1024.Idx) :
    (outsAt0 m c t.val t.isLt).2 i
      = target (left m c) (right m c) (ix2 ⟨1280 * (t.val / 6) + (i 0).val, cols t (i 0)⟩ (i 1)) := by
  rw [acc_last m c t h i]
  unfold part target
  refine Fin.sum_mul_add_congr fun s k hl => ?_
  refine congrArg₂ (· * ·) ((blk0 m c _ k _).trans (congrArg _ (congrArg₂ ix2 (Fin.ext ?_) (Fin.ext ?_))))
    ((blk1 m c _ k _).trans (congrArg _ (congrArg₂ ix2 (Fin.ext ?_) rfl)))
  all_goals
    dsimp
    omega

/-- What the launch leaves in its output. -/
theorem final (c : Dev nD) : (dats m 0 c).arrAt 2 cfg0.N = target (left m c) (right m c) := by
  refine (dats m 0 c).arrAt_eq_of_covers 2 _ (by decide +kernel) fun t hf y => ?_
  have h5 : t.val % 6 = 5 := (flush0_2 t).mp hf
  blk_simp
  refine Eq.trans ?_ (emb2 _ t y).symm
  rw [after0_2]
  refine Eq.trans ?_ (acc_last_sum m c t h5 y)
  rw [outsAt0_C m c t (by omega) h5]
  frame_out
  rfl

/-- What the reference computes. -/
theorem reference (h : FVec Ideal S9216x1024 .bf16) (d : FVec Ideal S9216x1280 .bf16) :
    Cert.Reference9Ideal.Read.val_main_v6 (F := Ideal) h d = target d h := by
  rw [← Cert.Reference9Ideal.Read.val_main_v6_eq]
  funext i
  pointwise [target]

/-- The reference finishes and leaves its arguments as they were. -/
theorem reference_frame : Cert.quiescent_Reference9Ideal := fun m g _ =>
  (θ_run Cert.Reference9Ideal.defs _ _).mono
    (fun r h => ⟨fun c => (h c).2, sem_eq_zero_of_no_sems (by decide) r.2⟩)
    (Cert.Reference9Ideal.Value.run m g)

/-- The kernel and the reference compute the same array over the reals. -/
theorem algebraic : Cert.algebraic_Kernel9Ideal_Reference9Ideal := by
  pair_intro
  · run_from Cert.Kernel9Ideal.Gen.run_main m g
  · run_from Cert.Reference9Ideal.Value.run m' g'
    exact (reference _ _).trans (final m c).symm

end Cert.Kernel9Ideal.Product

end
-- ==== Proof.Products.RowOrder.lean ====
module

public import Idealize.ShloMosaic.Lib.ValueIdxCore
public import Idealize.ShloMosaic.Lib.Pointwise

/-! The step keeps the three branches in an order of its own, and reads the output weight's rows in that order: four
blocks of 256 rows, taken by a table of block numbers. -/

@[expose] public section

noncomputable section

namespace Cert.RowOrder

open Idealize.ShloMosaic

abbrev SBlocks : Shape := ⟨3, ![4, 256, 1024]⟩
abbrev STable : Shape := ⟨2, ![4, 1]⟩

/-- Whole blocks of rows taken by number. -/
abbrev take (wf : GatherDims.WF SBlocks STable SBlocks [1, 2] [0] [] [0] [] 1 ![1, 256, 1024]) :
    GatherDims SBlocks STable SBlocks where
  offsetDims := [1, 2]
  collapsedSliceDims := [0]
  operandBatchingDims := []
  startIndicesBatchingDims := []
  startIndexMap := [0]
  indexVectorDim := 1
  sliceSizes := ![1, 256, 1024]
  wf := wf

/-- Taking blocks by number puts block `tbl g` at place `g`. -/
theorem take_apply {α : Type} (wf : GatherDims.WF SBlocks STable SBlocks [1, 2] [0] [] [0] [] 1 ![1, 256, 1024])
    (x : SBlocks.Idx → α) (tbl : IVec STable 32) (g : Fin 4) (a : Fin 256) (j : Fin 1024) :
    Host.gather (take wf) x tbl (ix3 g a j)
      = x (ix3 ⟨min (tbl (ix2 g (0 : Fin 1))).toInt.toNat 3, by omega⟩ a j) := by
  unfold Host.gather
  congr 1
  funext b
  refine Fin.ext ?_
  show (take wf).start (ix3 g a j) tbl b + (take wf).batchCoord (ix3 g a j) b + (take wf).offCoord (ix3 g a j) b = _
  rw [GatherDims.batchCoord_eq_zero _ _ _ List.not_mem_nil, Nat.add_zero]
  have hb : b = 0 ∨ b = 1 ∨ b = 2 := by
    match b with
    | ⟨0, _⟩ => exact Or.inl rfl
    | ⟨1, _⟩ => exact Or.inr (Or.inl rfl)
    | ⟨2, _⟩ => exact Or.inr (Or.inr rfl)
  rcases hb with rfl | rfl | rfl
  · rw [GatherDims.offCoord_eq_zero _ _ _ (fun h => ((GatherDims.mem_sKept _ _).mp h).1 (List.mem_singleton.mpr rfl)),
      Nat.add_zero]
    unfold GatherDims.start
    rw [dif_pos (List.mem_singleton.mpr rfl)]
    have hsi : (take wf).siIdx (ix3 g a j) ⟨List.idxOf (0 : Fin 3) (take wf).startIndexMap,
        List.idxOf_lt_length_iff.2 (List.mem_singleton.mpr rfl)⟩ = ix2 g (0 : Fin 1) := by
      funext d
      refine Fin.ext ?_
      match d with
      | ⟨0, _⟩ => rfl
      | ⟨1, _⟩ => rfl
    exact congrArg (fun i => min (tbl i).toInt.toNat 3) hsi
  · have h0 : (take wf).start (ix3 g a j) tbl 1 = 0 := by
      unfold GatherDims.start
      exact dif_neg (show (1 : Fin 3) ∉ [(0 : Fin 3)] by decide)
    rw [h0, Nat.zero_add]
    rfl
  · have h0 : (take wf).start (ix3 g a j) tbl 2 = 0 := by
      unfold GatherDims.start
      exact dif_neg (show (2 : Fin 3) ∉ [(0 : Fin 3)] by decide)
    rw [h0, Nat.zero_add]
    rfl

/-- Where the step's order finds a row of the weight: the second block of the three branches comes first. -/
def row (k : Fin 1024) : Fin 1024 :=
  ⟨if k.val < 512 then k.val + 256 else if k.val < 768 then k.val - 512 else k.val, by have := k.isLt; split_ifs <;> omega⟩

/-- The rows in the step's order are a permutation of the rows. -/
theorem row_bijective : Function.Bijective row := by
  refine (Finite.injective_iff_bijective).mp fun a b h => Fin.ext ?_
  have h := congrArg Fin.val h
  have ha := a.isLt
  have hb := b.isLt
  simp only [row] at h
  split_ifs at h <;> omega

/-- The blocks in the order `1, 2, 0, 3` are the rows in the step's order. -/
theorem row_of_block (n : Fin 4 → BitVec 32) (h0 : n 0 = 1#32) (h1 : n 1 = 2#32) (h2 : n 2 = 0#32) (h3 : n 3 = 3#32)
    (k : Fin 1024) (g : Fin 4) (hg : g.val = k.val / 256) :
    min (n g).toInt.toNat 3 * 256 + k.val % 256 = (row k).val := by
  have := k.isLt
  simp only [row]
  match g, hg with
  | 0, hg => rw [h0]; simp at hg; rw [if_pos (by omega)]; simp; omega
  | 1, hg => rw [h1]; simp at hg; rw [if_pos (by omega)]; simp; omega
  | 2, hg => rw [h2]; simp at hg; rw [if_neg (by omega), if_pos (by omega)]; simp; omega
  | 3, hg => rw [h3]; simp at hg; rw [if_neg (by omega), if_neg (by omega)]; simp; omega

end Cert.RowOrder

end
-- ==== Proof.Products.OutForward.lean ====
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init
public import proofs.«01_k».proof.Proof.Products.RowOrder

/-! The product of the three branches, side by side, with the output weight. -/

@[expose] public section

set_option maxRecDepth 16384

noncomputable section

namespace Cert.Kernel10Ideal.Product

open Idealize.ShloMosaic Idealize.ShloMosaic.TcCoe Idealize.SL.Sem
open Cert.RowOrder Cert.Kernel10Ideal Cert.Kernel10Ideal.Gen
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The three branches side by side, in the order in which the step keeps them. -/
def mcat (s : FVec Ideal S9216x512 .bf16) (a p : FVec Ideal S9216x256 .bf16) : FVec Ideal S9216x1024 .bf16 := fun i =>
  if h : (i 1).val < 512 then s (ix2 (i 0) ⟨(i 1).val, h⟩)
  else if h' : (i 1).val - 512 < 256 then a (ix2 (i 0) ⟨(i 1).val - 512, h'⟩)
  else p (ix2 (i 0) ⟨(i 1).val - 512 - 256, by have : (i 1).val < 1024 := (i 1).isLt; omega⟩)

/-- The product, its sum in the step's order. -/
def target (x : FVec Ideal S9216x1024 .bf16) (w : FVec Ideal S1024x1024 .f32) : FVec Ideal S9216x1024 .bf16 := fun i =>
  ∑ k : Fin 1024, x (ix2 (i 0) k) * w (ix2 (row k) (i 1))

def A0 (c : Dev nD) := (m ((c : Thread nD τ).loc main_arg0) : FVec Ideal S9216x256 .bf16)
def A1 (c : Dev nD) := (m ((c : Thread nD τ).loc main_arg1) : FVec Ideal S9216x512 .bf16)
def A2 (c : Dev nD) := (m ((c : Thread nD τ).loc main_arg2) : FVec Ideal S9216x256 .bf16)
def A3 (c : Dev nD) := (m ((c : Thread nD τ).loc main_arg3) : FVec Ideal S1024x1024 .f32)
def left (c : Dev nD) := mcat (A1 m c) (A0 m c) (A2 m c)

theorem rows (t : Fin cfg0.N) (a : Fin 512) : 512 * t.val + a.val < 9216 := by
  have : t.val < 18 := t.isLt
  omega

theorem entry0 (c : Dev nD) : V m c main_v0 = left m c := by
  funext i
  entry_read
  pointwise [left, mcat, A0, A1, A2]

theorem entry1 (c : Dev nD) (k j : Fin 1024) : V m c main_v8 (ix2 k j) = A3 m c (ix2 (row k) j) := by
  entry_read
  pointwise [A3]
  refine (take_apply _ _ _ ⟨k.val / 256, by have := k.isLt; omega⟩ ⟨k.val % 256, by omega⟩ j).trans ?_
  refine congrArg (fun r => m (c, Proc.tc.devRef main_arg3) (ix2 r j)) (Fin.ext ?_)
  refine (congrArg (· * 256 + k.val % 256) (congrArg (fun b => min (BitVec.toInt b).toNat 3) ?_)).trans
    (row_of_block lit0 rfl rfl rfl rfl k ⟨k.val / 256, by have := k.isLt; omega⟩ rfl)
  pointwise
  exact congrArg lit0 (Fin.ext (Nat.zero_add _))

theorem blk0 (c : Dev nD) (t : Fin cfg0.N) (a : Fin 512) (k : Fin 1024) :
    iblk m c 0 t (ix2 a k) = left m c (ix2 ⟨512 * t.val + a.val, rows t a⟩ k) := by
  have e := entry0 m c
  generalize left m c = X at e ⊢
  blk_point [iblk, e, idx t]

theorem blk1 (c : Dev nD) (t : Fin cfg0.N) (k j : Fin 1024) :
    iblk m c 1 t (ix2 k j) = A3 m c (ix2 (row k) j) := by
  refine Eq.trans ?_ (entry1 m c k j)
  blk_point [iblk, idx t]

theorem emb2 (X : FVec Ideal S9216x1024 .bf16) (t : Fin cfg0.N) (y : S512x1024.Idx) :
    X ((win0_2.blk t).view.emb y) = X (ix2 ⟨512 * t.val + (y 0).val, rows t (y 0)⟩ (y 1)) := by
  blk_point [idx t]

/-- What the launch leaves in its output. -/
theorem final (c : Dev nD) : (dats m 0 c).arrAt 2 cfg0.N = target (left m c) (A3 m c) := by
  refine (dats m 0 c).arrAt_eq_of_covers 2 _ (by decide +kernel) fun t hf y => ?_
  blk_simp
  refine Eq.trans ?_ (emb2 _ t y).symm
  rw [after0_2]
  frame_out
  pointwise [k0_pay1]
  idx_vars y
  simp only [blk0, blk1, target]
  rfl

/-- What the reference computes. -/
theorem reference (a : FVec Ideal S9216x256 .bf16) (s : FVec Ideal S9216x512 .bf16) (p : FVec Ideal S9216x256 .bf16)
    (w : FVec Ideal S1024x1024 .f32) :
    Cert.Reference10Ideal.Read.val_main_v5 (F := Ideal) a s p w = target (mcat s a p) w := by
  rw [← Cert.Reference10Ideal.Read.val_main_v5_eq]
  funext i
  pointwise [target, mcat]
  refine (row_bijective.sum_comp _).symm.trans (Finset.sum_congr rfl fun k _ => congrArg (· * _) ?_)
  have hk := k.isLt
  by_cases h : k.val < 512
  · have e : (row k).val = k.val + 256 := if_pos h
    have h' : ¬ k.val + 256 < 256 := by omega
    simp only [e, h, h', dif_pos, dif_neg, not_false_eq_true, Nat.add_sub_cancel]
  · by_cases h' : k.val - 512 < 256
    · have e : (row k).val = k.val - 512 := (if_neg h).trans (if_pos (by omega))
      simp only [e, h, h', dif_pos, dif_neg, not_false_eq_true]
    · have e : (row k).val = k.val := (if_neg h).trans (if_neg (by omega))
      have h2 : ¬ k.val < 256 := by omega
      have h3 : ¬ k.val - 256 < 512 := by omega
      simp only [e, h, h', h2, h3, dif_neg, not_false_eq_true]
      exact congrArg (fun r => p (ix2 (i 0) r)) (Fin.ext (by dsimp; omega))

/-- The reference finishes and leaves its arguments as they were. -/
theorem reference_frame : Cert.quiescent_Reference10Ideal := fun m g _ =>
  (θ_run Cert.Reference10Ideal.defs _ _).mono
    (fun r h => ⟨fun c => (h c).2, sem_eq_zero_of_no_sems (by decide) r.2⟩)
    (Cert.Reference10Ideal.Value.run m g)

/-- The kernel and the reference compute the same array over the reals. -/
theorem algebraic : Cert.algebraic_Kernel10Ideal_Reference10Ideal := by
  pair_intro
  · run_from Cert.Kernel10Ideal.Gen.run_main m g
  · run_from Cert.Reference10Ideal.Value.run m' g'
    exact (reference _ _ _ _).trans (final m c).symm

end Cert.Kernel10Ideal.Product

end
-- ==== Proof.Products.OutBackward.lean ====
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init
public import proofs.«01_k».proof.Proof.Products.RowOrder

/-! The gradient of the three branches, side by side, of the product with the output weight. -/

@[expose] public section

set_option maxRecDepth 16384

noncomputable section

namespace Cert.Kernel11Ideal.Product

open Idealize.ShloMosaic Idealize.ShloMosaic.TcCoe Idealize.SL.Sem
open Cert.RowOrder Cert.Kernel11Ideal Cert.Kernel11Ideal.Gen
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The product with the transposed weight, its columns in the step's order. -/
def target (w : FVec Ideal S1024x1024 .f32) (d : FVec Ideal S9216x1024 .bf16) : FVec Ideal S9216x1024 .bf16 := fun i =>
  ∑ k : Fin 1024, d (ix2 (i 0) k) * w (ix2 (row (i 1)) k)

def A3 (c : Dev nD) := (m ((c : Thread nD τ).loc main_arg3) : FVec Ideal S1024x1024 .f32)
def A4 (c : Dev nD) := (m ((c : Thread nD τ).loc main_arg4) : FVec Ideal S9216x1024 .bf16)

theorem rows (t : Fin cfg0.N) (a : Fin 512) : 512 * t.val + a.val < 9216 := by
  have : t.val < 18 := t.isLt
  omega

theorem entry1 (c : Dev nD) (k j : Fin 1024) : V m c main_v7 (ix2 k j) = A3 m c (ix2 (row k) j) := by
  entry_read
  pointwise [A3]
  refine (take_apply _ _ _ ⟨k.val / 256, by have := k.isLt; omega⟩ ⟨k.val % 256, by omega⟩ j).trans ?_
  refine congrArg (fun r => m (c, Proc.tc.devRef main_arg3) (ix2 r j)) (Fin.ext ?_)
  refine (congrArg (· * 256 + k.val % 256) (congrArg (fun b => min (BitVec.toInt b).toNat 3) ?_)).trans
    (row_of_block lit0 rfl rfl rfl rfl k ⟨k.val / 256, by have := k.isLt; omega⟩ rfl)
  pointwise
  exact congrArg lit0 (Fin.ext (Nat.zero_add _))

theorem blk0 (c : Dev nD) (t : Fin cfg0.N) (a : Fin 512) (k : Fin 1024) :
    iblk m c 0 t (ix2 a k) = A4 m c (ix2 ⟨512 * t.val + a.val, rows t a⟩ k) := by
  blk_point [iblk, V, A4, idx t]

theorem blk1 (c : Dev nD) (t : Fin cfg0.N) (k j : Fin 1024) :
    iblk m c 1 t (ix2 k j) = A3 m c (ix2 (row k) j) := by
  refine Eq.trans ?_ (entry1 m c k j)
  blk_point [iblk, idx t]

theorem emb2 (X : FVec Ideal S9216x1024 .bf16) (t : Fin cfg0.N) (y : S512x1024.Idx) :
    X ((win0_2.blk t).view.emb y) = X (ix2 ⟨512 * t.val + (y 0).val, rows t (y 0)⟩ (y 1)) := by
  blk_point [idx t]

/-- What the launch leaves in its output. -/
theorem final (c : Dev nD) : (dats m 0 c).arrAt 2 cfg0.N = target (A3 m c) (A4 m c) := by
  refine (dats m 0 c).arrAt_eq_of_covers 2 _ (by decide +kernel) fun t hf y => ?_
  blk_simp
  refine Eq.trans ?_ (emb2 _ t y).symm
  rw [after0_2]
  frame_out
  pointwise [k0_pay1]
  idx_vars y
  simp only [blk0, blk1, target]
  rfl

/-- What the reference computes. -/
theorem reference (w : FVec Ideal S1024x1024 .f32) (d : FVec Ideal S9216x1024 .bf16) :
    Cert.Reference11Ideal.Read.val_main_v11 (F := Ideal) w d = target w d := by
  rw [← Cert.Reference11Ideal.Read.val_main_v11_eq]
  funext i
  pointwise [target]
  by_cases h : (i 1).val < 512
  · have e : row (i 1) = ⟨256 + (i 1).val, by omega⟩ := Fin.ext ((if_pos h).trans (Nat.add_comm _ _))
    simp only [e, h, dif_pos]
  · by_cases h' : (i 1).val - 512 < 256
    · have e : row (i 1) = ⟨(i 1).val - 512, by omega⟩ := Fin.ext ((if_neg h).trans (if_pos (by omega)))
      simp only [e, h, h', dif_pos, dif_neg, not_false_eq_true]
    · have hi : (i 1).val < 1024 := (i 1).isLt
      have e : row (i 1) = ⟨768 + ((i 1).val - 512 - 256), by omega⟩ :=
        Fin.ext ((if_neg h).trans ((if_neg (by omega)).trans (show (i 1).val = 768 + ((i 1).val - 512 - 256) by omega)))
      simp only [e, h, h', dif_neg, not_false_eq_true]

/-- The reference finishes and leaves its arguments as they were. -/
theorem reference_frame : Cert.quiescent_Reference11Ideal := fun m g _ =>
  (θ_run Cert.Reference11Ideal.defs _ _).mono
    (fun r h => ⟨fun c => (h c).2, sem_eq_zero_of_no_sems (by decide) r.2⟩)
    (Cert.Reference11Ideal.Value.run m g)

/-- The kernel and the reference compute the same array over the reals. -/
theorem algebraic : Cert.algebraic_Kernel11Ideal_Reference11Ideal := by
  pair_intro
  · run_from Cert.Kernel11Ideal.Gen.run_main m g
  · run_from Cert.Reference11Ideal.Value.run m' g'
    exact (reference _ _).trans ((congrArg₂ target (hagree c).2.2.2.1 (hagree c).2.2.2.2).trans (final m c).symm)

end Cert.Kernel11Ideal.Product

end
-- ==== Proof.Products.OutWeight.lean ====
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

/-! The gradient of the output weight: a product over the 9216 rows, summed in six parts of 1536 rows. -/

@[expose] public section

set_option maxRecDepth 16384

noncomputable section

namespace Cert.Kernel12Ideal.Product

open Idealize.ShloMosaic Idealize.ShloMosaic.TcCoe Idealize.SL.Sem
open Cert.Kernel12Ideal Cert.Kernel12Ideal.Gen
open Idealize.ShloMosaic.Pipeline (Dat)

variable (m : (ℓ : Loc nD τ sig) → Buf (Elt Ideal) ℓ)

theorem idx : ∀ t : Fin cfg0.N, win0_0.index t = ![t.val % 6, t.val / 6] ∧ win0_1.index t = ![t.val % 6, 0]
    ∧ win0_2.index t = ![t.val / 6, 0] :=
  (by decide +kernel : ∀ t : Fin grid0.N, _)

/-- The product of the transpose of `a` with `b`: the sum over the rows of both. -/
def target (a : FVec Ideal S9216x1024 .bf16) (b : FVec Ideal S9216x1024 .bf16) : FVec Ideal S1024x1024 .bf16 := fun i =>
  ∑ k : Fin 9216, a (ix2 k (i 0)) * b (ix2 k (i 1))

/-- The three branches side by side, in the order in which the step keeps them. -/
def mcat (s : FVec Ideal S9216x512 .bf16) (a p : FVec Ideal S9216x256 .bf16) : FVec Ideal S9216x1024 .bf16 := fun i =>
  if h : (i 1).val < 512 then s (ix2 (i 0) ⟨(i 1).val, h⟩)
  else if h' : (i 1).val - 512 < 256 then a (ix2 (i 0) ⟨(i 1).val - 512, h'⟩)
  else p (ix2 (i 0) ⟨(i 1).val - 512 - 256, by have : (i 1).val < 1024 := (i 1).isLt; omega⟩)

def A0 (c : Dev nD) := (m ((c : Thread nD τ).loc main_arg0) : FVec Ideal S9216x256 .bf16)
def A1 (c : Dev nD) := (m ((c : Thread nD τ).loc main_arg1) : FVec Ideal S9216x512 .bf16)
def A2 (c : Dev nD) := (m ((c : Thread nD τ).loc main_arg2) : FVec Ideal S9216x256 .bf16)
def left (c : Dev nD) := mcat (A1 m c) (A0 m c) (A2 m c)
def right (c : Dev nD) := (m ((c : Thread nD τ).loc main_arg4) : FVec Ideal S9216x1024 .bf16)

theorem entry (c : Dev nD) : V m c main_v0 = left m c := by
  funext i
  entry_read
  pointwise [left, mcat, A0, A1, A2]

theorem rows (t : Fin cfg0.N) (k : Fin 1536) : 1536 * (t.val % 6) + k.val < 9216 := by omega
theorem cols (t : Fin cfg0.N) (a : Fin 1024) : 1024 * (t.val / 6) + a.val < 1024 := by
  have : t.val < 6 := t.isLt
  omega

theorem blk0 (c : Dev nD) (t : Fin cfg0.N) (k : Fin 1536) (a : Fin 1024) :
    iblk m c 0 t (ix2 k a) = left m c (ix2 ⟨1536 * (t.val % 6) + k.val, rows t k⟩ ⟨1024 * (t.val / 6) + a.val, cols t a⟩) := by
  have e := entry m c
  generalize left m c = X at e ⊢
  blk_point [iblk, e, idx t]

theorem blk1 (c : Dev nD) (t : Fin cfg0.N) (k : Fin 1536) (b : Fin 1024) :
    iblk m c 1 t (ix2 k b) = right m c (ix2 ⟨1536 * (t.val % 6) + k.val, rows t k⟩ b) := by
  blk_point [iblk, V, right, idx t]

theorem emb2 (X : FVec Ideal S1024x1024 .bf16) (t : Fin cfg0.N) (y : S1024x1024.Idx) :
    X ((win0_2.blk t).view.emb y) = X (ix2 ⟨1024 * (t.val / 6) + (y 0).val, cols t (y 0)⟩ (y 1)) := by
  blk_point [idx t]

/-- One step adds the product of its two blocks. -/
def part (x : Vec Ideal S1536x1024 .bf16) (y : Vec Ideal S1536x1024 .bf16) (i : S1024x1024.Idx) : EReal :=
  ∑ k : Fin 1536, x (ix2 k (i 0)) * y (ix2 k (i 1))

theorem step (acc : Vec Ideal S1024x1024 .f32) (x : Vec Ideal S1536x1024 .bf16) (y : Vec Ideal S1536x1024 .bf16)
    (i : S1024x1024.Idx) : k0_pay2 acc x y i = acc i + part x y i := by
  pointwise [k0_pay2, part]

theorem zero (i : S1024x1024.Idx) : k0_pay1 (F := Ideal) i = 0 := by
  pointwise [k0_pay1]

/-- The accumulator after the last of a block's six steps. -/
theorem acc_last (c : Dev nD) (t : Fin cfg0.N) (h : t.val % 6 = 5) (i : S1024x1024.Idx) :
    (outsAt0 m c t.val t.isLt).2 i
      = ∑ s : Fin 6, part (iblk m c 0 ⟨6 * (t.val / 6) + s.val, Pipeline.run_point_lt_of_flush t h s⟩)
          (iblk m c 1 ⟨6 * (t.val / 6) + s.val, Pipeline.run_point_lt_of_flush t h s⟩) i := by
  rw [Pipeline.eq_sum_fin_of_reset_step_apply_of_flush (fun n h => (outsAt0 m c n h).2) 6 (fun _ => 0)
    (fun t i => part (iblk m c 0 t) (iblk m c 1 t) i) (fun t h i => ?_) (fun t h i => ?_) t h i, zero_add]
  · rw [outsAt0_A m c t h (by omega)]
    frame_out
    rw [step, zero]
  · by_cases h5 : t.val % 6 = 5
    · rw [outsAt0_C m c t h h5]
      frame_out
      rw [step, read_unread_whole]
    · rw [outsAt0_B m c t h h5]
      frame_out
      rw [step, read_unread_whole]

/-- The accumulator after the last step of a block is the sum over all rows. -/
theorem acc_last_sum (c : Dev nD) (t : Fin cfg0.N) (h : t.val % 6 = 5) (i : S1024x1024.Idx) :
    (outsAt0 m c t.val t.isLt).2 i
      = target (left m c) (right m c) (ix2 ⟨1024 * (t.val / 6) + (i 0).val, cols t (i 0)⟩ (i 1)) := by
  rw [acc_last m c t h i]
  unfold part target
  refine Fin.sum_mul_add_congr fun s k hl => ?_
  refine congrArg₂ (· * ·) ((blk0 m c _ k _).trans (congrArg _ (congrArg₂ ix2 (Fin.ext ?_) (Fin.ext ?_))))
    ((blk1 m c _ k _).trans (congrArg _ (congrArg₂ ix2 (Fin.ext ?_) rfl)))
  all_goals
    dsimp
    omega

/-- What the launch leaves in its output. -/
theorem final (c : Dev nD) : (dats m 0 c).arrAt 2 cfg0.N = target (left m c) (right m c) := by
  refine (dats m 0 c).arrAt_eq_of_covers 2 _ (by decide +kernel) fun t hf y => ?_
  have h5 : t.val % 6 = 5 := (flush0_2 t).mp hf
  blk_simp
  refine Eq.trans ?_ (emb2 _ t y).symm
  rw [after0_2]
  refine Eq.trans ?_ (acc_last_sum m c t h5 y)
  rw [outsAt0_C m c t (by omega) h5]
  frame_out
  rfl

/-- What the reference computes. -/
theorem reference (a : FVec Ideal S9216x256 .bf16) (s : FVec Ideal S9216x512 .bf16) (p : FVec Ideal S9216x256 .bf16)
    (d : FVec Ideal S9216x1024 .bf16) :
    Cert.Reference12Ideal.Read.val_main_v12 (F := Ideal) a s p d = target (mcat s a p) d := by
  rw [← Cert.Reference12Ideal.Read.val_main_v12_eq]
  funext i
  pointwise [target, mcat]
  have hi : (i 0).val < 1024 := (i 0).isLt
  by_cases h : (i 0).val < 512
  · simp only [h, dif_pos]
    exact Finset.sum_congr rfl fun k _ => mul_comm _ _
  · by_cases h' : (i 0).val - 512 < 256
    · simp only [h, h', dif_pos, dif_neg, not_false_eq_true]
      exact Finset.sum_congr rfl fun k _ => mul_comm _ _
    · have h1 : ¬ 768 + ((i 0).val - 512 - 256) < 256 := by omega
      have h2 : ¬ 768 + ((i 0).val - 512 - 256) - 256 < 512 := by omega
      simp only [h, h', h1, h2, dif_neg, not_false_eq_true]
      refine Finset.sum_congr rfl fun k _ => (mul_comm _ _).trans (congrArg (· * _) (congrArg p ?_))
      exact congrArg (ix2 k) (Fin.ext (by dsimp; omega))

/-- The reference finishes and leaves its arguments as they were. -/
theorem reference_frame : Cert.quiescent_Reference12Ideal := fun m g _ =>
  (θ_run Cert.Reference12Ideal.defs _ _).mono
    (fun r h => ⟨fun c => (h c).2, sem_eq_zero_of_no_sems (by decide) r.2⟩)
    (Cert.Reference12Ideal.Value.run m g)

/-- The kernel and the reference compute the same array over the reals. -/
theorem algebraic : Cert.algebraic_Kernel12Ideal_Reference12Ideal := by
  pair_intro
  · run_from Cert.Kernel12Ideal.Gen.run_main m g
  · run_from Cert.Reference12Ideal.Value.run m' g'
    exact (reference _ _ _ _).trans ((congrArg (target _) (hagree c).2.2.2.2).trans (final m c).symm)

end Cert.Kernel12Ideal.Product

end
-- ==== Proof.Products.UpWeight.lean ====
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

/-! The gradient of the up weight: a product over the 9216 rows, summed in six parts of 1536 rows. -/

@[expose] public section

set_option maxRecDepth 16384

noncomputable section

namespace Cert.Kernel13Ideal.Product

open Idealize.ShloMosaic Idealize.ShloMosaic.TcCoe Idealize.SL.Sem
open Cert.Kernel13Ideal Cert.Kernel13Ideal.Gen
open Idealize.ShloMosaic.Pipeline (Dat)

variable (m : (ℓ : Loc nD τ sig) → Buf (Elt Ideal) ℓ)

theorem idx : ∀ t : Fin cfg0.N, win0_0.index t = ![t.val % 6, t.val / 6] ∧ win0_1.index t = ![t.val % 6, 0]
    ∧ win0_2.index t = ![t.val / 6, 0] :=
  (by decide +kernel : ∀ t : Fin grid0.N, _)

/-- The product of the transpose of `a` with `b`: the sum over the rows of both. -/
def target (a : FVec Ideal S9216x2816 .bf16) (b : FVec Ideal S9216x1024 .bf16) : FVec Ideal S2816x1024 .bf16 := fun i =>
  ∑ k : Fin 9216, a (ix2 k (i 0)) * b (ix2 k (i 1))

def left (c : Dev nD) := (m ((c : Thread nD τ).loc main_arg2) : FVec Ideal S9216x2816 .bf16)
def right (c : Dev nD) := (m ((c : Thread nD τ).loc main_arg0) : FVec Ideal S9216x1024 .bf16)

theorem rows (t : Fin cfg0.N) (k : Fin 1536) : 1536 * (t.val % 6) + k.val < 9216 := by omega
theorem cols (t : Fin cfg0.N) (a : Fin 1408) : 1408 * (t.val / 6) + a.val < 2816 := by
  have : t.val < 12 := t.isLt
  omega

theorem blk0 (c : Dev nD) (t : Fin cfg0.N) (k : Fin 1536) (a : Fin 1408) :
    iblk m c 0 t (ix2 k a) = left m c (ix2 ⟨1536 * (t.val % 6) + k.val, rows t k⟩ ⟨1408 * (t.val / 6) + a.val, cols t a⟩) := by
  blk_point [iblk, V, left, idx t]

theorem blk1 (c : Dev nD) (t : Fin cfg0.N) (k : Fin 1536) (b : Fin 1024) :
    iblk m c 1 t (ix2 k b) = right m c (ix2 ⟨1536 * (t.val % 6) + k.val, rows t k⟩ b) := by
  blk_point [iblk, V, right, idx t]

theorem emb2 (X : FVec Ideal S2816x1024 .bf16) (t : Fin cfg0.N) (y : S1408x1024.Idx) :
    X ((win0_2.blk t).view.emb y) = X (ix2 ⟨1408 * (t.val / 6) + (y 0).val, cols t (y 0)⟩ (y 1)) := by
  blk_point [idx t]

/-- One step adds the product of its two blocks. -/
def part (x : Vec Ideal S1536x1408 .bf16) (y : Vec Ideal S1536x1024 .bf16) (i : S1408x1024.Idx) : EReal :=
  ∑ k : Fin 1536, x (ix2 k (i 0)) * y (ix2 k (i 1))

theorem step (acc : Vec Ideal S1408x1024 .f32) (x : Vec Ideal S1536x1408 .bf16) (y : Vec Ideal S1536x1024 .bf16)
    (i : S1408x1024.Idx) : k0_pay2 acc x y i = acc i + part x y i := by
  pointwise [k0_pay2, part]

theorem zero (i : S1408x1024.Idx) : k0_pay1 (F := Ideal) i = 0 := by
  pointwise [k0_pay1]

/-- The accumulator after the last of a block's six steps. -/
theorem acc_last (c : Dev nD) (t : Fin cfg0.N) (h : t.val % 6 = 5) (i : S1408x1024.Idx) :
    (outsAt0 m c t.val t.isLt).2 i
      = ∑ s : Fin 6, part (iblk m c 0 ⟨6 * (t.val / 6) + s.val, Pipeline.run_point_lt_of_flush t h s⟩)
          (iblk m c 1 ⟨6 * (t.val / 6) + s.val, Pipeline.run_point_lt_of_flush t h s⟩) i := by
  rw [Pipeline.eq_sum_fin_of_reset_step_apply_of_flush (fun n h => (outsAt0 m c n h).2) 6 (fun _ => 0)
    (fun t i => part (iblk m c 0 t) (iblk m c 1 t) i) (fun t h i => ?_) (fun t h i => ?_) t h i, zero_add]
  · rw [outsAt0_A m c t h (by omega)]
    frame_out
    rw [step, zero]
  · by_cases h5 : t.val % 6 = 5
    · rw [outsAt0_C m c t h h5]
      frame_out
      rw [step, read_unread_whole]
    · rw [outsAt0_B m c t h h5]
      frame_out
      rw [step, read_unread_whole]

/-- The accumulator after the last step of a block is the sum over all rows. -/
theorem acc_last_sum (c : Dev nD) (t : Fin cfg0.N) (h : t.val % 6 = 5) (i : S1408x1024.Idx) :
    (outsAt0 m c t.val t.isLt).2 i
      = target (left m c) (right m c) (ix2 ⟨1408 * (t.val / 6) + (i 0).val, cols t (i 0)⟩ (i 1)) := by
  rw [acc_last m c t h i]
  unfold part target
  refine Fin.sum_mul_add_congr fun s k hl => ?_
  refine congrArg₂ (· * ·) ((blk0 m c _ k _).trans (congrArg _ (congrArg₂ ix2 (Fin.ext ?_) (Fin.ext ?_))))
    ((blk1 m c _ k _).trans (congrArg _ (congrArg₂ ix2 (Fin.ext ?_) rfl)))
  all_goals
    dsimp
    omega

/-- What the launch leaves in its output. -/
theorem final (c : Dev nD) : (dats m 0 c).arrAt 2 cfg0.N = target (left m c) (right m c) := by
  refine (dats m 0 c).arrAt_eq_of_covers 2 _ (by decide +kernel) fun t hf y => ?_
  have h5 : t.val % 6 = 5 := (flush0_2 t).mp hf
  blk_simp
  refine Eq.trans ?_ (emb2 _ t y).symm
  rw [after0_2]
  refine Eq.trans ?_ (acc_last_sum m c t h5 y)
  rw [outsAt0_C m c t (by omega) h5]
  frame_out
  rfl

/-- What the reference computes. -/
theorem reference (h : FVec Ideal S9216x1024 .bf16) (d : FVec Ideal S9216x2816 .bf16) :
    Cert.Reference13Ideal.Read.val_main_v6 (F := Ideal) h d = target d h := by
  rw [← Cert.Reference13Ideal.Read.val_main_v6_eq]
  funext i
  pointwise [target]

/-- The reference finishes and leaves its arguments as they were. -/
theorem reference_frame : Cert.quiescent_Reference13Ideal := fun m g _ =>
  (θ_run Cert.Reference13Ideal.defs _ _).mono
    (fun r h => ⟨fun c => (h c).2, sem_eq_zero_of_no_sems (by decide) r.2⟩)
    (Cert.Reference13Ideal.Value.run m g)

/-- The kernel and the reference compute the same array over the reals. -/
theorem algebraic : Cert.algebraic_Kernel13Ideal_Reference13Ideal := by
  pair_intro
  · run_from Cert.Kernel13Ideal.Gen.run_main m g
  · run_from Cert.Reference13Ideal.Value.run m' g'
    exact (reference _ _).trans (final m c).symm

end Cert.Kernel13Ideal.Product

end
-- ==== Proof.Glu.Blocks.lean ====
module

public import proofs.«01_k».proof.Defs
public import proofs.«01_k».proof.Proof.Gen.Kernel14Ideal.Value
public import Idealize.ShloMosaic.Lib.Pipeline.ValueKit
public import Idealize.ShloMosaic.Lib.Pipeline.ReadBack
public import Idealize.ShloMosaic.Lib.Pointwise

/-! The blocks of the arguments that one step of the gated unit's gradient reads. -/

@[expose] public section

set_option maxRecDepth 16384

noncomputable section

namespace Cert.Kernel14Ideal.Glu

open Idealize.ShloMosaic Idealize.ShloMosaic.TcCoe Idealize.SL.Sem
open Cert.Kernel14Ideal Cert.Kernel14Ideal.Gen
open Idealize.ShloMosaic.Pipeline (Dat)

variable (m : (ℓ : Loc nD τ sig) → Buf (Elt Ideal) ℓ)

theorem idx : ∀ t : Fin cfg0.N, win0_0.index t = ![t.val, 1] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![0, 0] ∧ win0_9.index t = ![0, 0] ∧ win0_10.index t = ![0, 0] :=
  (by decide +kernel : ∀ t : Fin grid0.N, _)

def A0 (c : Dev nD) := (m ((c : Thread nD τ).loc main_arg0) : FVec Ideal S9216x1280 .bf16)
def A1 (c : Dev nD) := (m ((c : Thread nD τ).loc main_arg1) : FVec Ideal S9216x1024 .bf16)
def A2 (c : Dev nD) := (m ((c : Thread nD τ).loc main_arg2) : FVec Ideal S9216x512 .f32)
def A3 (c : Dev nD) := (m ((c : Thread nD τ).loc main_arg3) : FVec Ideal S32x16 .f32)
def A4 (c : Dev nD) := (m ((c : Thread nD τ).loc main_arg4) : FVec Ideal S512x512 .f32)
def A5 (c : Dev nD) := (m ((c : Thread nD τ).loc main_arg5) : FVec Ideal S512 .f32)

/-- The state-space branch's own columns of the projection. -/
def ucol (z : FVec Ideal S9216x1280 .bf16) (r : Fin 9216) (j : Fin 512) : EReal := z (ix2 r ⟨512 + j.val, by omega⟩)

/-- The direct weights as one vector. -/
def dvec (d : FVec Ideal S32x16 .f32) (j : Fin 512) : EReal := d (ix2 ⟨j.val / 16, by omega⟩ ⟨j.val % 16, by omega⟩)

/-- The branch's output before the gated unit. -/
def yout (z : FVec Ideal S9216x1280 .bf16) (ys : FVec Ideal S9216x512 .f32) (d : FVec Ideal S32x16 .f32) (r : Fin 9216)
    (j : Fin 512) : EReal :=
  ys (ix2 r j) + dvec d j * ucol z r j

theorem rows (t : Fin cfg0.N) (a : Fin 1024) : 1024 * t.val + a.val < 9216 := by
  have : t.val < 9 := t.isLt
  omega

/-- The row that place `a` of step `t` works on. -/
abbrev row (t : Fin cfg0.N) (a : Fin 1024) : Fin 9216 := ⟨1024 * t.val + a.val, rows t a⟩

theorem blk0 (c : Dev nD) (t : Fin cfg0.N) (a : Fin 1024) (k : Fin 512) :
    X0_0 m c t (ix2 a k) = ucol (A0 m c) (row t a) k := by
  refine (dif_pos (moved0_0 t _)).trans ?_
  blk_point [iblk, V, A0, ucol, idx t]

theorem entry1 (c : Dev nD) (r : Fin 9216) (k : Fin 512) :
    V m c main_v5 (ix2 r k) = yout (A0 m c) (A2 m c) (A3 m c) r k := by
  entry_read
  pointwise [A0, A2, A3, yout, dvec, ucol]

theorem blk1 (c : Dev nD) (t : Fin cfg0.N) (a : Fin 1024) (k : Fin 512) :
    iblk m c 1 t (ix2 a k) = yout (A0 m c) (A2 m c) (A3 m c) (row t a) k := by
  refine Eq.trans ?_ (entry1 m c (row t a) k)
  blk_point [iblk, idx t]

theorem blk2 (c : Dev nD) (t : Fin cfg0.N) (a : Fin 1024) (k : Fin 512) :
    iblk m c 2 t (ix2 a k) = A1 m c (ix2 (row t a) ⟨k.val, by omega⟩) := by
  blk_point [iblk, V, A1, idx t]

theorem entry3 (c : Dev nD) (k : Fin 512) : V m c main_v0 (ix2 (0 : Fin 1) k) = dvec (A3 m c) k := by
  entry_read
  pointwise [A3, dvec]

theorem blk3 (c : Dev nD) (t : Fin cfg0.N) (k : Fin 512) : iblk m c 3 t (ix2 (0 : Fin 1) k) = dvec (A3 m c) k := by
  refine Eq.trans ?_ (entry3 m c k)
  blk_point [iblk, idx t]

theorem entry4 (c : Dev nD) : V m c main_v6 = A4 m c := by
  funext i
  entry_read
  pointwise [A4]

theorem blk4 (c : Dev nD) (t : Fin cfg0.N) (k j : Fin 512) : iblk m c 4 t (ix2 k j) = A4 m c (ix2 k j) := by
  have e := entry4 m c
  generalize A4 m c = X at e ⊢
  blk_point [iblk, e, idx t]

theorem entry5 (c : Dev nD) (k : Fin 512) : V m c main_v7 (ix2 (0 : Fin 1) k) = A5 m c (ix1 k) := by
  entry_read
  pointwise [A5]

theorem blk5 (c : Dev nD) (t : Fin cfg0.N) (k : Fin 512) : iblk m c 5 t (ix2 (0 : Fin 1) k) = A5 m c (ix1 k) := by
  refine Eq.trans ?_ (entry5 m c k)
  blk_point [iblk, idx t]

theorem emb6 (X : FVec Ideal S9216x512 .bf16) (t : Fin cfg0.N) (y : S1024x512.Idx) :
    X ((win0_6.blk t).view.emb y) = X (ix2 (row t (y 0)) (y 1)) := by
  blk_point [idx t]

theorem emb7 (X : FVec Ideal S9216x512 .f32) (t : Fin cfg0.N) (y : S1024x512.Idx) :
    X ((win0_7.blk t).view.emb y) = X (ix2 (row t (y 0)) (y 1)) := by
  blk_point [idx t]

theorem emb8 (X : FVec Ideal S512x512 .f32) (t : Fin cfg0.N) (y : S512x512.Idx) :
    X ((win0_8.blk t).view.emb y) = X (ix2 (y 0) (y 1)) := by
  blk_point [idx t]

theorem emb9 (X : FVec Ideal S1x512 .f32) (t : Fin cfg0.N) (y : S1x512.Idx) :
    X ((win0_9.blk t).view.emb y) = X (ix2 (y 0) (y 1)) := by
  blk_point [idx t]

theorem emb10 (X : FVec Ideal S1x512 .f32) (t : Fin cfg0.N) (y : S1x512.Idx) :
    X ((win0_10.blk t).view.emb y) = X (ix2 (y 0) (y 1)) := by
  blk_point [idx t]

end Cert.Kernel14Ideal.Glu

end
-- ==== Proof.Glu.Arrays.lean ====
module

public import proofs.«01_k».proof.Defs
public import proofs.«01_k».proof.Proof.Gen.Reference14Ideal.Value
public import proofs.«01_k».proof.Proof.Glu.Blocks
public import Idealize.ShloMosaic.Lib.Pipeline.ValueKit
public import Idealize.ShloMosaic.Lib.Pipeline.ReadBack
public import Idealize.ShloMosaic.Lib.Pointwise

/-! The arrays the reference reads and writes, each of them whole. -/

@[expose] public section

set_option maxRecDepth 16384

noncomputable section

namespace Cert.Reference14Ideal.Glu

open Idealize.ShloMosaic Idealize.ShloMosaic.TcCoe Idealize.SL.Sem
open Cert.Reference14Ideal Cert.Reference14Ideal.Gen
open Idealize.ShloMosaic.Pipeline (Dat)
open Cert.Kernel14Ideal.Glu (ucol dvec yout)

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧
    win0_6.index t = ![0, 0] ∧ win0_7.index t = ![0, 0] ∧ win0_8.index t = ![0, 0] ∧ win0_9.index t = ![0, 0] ∧ win0_10.index t = ![0, 0] :=
  (by decide +kernel : ∀ t : Fin grid0.N, _)

def A0 (c : Dev nD) := (m ((c : Thread nD τ).loc main_arg0) : FVec Ideal S9216x1280 .bf16)
def A1 (c : Dev nD) := (m ((c : Thread nD τ).loc main_arg1) : FVec Ideal S9216x1024 .bf16)
def A2 (c : Dev nD) := (m ((c : Thread nD τ).loc main_arg2) : FVec Ideal S9216x512 .f32)
def A3 (c : Dev nD) := (m ((c : Thread nD τ).loc main_arg3) : FVec Ideal S32x16 .f32)
def A4 (c : Dev nD) := (m ((c : Thread nD τ).loc main_arg4) : FVec Ideal S512x512 .f32)
def A5 (c : Dev nD) := (m ((c : Thread nD τ).loc main_arg5) : FVec Ideal S512 .f32)

theorem blk0 (c : Dev nD) (t : Fin cfg0.N) : iblk m c 0 t = A0 m c := by
  funext i
  idx_vars i
  blk_point [iblk, V, A0, idx t]

theorem blk1 (c : Dev nD) (t : Fin cfg0.N) : iblk m c 1 t = A1 m c := by
  funext i
  idx_vars i
  blk_point [iblk, V, A1, idx t]

theorem blk2 (c : Dev nD) (t : Fin cfg0.N) : iblk m c 2 t = A2 m c := by
  funext i
  idx_vars i
  blk_point [iblk, V, A2, idx t]

theorem blk4 (c : Dev nD) (t : Fin cfg0.N) : iblk m c 4 t = A4 m c := by
  funext i
  idx_vars i
  blk_point [iblk, V, A4, idx t]

theorem entry3 (c : Dev nD) (k : Fin 512) : V m c main_v2 (ix2 (0 : Fin 1) k) = dvec (A3 m c) k := by
  entry_read
  pointwise [A3, dvec]

theorem blk3 (c : Dev nD) (t : Fin cfg0.N) (k : Fin 512) : iblk m c 3 t (ix2 (0 : Fin 1) k) = dvec (A3 m c) k := by
  refine Eq.trans ?_ (entry3 m c k)
  blk_point [iblk, idx t]

theorem entry5 (c : Dev nD) (k : Fin 512) : V m c main_v3 (ix2 (0 : Fin 1) k) = A5 m c (ix1 k) := by
  entry_read
  pointwise [A5]

theorem blk5 (c : Dev nD) (t : Fin cfg0.N) (k : Fin 512) : iblk m c 5 t (ix2 (0 : Fin 1) k) = A5 m c (ix1 k) := by
  refine Eq.trans ?_ (entry5 m c k)
  blk_point [iblk, idx t]

theorem emb6 (X : FVec Ideal S9216x512 .bf16) (t : Fin cfg0.N) (y : S9216x512.Idx) : X ((win0_6.blk t).view.emb y) = X y := by
  idx_vars y
  blk_point [idx t]

theorem emb7 (X : FVec Ideal S9216x512 .f32) (t : Fin cfg0.N) (y : S9216x512.Idx) : X ((win0_7.blk t).view.emb y) = X y := by
  idx_vars y
  blk_point [idx t]

theorem emb8 (X : FVec Ideal S512x512 .f32) (t : Fin cfg0.N) (y : S512x512.Idx) : X ((win0_8.blk t).view.emb y) = X y := by
  idx_vars y
  blk_point [idx t]

theorem emb9 (X : FVec Ideal S1x512 .f32) (t : Fin cfg0.N) (y : S1x512.Idx) : X ((win0_9.blk t).view.emb y) = X y := by
  idx_vars y
  blk_point [idx t]

theorem emb10 (X : FVec Ideal S1x512 .f32) (t : Fin cfg0.N) (y : S1x512.Idx) : X ((win0_10.blk t).view.emb y) = X y := by
  idx_vars y
  blk_point [idx t]

/-! What the body loads. -/

theorem ldU (X : Vec Ideal S9216x1280 .bf16) (r : Fin 9216) (j : Fin 512) : View.ld X r0_0 (ix2 r j) = ucol X r j :=
  View.ld_unit_apply_of _ _ _ _ _ _ (Fin.forall_fin_two.2 ⟨(Nat.zero_add _).symm, rfl⟩)

theorem ldS (X : Vec Ideal S9216x1024 .bf16) (r : Fin 9216) (j : Fin 512) :
    View.ld X r0_1 (ix2 r j) = X (ix2 r ⟨j.val, by omega⟩) :=
  View.ld_unit_apply_of _ _ _ _ _ _ (Fin.forall_fin_two.2 ⟨(Nat.zero_add _).symm, (Nat.zero_add _).symm⟩)

theorem ldY (X : Vec Ideal S9216x512 .f32) : View.ld X r0_2 = X := View.ld_unit_lit' _ X (by decide)

theorem ldD (X : Vec Ideal S1x512 .f32) : View.ld X r0_3 = X := View.ld_unit_lit' _ X (by decide)

theorem ldW (X : Vec Ideal S512x512 .f32) : View.ld X r0_4 = X := View.ld_unit_lit' _ X (by decide)

end Cert.Reference14Ideal.Glu

end
-- ==== Proof.Glu.Gelu.lean ====
module

public import Idealize.ShloMosaic.PureOps.Ideal.Laws
public import Idealize.ShloMosaic.Lib.Pointwise

/-! The activation of the gated unit (the tanh form of the Gaussian error linear unit), its derivative, the gate and the
gradients through both, as functions of the rows they work on. -/

@[expose] public section

noncomputable section

namespace Cert.Glu

open Idealize.ShloMosaic Idealize.ShloMosaic.TcCoe

/-- The coefficient of the cube in the activation's tanh. -/
def cubic : EReal := ((8943 / 200000 : ℝ) : EReal)

/-- Three times it, as the derivative has it. -/
def cubic3 : EReal := ((26829 / 200000 : ℝ) : EReal)

/-- One half, and the square root of two over pi, as the programs write them. -/
abbrev half : EReal := Ideal.ofBits .f32 0x3F000000#32
abbrev root : EReal := Ideal.ofBits .f32 0x3F4C422A#32

def bend (y : EReal) : EReal := Ideal.tanh (root * (y + cubic * y * y * y))

def gelu (y : EReal) : EReal := half * y * (1 + bend y)

/-- The derivative of `gelu`. -/
def gelu' (y : EReal) : EReal :=
  half * (1 + bend y) + half * y * (1 - bend y * bend y) * root * (1 + cubic3 * y * y)

def sigm (x : EReal) : EReal := Ideal.div 1 (1 + Ideal.exp (0 - x))

section Rows

variable {M : Nat} (y s : Fin M → Fin 512 → EReal) (w : FVec Ideal (⟨2, ![512, 512]⟩ : Shape) .f32)
  (b : FVec Ideal (⟨1, ![512]⟩ : Shape) .f32)

/-- The gate of row `r`. -/
def gate (r : Fin M) (j : Fin 512) : EReal := sigm (∑ x, gelu (y r x) * w (ix2 x j) + b (ix1 j))

/-- The gradient with respect to the gate's argument; `s` is the gradient of the unit's result. -/
def dpre (r : Fin M) (j : Fin 512) : EReal := s r j * gelu (y r j) * gate y w b r j * (1 - gate y w b r j)

/-- The gradient with respect to the activation's result. -/
def dact (r : Fin M) (j : Fin 512) : EReal := s r j * gate y w b r j + ∑ x, dpre y s w b r x * w (ix2 j x)

/-- The gradient with respect to the unit's argument. -/
def dy (r : Fin M) (j : Fin 512) : EReal := dact y s w b r j * gelu' (y r j)

end Rows

end Cert.Glu

end
-- ==== Proof.Glu.Derivative.lean ====
module

public import proofs.«01_k».proof.Proof.Glu.Gelu
public import proofs.«01_k».proof.Proof.Reals

/-! The derivative of the gated unit, at real numbers: the form that differentiates line by line is the form that collects
the terms of the activation's derivative. -/

@[expose] public section

noncomputable section

namespace Cert.Glu

open Idealize.ShloMosaic Cert.Reals

theorem half_eq : half = ((1 / 2 : ℝ) : EReal) := by
  simp [half, Ideal.ofBits, Ideal.ieee, -EReal.coe_mul]
  norm_num

theorem isReal_root : IsReal root := by
  refine ⟨13386282 / 16777216, ?_⟩
  simp [root, Ideal.ofBits, Ideal.ieee, -EReal.coe_mul]
  norm_num

abbrev three : EReal := Ideal.ofBits .f32 0x40400000#32

theorem three_eq : three = ((3 : ℝ) : EReal) := by
  simp [three, Ideal.ofBits, Ideal.ieee, -EReal.coe_mul]
  norm_num

theorem isReal_half : IsReal half := ⟨_, half_eq⟩

theorem isReal_cubic : IsReal cubic := ⟨_, rfl⟩

theorem isReal_bend {y : EReal} (hy : IsReal y) : IsReal (bend y) :=
  isReal_tanh (isReal_root.mul (hy.add (((isReal_cubic.mul hy).mul hy).mul hy)))

theorem isReal_gelu {y : EReal} (hy : IsReal y) : IsReal (gelu y) :=
  (isReal_half.mul hy).mul (isReal_one.add (isReal_bend hy))

theorem isReal_sigm (x : EReal) : IsReal (sigm x) := isReal_logistic x

/-- The activation with its cube taken first. -/
theorem bend_cube (y : EReal) : Ideal.tanh (root * (y + cubic * (y * (y * y)))) = bend y := by
  rw [bend, mul_assoc cubic y y, mul_assoc cubic (y * y) y, mul_assoc y y y]

theorem gelu_factor (y : EReal) : y * (half * (1 + bend y)) = gelu y := by
  rw [gelu, mul_left_comm, mul_assoc]

theorem dpre_factor (s g q : EReal) : g * s * (q * (1 - q)) = s * g * q * (1 - q) := by
  rw [mul_comm g s, ← mul_assoc]

/-- What differentiating the activation line by line gives. -/
def lineGrad (y g : EReal) : EReal :=
  g * (half * (1 + bend y)) + root * (half * (y * g) * ((1 + bend y) * (1 - bend y)))
    + cubic * (root * (half * (y * g) * ((1 + bend y) * (1 - bend y)))) * (three * (y * y))

theorem lineGrad_eq {y g : EReal} (hy : IsReal y) (hg : IsReal g) : lineGrad y g = g * gelu' y := by
  have hb := isReal_bend hy
  have hr := isReal_root
  unfold lineGrad gelu'
  rw [half_eq, three_eq, cubic, cubic3]
  obtain ⟨t, ht⟩ := hb
  obtain ⟨r, hr⟩ := hr
  obtain ⟨y, rfl⟩ := hy
  obtain ⟨g, rfl⟩ := hg
  rw [ht, hr]
  norm_cast
  ring

section Rows

variable {M : Nat} {y s : Fin M → Fin 512 → EReal} {w : FVec Ideal (⟨2, ![512, 512]⟩ : Shape) .f32}
  {b : FVec Ideal (⟨1, ![512]⟩ : Shape) .f32}

theorem isReal_dact (hy : ∀ r j, IsReal (y r j)) (hs : ∀ r j, IsReal (s r j)) (hw : ∀ i, IsReal (w i)) (r : Fin M) (j : Fin 512) :
    IsReal (dact y s w b r j) := by
  refine ((hs r j).mul (isReal_sigm _)).add (IsReal.sum _ _ fun x => IsReal.mul ?_ (hw _))
  exact (((hs r x).mul (isReal_gelu (hy r x))).mul (isReal_sigm _)).mul (isReal_one.sub (isReal_sigm _))

end Rows

end Cert.Glu

end
-- ==== Proof.Glu.Reference.lean ====
module

public import proofs.«01_k».proof.Defs
public import proofs.«01_k».proof.Proof.Gen.Reference14Ideal.Value
public import proofs.«01_k».proof.Proof.Glu.Arrays
public import proofs.«01_k».proof.Proof.Glu.Derivative
public import Idealize.ShloMosaic.Lib.Pipeline.ValueKit
public import Idealize.ShloMosaic.Lib.Pipeline.ReadBack
public import Idealize.ShloMosaic.Lib.Pointwise

/-! What the reference computes: its values in one step, from the arrays it loads, and the gradients they are. -/

@[expose] public section

set_option maxRecDepth 16384

noncomputable section

namespace Cert.Reference14Ideal.Glu

open Idealize.ShloMosaic Idealize.ShloMosaic.TcCoe Idealize.SL.Sem
open Cert.Reference14Ideal Cert.Reference14Ideal.Gen
open Idealize.ShloMosaic.Pipeline (Dat)
open Cert.Glu Cert.Reals
open Cert.Kernel14Ideal.Glu (ucol dvec yout)

variable (m : (ℓ : Loc nD τ sig) → Buf (Elt Ideal) ℓ)

theorem cubic_eq : Named.named (F := Ideal) Cert.Reference14Ideal.κ "gelu" (φ := .f32) 0x3D372713#32 = cubic :=
  IdealRules.named_const.ideal_named_scalar _ _ _ _ rfl

theorem logistic_eq (x : EReal) : Ideal.logistic x = sigm x := by
  rw [sigm, zero_sub]
  rfl

section Steps

variable (u : Vec Ideal S9216x512 .bf16) (ys : Vec Ideal S9216x512 .f32) (d : Vec Ideal S1x512 .f32)

theorem pay11 (i : S9216x512.Idx) : k0_pay11 u ys d i = ys i + d (ix2 (0 : Fin 1) (i 1)) * u i := by
  pointwise [k0_pay11, k0_pay10, k0_pay8]

theorem pay13 (i : S9216x512.Idx) : k0_pay13 u ys d i = bend (k0_pay11 u ys d i) := by
  rw [← bend_cube]
  pointwise [k0_pay13]
  simp only [cubic_eq]

theorem pay12 (i : S9216x512.Idx) : k0_pay12 u ys d i = three * (k0_pay11 u ys d i * k0_pay11 u ys d i) := by
  pointwise [k0_pay12]

theorem pay14 (i : S9216x512.Idx) :
    k0_pay14 u ys d i = (1 + bend (k0_pay11 u ys d i)) * (1 - bend (k0_pay11 u ys d i)) := by
  rw [← pay13]
  pointwise [k0_pay14]

theorem pay15 (i : S9216x512.Idx) : k0_pay15 u ys d i = half * (1 + bend (k0_pay11 u ys d i)) := by
  rw [← pay13]
  pointwise [k0_pay15]

theorem pay16 (i : S9216x512.Idx) : k0_pay16 u ys d i = gelu (k0_pay11 u ys d i) := by
  rw [← gelu_factor, ← pay15]
  pointwise [k0_pay16]

theorem pay17 (w : Vec Ideal S512x512 .f32) (b : Vec Ideal S1x512 .f32) (i : S9216x512.Idx) :
    k0_pay17 u ys d w b i
      = sigm (∑ x, gelu (k0_pay11 u ys d (ix2 (i 0) x)) * w (ix2 x (i 1)) + b (ix2 (0 : Fin 1) (i 1))) := by
  rw [← logistic_eq]
  pointwise [k0_pay17]
  simp only [pay16]

theorem pay18 (i : S9216x512.Idx) : k0_pay18 (F := Ideal) i = 1 := by
  pointwise [k0_pay18]

end Steps

theorem pay1 (s y g p : FVec Ideal S9216x512 .f32) (i : S9216x512.Idx) :
    k0_pay1 (F := Ideal) s y g p i = y i * s i * (g i * (p i - g i)) := by
  pointwise [k0_pay1]

theorem pay2 (s y g p : FVec Ideal S9216x512 .f32) (i : S1x512.Idx) :
    k0_pay2 (F := Ideal) s y g p i = ∑ r, k0_pay1 (F := Ideal) s y g p (ix2 r (i 1)) := by
  pointwise [k0_pay2]

theorem pay3 (s y g p : FVec Ideal S9216x512 .f32) (i : S512x512.Idx) :
    k0_pay3 (F := Ideal) s y g p i = ∑ r, k0_pay1 (F := Ideal) s y g p (ix2 r (i 1)) * y (ix2 r (i 0)) := by
  pointwise [k0_pay3]

theorem pay4 (s : FVec Ideal S9216x512 .f32) (w) (y p q r x v t : FVec Ideal S9216x512 .f32) (i : S9216x512.Idx) :
    k0_pay4 (F := Ideal) s w y p q r x v t i
      = (s i * v i + ∑ k, k0_pay1 (F := Ideal) s x v t (ix2 (i 0) k) * w (ix2 (i 1) k)) * r i
        + root * (half * (y i * (s i * v i + ∑ k, k0_pay1 (F := Ideal) s x v t (ix2 (i 0) k) * w (ix2 (i 1) k))) * q i)
        + cubic * (root * (half * (y i * (s i * v i
          + ∑ k, k0_pay1 (F := Ideal) s x v t (ix2 (i 0) k) * w (ix2 (i 1) k))) * q i)) * p i := by
  pointwise [k0_pay4]
  simp only [cubic_eq]

theorem pay7 (s : FVec Ideal S9216x512 .f32) (w) (y p q r x v t : FVec Ideal S9216x512 .f32) (i : S9216x512.Idx) :
    k0_pay7 (F := Ideal) s w y p q r x v t i = k0_pay4 (F := Ideal) s w y p q r x v t i := by
  pointwise [k0_pay7]

theorem pay5 (s : FVec Ideal S9216x512 .f32) (d) (w) (y p q r x v t : FVec Ideal S9216x512 .f32) (i : S9216x512.Idx) :
    k0_pay5 (F := Ideal) s d w y p q r x v t i = d (ix2 (0 : Fin 1) (i 1)) * k0_pay4 (F := Ideal) s w y p q r x v t i := by
  pointwise [k0_pay5]

theorem pay6 (u s : FVec Ideal S9216x512 .f32) (w) (y p q r x v t : FVec Ideal S9216x512 .f32) (i : S1x512.Idx) :
    k0_pay6 (F := Ideal) u s w y p q r x v t i
      = ∑ n, k0_pay4 (F := Ideal) s w y p q r x v t (ix2 n (i 1)) * u (ix2 n (i 1)) := by
  pointwise [k0_pay6]

section Run

variable (c : Dev nD) (t : Fin cfg0.N)

/-- The branch's output and the gradient of the unit's result, row by row. -/
def Y (r : Fin 9216) (j : Fin 512) : EReal := yout (A0 m c) (A2 m c) (A3 m c) r j
def S (r : Fin 9216) (j : Fin 512) : EReal := A1 m c (ix2 r ⟨j.val, by omega⟩)

/-- A value of the body, at the blocks it reads. -/
abbrev run {α : Sort _} (f : Vec Ideal S9216x1280 .bf16 → Vec Ideal S9216x1024 .bf16 → Vec Ideal S9216x512 .f32
    → Vec Ideal S1x512 .f32 → Vec Ideal S512x512 .f32 → Vec Ideal S1x512 .f32 → α) : α :=
  f (iblk m c 0 t) (iblk m c 1 t) (iblk m c 2 t) (iblk m c 3 t) (iblk m c 4 t) (iblk m c 5 t)

theorem run19 (r : Fin 9216) (j : Fin 512) : run m c t (k0_pay19 (F := Ideal)) (ix2 r j) = S m c r j := by
  unfold run k0_pay19
  refine Eq.trans ?_ ((ldS _ r j).trans (congrFun (blk1 m c t) _))
  pointwise [k0_pay9]

theorem run11 (r : Fin 9216) (j : Fin 512) :
    k0_pay11 (F := Ideal) (View.ld (iblk m c 0 t) r0_0) (View.ld (iblk m c 2 t) r0_2) (View.ld (iblk m c 3 t) r0_3) (ix2 r j)
      = Y m c r j := by
  refine (pay11 _ _ _ _).trans ?_
  refine congr (congrArg HAdd.hAdd ?_) (congr (congrArg HMul.hMul ?_) ?_)
  · exact congrFun ((ldY _).trans (blk2 m c t)) _
  · exact (congrFun (ldD _) _).trans (blk3 m c t j)
  · exact (ldU _ r j).trans (congrArg (fun X => ucol X r j) (blk0 m c t))

theorem run20 (r : Fin 9216) (j : Fin 512) : run m c t (k0_pay20 (F := Ideal)) (ix2 r j) = Y m c r j := run11 m c t r j

theorem run21 (r : Fin 9216) (j : Fin 512) :
    run m c t (k0_pay21 (F := Ideal)) (ix2 r j) = three * (Y m c r j * Y m c r j) :=
  (pay12 _ _ _ _).trans (congrArg (fun y => three * (y * y)) (run11 m c t r j))

theorem run22 (r : Fin 9216) (j : Fin 512) :
    run m c t (k0_pay22 (F := Ideal)) (ix2 r j) = (1 + bend (Y m c r j)) * (1 - bend (Y m c r j)) :=
  (pay14 _ _ _ _).trans (congrArg (fun y => (1 + bend y) * (1 - bend y)) (run11 m c t r j))

theorem run23 (r : Fin 9216) (j : Fin 512) :
    run m c t (k0_pay23 (F := Ideal)) (ix2 r j) = half * (1 + bend (Y m c r j)) :=
  (pay15 _ _ _ _).trans (congrArg (fun y => half * (1 + bend y)) (run11 m c t r j))

theorem run24 (r : Fin 9216) (j : Fin 512) : run m c t (k0_pay24 (F := Ideal)) (ix2 r j) = gelu (Y m c r j) :=
  (pay16 _ _ _ _).trans (congrArg gelu (run11 m c t r j))

theorem run25 (r : Fin 9216) (j : Fin 512) :
    run m c t (k0_pay25 (F := Ideal)) (ix2 r j) = gate (Y m c) (A4 m c) (A5 m c) r j := by
  refine (pay17 _ _ _ _ _ _).trans ?_
  refine congrArg sigm (congr (congrArg HAdd.hAdd (Finset.sum_congr rfl fun x _ => congr (congrArg HMul.hMul ?_) ?_)) ?_)
  · exact congrArg gelu (run11 m c t r x)
  · exact congrFun ((ldW _).trans (blk4 m c t)) _
  · exact (congrFun (ldD _) _).trans (blk5 m c t j)

theorem run26 (i : S9216x512.Idx) : run m c t (k0_pay26 (F := Ideal)) i = 1 := pay18 i

/-- The gradient with respect to the gate's argument, as the body has it. -/
theorem run_dpre (r : Fin 9216) (j : Fin 512) :
    k0_pay1 (F := Ideal) (run m c t k0_pay19) (run m c t k0_pay24) (run m c t k0_pay25) (run m c t k0_pay26) (ix2 r j)
      = dpre (Y m c) (S m c) (A4 m c) (A5 m c) r j := by
  rw [pay1, run19, run24, run25, run26, dpre_factor]
  rfl

/-- The arguments whose elements have to be real numbers. -/
structure Reals : Prop where
  z : ∀ i, IsReal (A0 m c i)
  ct : ∀ i, IsReal (A1 m c i)
  ys : ∀ i, IsReal (A2 m c i)
  d : ∀ i, IsReal (A3 m c i)
  w : ∀ i, IsReal (A4 m c i)

variable {m c} in
theorem Reals.isReal_Y (h : Reals m c) (r : Fin 9216) (j : Fin 512) : IsReal (Y m c r j) :=
  (h.ys _).add ((h.d _).mul (h.z _))

/-- The gradient with respect to the unit's argument, as the body has it. -/
theorem run_dy (h : Reals m c) (r : Fin 9216) (j : Fin 512) :
    k0_pay4 (F := Ideal) (run m c t k0_pay19) (iblk m c 4 t) (run m c t k0_pay20) (run m c t k0_pay21)
        (run m c t k0_pay22) (run m c t k0_pay23) (run m c t k0_pay24) (run m c t k0_pay25) (run m c t k0_pay26) (ix2 r j)
      = dy (Y m c) (S m c) (A4 m c) (A5 m c) r j := by
  have e : run m c t (k0_pay19 (F := Ideal)) (ix2 r j) * run m c t (k0_pay25 (F := Ideal)) (ix2 r j)
      + ∑ k : Fin 512, k0_pay1 (F := Ideal) (run m c t k0_pay19) (run m c t k0_pay24) (run m c t k0_pay25)
          (run m c t k0_pay26) (ix2 r k) * iblk m c 4 t (ix2 j k)
      = dact (Y m c) (S m c) (A4 m c) (A5 m c) r j := by
    rw [run19, run25]
    refine congrArg _ (Finset.sum_congr rfl fun k _ => congr (congrArg HMul.hMul ?_) ?_)
    · exact run_dpre m c t r k
    · exact congrFun (blk4 m c t) _
  refine Eq.trans ?_ (lineGrad_eq (h.isReal_Y r j) (isReal_dact h.isReal_Y (fun r j => h.ct _) h.w r j))
  rw [← e]
  refine (pay4 _ _ _ _ _ _ _ _ _ _).trans ?_
  rw [run20, run21, run22, run23]
  rfl

end Run

end Cert.Reference14Ideal.Glu

end
-- ==== Proof.Glu.Kernel.lean ====
module

public import proofs.«01_k».proof.Defs
public import proofs.«01_k».proof.Proof.Gen.Kernel14Ideal.Value
public import Idealize.ShloMosaic.Lib.Pipeline.ValueKit
public import Idealize.ShloMosaic.Lib.Pipeline.ReadBack
public import Idealize.ShloMosaic.Lib.Pointwise
public import proofs.«01_k».proof.Proof.Glu.Blocks
public import proofs.«01_k».proof.Proof.Glu.Gelu

/-! What the kernel leaves: in each step the gradients of its rows, and over all steps the three sums. -/

@[expose] public section

set_option maxRecDepth 16384

noncomputable section

namespace Cert.Kernel14Ideal.Glu

open Idealize.ShloMosaic Idealize.ShloMosaic.TcCoe Idealize.SL.Sem
open Cert.Kernel14Ideal Cert.Kernel14Ideal.Gen
open Idealize.ShloMosaic.Pipeline (Dat)

variable (m : (ℓ : Loc nD τ sig) → Buf (Elt Ideal) ℓ)

open Cert.Glu

theorem cubic_eq : Named.named (F := Ideal) Cert.Kernel14Ideal.κ "gelu" (φ := .f32) 0x3D372713#32 = cubic :=
  IdealRules.named_const.ideal_named_scalar _ _ _ _ rfl

theorem cubic3_eq : Named.named (F := Ideal) Cert.Kernel14Ideal.κ "gelu3" (φ := .f32) 0x3E095D4F#32 = cubic3 :=
  IdealRules.named_const.ideal_named_scalar _ _ _ _ rfl

/-! The body's values, from the blocks it reads. -/

theorem pay9 (y : Vec Ideal S1024x512 .f32) (i : S1024x512.Idx) : k0_pay9 y i = gelu (y i) := by
  pointwise [k0_pay9, k0_pay8, gelu, bend]
  simp only [cubic_eq]

theorem pay11 (y : Vec Ideal S1024x512 .f32) (w : Vec Ideal S512x512 .bf16) (b : Vec Ideal S1x512 .f32) (i : S1024x512.Idx) :
    k0_pay11 y w b i = sigm (∑ x, gelu (y (ix2 (i 0) x)) * w (ix2 x (i 1)) + b (ix2 (0 : Fin 1) (i 1))) := by
  pointwise [k0_pay11, k0_pay10, sigm]
  simp only [pay9]

theorem pay1 (y g p q : FVec Ideal S1024x512 .f32) (i : S1024x512.Idx) :
    k0_pay1 (F := Ideal) y g p q i = g i * (p i + q i * (1 + cubic3 * y i * y i)) := by
  pointwise [k0_pay1]
  simp only [cubic3_eq]

theorem pay21 (y : FVec Ideal S1024x512 .f32) (i : S1024x512.Idx) : k0_pay21 (F := Ideal) y i = half * (1 + bend (y i)) := by
  pointwise [k0_pay21, k0_pay20, bend]
  simp only [cubic_eq]

theorem pay22 (y : FVec Ideal S1024x512 .f32) (i : S1024x512.Idx) :
    k0_pay22 (F := Ideal) y i = half * y i * (1 - bend (y i) * bend (y i)) * root := by
  pointwise [k0_pay22, k0_pay20, bend]
  simp only [cubic_eq]

section Row

variable (c : Dev nD)

/-- The branch's output, the gradient of the unit's result and the branch's input, row by row. -/
def Y (r : Fin 9216) (j : Fin 512) : EReal := yout (A0 m c) (A2 m c) (A3 m c) r j
def S (r : Fin 9216) (j : Fin 512) : EReal := A1 m c (ix2 r ⟨j.val, by omega⟩)

theorem blkY (t : Fin cfg0.N) (a : Fin 1024) (j : Fin 512) : iblk m c 1 t (ix2 a j) = Y m c (row t a) j := blk1 m c t a j

theorem blkS (t : Fin cfg0.N) (a : Fin 1024) (j : Fin 512) : iblk m c 2 t (ix2 a j) = S m c (row t a) j := blk2 m c t a j

theorem gelu_blk (t : Fin cfg0.N) (a : Fin 1024) (j : Fin 512) :
    k0_pay9 (F := Ideal) (iblk m c 1 t) (ix2 a j) = gelu (Y m c (row t a) j) := by
  rw [pay9, blkY]

theorem gate_blk (t : Fin cfg0.N) (a : Fin 1024) (j : Fin 512) :
    k0_pay11 (F := Ideal) (iblk m c 1 t) (iblk m c 4 t) (iblk m c 5 t) (ix2 a j) = gate (Y m c) (A4 m c) (A5 m c) (row t a) j := by
  rw [pay11]
  unfold gate
  refine congrArg sigm (congrArg₂ (· + ·) (Finset.sum_congr rfl fun x _ => ?_) (blk5 m c t j))
  exact congrArg₂ (· * ·) (congrArg gelu (blkY m c t a x)) (blk4 m c t x j)

/-- The values a step works with, as its body writes them. -/
abbrev gate_ (t : Fin cfg0.N) := k0_pay11 (F := Ideal) (iblk m c 1 t) (iblk m c 4 t) (iblk m c 5 t)
abbrev left_ (t : Fin cfg0.N) := k0_pay13 (F := Ideal) (iblk m c 1 t) (iblk m c 4 t) (iblk m c 5 t) (iblk m c 2 t)
abbrev right_ (t : Fin cfg0.N) := k0_pay14 (F := Ideal) (iblk m c 1 t) (iblk m c 4 t) (iblk m c 5 t)
abbrev dact_ (t : Fin cfg0.N) :=
  k0_pay17 (F := Ideal) (gate_ m c t) (k0_pay12 (iblk m c 2 t)) (left_ m c t) (right_ m c t) (iblk m c 4 t)
abbrev dy_ (t : Fin cfg0.N) :=
  k0_pay1 (F := Ideal) (k0_pay8 (iblk m c 1 t)) (dact_ m c t) (k0_pay21 (k0_pay8 (iblk m c 1 t)))
    (k0_pay22 (k0_pay8 (iblk m c 1 t)))

theorem dpre_blk (t : Fin cfg0.N) (a : Fin 1024) (j : Fin 512) :
    k0_pay15 (F := Ideal) (left_ m c t) (right_ m c t) (ix2 a j) = dpre (Y m c) (S m c) (A4 m c) (A5 m c) (row t a) j := by
  pointwise [k0_pay15, k0_pay14, k0_pay13, k0_pay12]
  rw [gate_blk, gelu_blk, blkS]
  rfl

theorem dact_blk (t : Fin cfg0.N) (a : Fin 1024) (j : Fin 512) :
    dact_ m c t (ix2 a j) = dact (Y m c) (S m c) (A4 m c) (A5 m c) (row t a) j := by
  pointwise [dact_, k0_pay17, k0_pay16, k0_pay12]
  unfold dact
  refine congrArg₂ (· + ·) (congrArg₂ (· * ·) (blkS m c t a j) (gate_blk m c t a j)) (Finset.sum_congr rfl fun x _ => ?_)
  exact congrArg₂ (· * ·) (dpre_blk m c t a x) (blk4 m c t j x)

theorem dy_blk (t : Fin cfg0.N) (a : Fin 1024) (j : Fin 512) :
    dy_ m c t (ix2 a j) = dy (Y m c) (S m c) (A4 m c) (A5 m c) (row t a) j := by
  have e : k0_pay8 (F := Ideal) (iblk m c 1 t) (ix2 a j) = Y m c (row t a) j := by
    pointwise [k0_pay8]
    exact blkY m c t a j
  unfold dy_
  rw [pay1, dact_blk, pay21, pay22, e]
  rfl

end Row

/-! The five results. -/

def target6 (c : Dev nD) : FVec Ideal S9216x512 .bf16 := fun i => dy (Y m c) (S m c) (A4 m c) (A5 m c) (i 0) (i 1)
def target7 (c : Dev nD) : FVec Ideal S9216x512 .f32 := fun i =>
  dy (Y m c) (S m c) (A4 m c) (A5 m c) (i 0) (i 1) * dvec (A3 m c) (i 1)
def target8 (c : Dev nD) : FVec Ideal S512x512 .f32 := fun i =>
  ∑ r, gelu (Y m c r (i 0)) * dpre (Y m c) (S m c) (A4 m c) (A5 m c) r (i 1)
def target9 (c : Dev nD) : FVec Ideal S1x512 .f32 := fun i => ∑ r, dpre (Y m c) (S m c) (A4 m c) (A5 m c) r (i 1)
def target10 (c : Dev nD) : FVec Ideal S1x512 .f32 := fun i =>
  ∑ r, dy (Y m c) (S m c) (A4 m c) (A5 m c) r (i 1) * ucol (A0 m c) r (i 1)

theorem final6 (c : Dev nD) : (dats m 0 c).arrAt 6 cfg0.N = target6 m c := by
  refine (dats m 0 c).arrAt_eq_of_covers 6 _ (by decide +kernel) fun t hf y => ?_
  blk_simp
  refine Eq.trans ?_ (emb6 _ t y).symm
  rw [after0_6]
  have e : (outsAt0 m c t.val t.isLt).1 = fun y => dy_ m c t y := by
    by_cases h : t.val % 9 = 0
    · rw [outsAt0_A m c t h]
      frame_out
      rfl
    · rw [outsAt0_B m c t h]
      frame_out
      rfl
  refine (congrFun e y).trans ?_
  idx_vars y
  exact dy_blk m c t _ _

theorem pay4 (y g p q : FVec Ideal S1024x512 .f32) (d : Vec Ideal S1x512 .f32) (i : S1024x512.Idx) :
    k0_pay4 (F := Ideal) y g p q d i = k0_pay1 (F := Ideal) y g p q i * d (ix2 (0 : Fin 1) (i 1)) := by
  pointwise [k0_pay4]

theorem final7 (c : Dev nD) : (dats m 0 c).arrAt 7 cfg0.N = target7 m c := by
  refine (dats m 0 c).arrAt_eq_of_covers 7 _ (by decide +kernel) fun t hf y => ?_
  blk_simp
  refine Eq.trans ?_ (emb7 _ t y).symm
  rw [after0_7]
  have e : (outsAt0 m c t.val t.isLt).2.1 = fun y => dy_ m c t y * iblk m c 3 t (ix2 (0 : Fin 1) (y 1)) := by
    funext y
    by_cases h : t.val % 9 = 0
    · rw [outsAt0_A m c t h]
      frame_out
      rw [pay4]
    · rw [outsAt0_B m c t h]
      frame_out
      rw [pay4]
  refine (congrFun e y).trans ?_
  idx_vars y
  exact congrArg₂ (· * ·) (dy_blk m c t _ _) (blk3 m c t _)

/-- A sum that starts at the first step and to which every step adds its rows is, after the last one, the sum over all
rows. -/
theorem acc_sum {ι : Type} (f : (n : Nat) → n < cfg0.N → ι → EReal) (G : Fin 9216 → ι → EReal)
    (h0 : ∀ t : Fin cfg0.N, t.val % 9 = 0 → ∀ i, f t.val t.isLt i = ∑ a : Fin 1024, G (row t a) i)
    (hs : ∀ t : Fin cfg0.N, ¬t.val % 9 = 0 → ∀ i, f t.val t.isLt i
      = f (t.val - 1) (Nat.lt_of_le_of_lt (Nat.sub_le _ _) t.isLt) i + ∑ a : Fin 1024, G (row t a) i)
    (t : Fin cfg0.N) (h : t.val % 9 = 8) (i : ι) : f t.val t.isLt i = ∑ r, G r i := by
  have ht : t.val < 9 := t.isLt
  rw [Pipeline.eq_sum_fin_of_reset_step_apply_of_flush f 9 (fun _ => 0) (fun t i => ∑ a : Fin 1024, G (row t a) i)
    (fun t h i => (h0 t h i).trans (zero_add _).symm) hs t h i, zero_add]
  refine Fin.sum_mul_add_congr fun s k hl => congrArg (fun r => G r i) (Fin.ext ?_)
  dsimp
  omega

theorem step8 (g : FVec Ideal S1024x512 .bf16) (p q : FVec Ideal S1024x512 .f32) (acc : Vec Ideal S512x512 .f32) (i : S512x512.Idx) :
    k0_pay18 (F := Ideal) g p q acc i = acc i + ∑ a, g (ix2 a (i 0)) * k0_pay15 (F := Ideal) p q (ix2 a (i 1)) := by
  pointwise [k0_pay18, k0_pay16]

theorem zero8 (i : S512x512.Idx) : k0_pay5 (F := Ideal) i = 0 := by
  pointwise [k0_pay5]

theorem part8 (c : Dev nD) (t : Fin cfg0.N) (i : S512x512.Idx) :
    ∑ a, k0_pay10 (F := Ideal) (iblk m c 1 t) (ix2 a (i 0)) * k0_pay15 (F := Ideal) (left_ m c t) (right_ m c t) (ix2 a (i 1))
      = ∑ a : Fin 1024, gelu (Y m c (row t a) (i 0)) * dpre (Y m c) (S m c) (A4 m c) (A5 m c) (row t a) (i 1) :=
  Finset.sum_congr rfl fun a _ => congrArg₂ (· * ·) (gelu_blk m c t a _) (dpre_blk m c t a _)

theorem final8 (c : Dev nD) : (dats m 0 c).arrAt 8 cfg0.N = target8 m c := by
  refine (dats m 0 c).arrAt_eq_of_covers 8 _ (by decide +kernel) fun t hf y => ?_
  blk_simp
  refine Eq.trans ?_ (emb8 _ t y).symm
  rw [after0_8]
  refine acc_sum (fun n h => (outsAt0 m c n h).2.2.1)
    (fun r i => gelu (Y m c r (i 0)) * dpre (Y m c) (S m c) (A4 m c) (A5 m c) r (i 1)) (fun t h i => ?_) (fun t h i => ?_) t
    ((flush0_8 t).mp hf) y
  · rw [outsAt0_A m c t h]
    frame_out
    rw [step8, zero8, zero_add, part8]
  · rw [outsAt0_B m c t h]
    frame_out
    rw [step8, part8]

theorem step9 (p q : FVec Ideal S1024x512 .f32) (acc : Vec Ideal S1x512 .f32) (i : S1x512.Idx) :
    k0_pay19 (F := Ideal) p q acc i = acc i + ∑ a, k0_pay15 (F := Ideal) p q (ix2 a (i 1)) := by
  pointwise [k0_pay19]

theorem zero9 (i : S1x512.Idx) : k0_pay6 (F := Ideal) i = 0 := by
  pointwise [k0_pay6]

theorem part9 (c : Dev nD) (t : Fin cfg0.N) (i : S1x512.Idx) :
    ∑ a, k0_pay15 (F := Ideal) (left_ m c t) (right_ m c t) (ix2 a (i 1))
      = ∑ a : Fin 1024, dpre (Y m c) (S m c) (A4 m c) (A5 m c) (row t a) (i 1) :=
  Finset.sum_congr rfl fun a _ => dpre_blk m c t a _

theorem final9 (c : Dev nD) : (dats m 0 c).arrAt 9 cfg0.N = target9 m c := by
  refine (dats m 0 c).arrAt_eq_of_covers 9 _ (by decide +kernel) fun t hf y => ?_
  blk_simp
  refine Eq.trans ?_ (emb9 _ t y).symm
  rw [after0_9]
  refine acc_sum (fun n h => (outsAt0 m c n h).2.2.2.1)
    (fun r i => dpre (Y m c) (S m c) (A4 m c) (A5 m c) r (i 1)) (fun t h i => ?_) (fun t h i => ?_) t ((flush0_9 t).mp hf) y
  · rw [outsAt0_A m c t h]
    frame_out
    rw [step9, zero9, zero_add, part9]
  · rw [outsAt0_B m c t h]
    frame_out
    rw [step9, part9]

theorem step10 (y g p q : FVec Ideal S1024x512 .f32) (acc : Vec Ideal S1x512 .f32) (u : Vec Ideal S1024x512 .bf16) (i : S1x512.Idx) :
    k0_pay3 (F := Ideal) y g p q acc u i = acc i + ∑ a, k0_pay1 (F := Ideal) y g p q (ix2 a (i 1)) * u (ix2 a (i 1)) := by
  pointwise [k0_pay3]

theorem zero10 (i : S1x512.Idx) : k0_pay7 (F := Ideal) i = 0 := by
  pointwise [k0_pay7]

theorem part10 (c : Dev nD) (t : Fin cfg0.N) (i : S1x512.Idx) :
    ∑ a, dy_ m c t (ix2 a (i 1)) * X0_0 m c t (ix2 a (i 1))
      = ∑ a : Fin 1024, dy (Y m c) (S m c) (A4 m c) (A5 m c) (row t a) (i 1) * ucol (A0 m c) (row t a) (i 1) :=
  Finset.sum_congr rfl fun a _ => congrArg₂ (· * ·) (dy_blk m c t a _) (blk0 m c t a _)

theorem final10 (c : Dev nD) : (dats m 0 c).arrAt 10 cfg0.N = target10 m c := by
  refine (dats m 0 c).arrAt_eq_of_covers 10 _ (by decide +kernel) fun t hf y => ?_
  blk_simp
  refine Eq.trans ?_ (emb10 _ t y).symm
  rw [after0_10]
  refine acc_sum (fun n h => (outsAt0 m c n h).2.2.2.2)
    (fun r i => dy (Y m c) (S m c) (A4 m c) (A5 m c) r (i 1) * ucol (A0 m c) r (i 1)) (fun t h i => ?_) (fun t h i => ?_) t
    ((flush0_10 t).mp hf) y
  · rw [outsAt0_A m c t h]
    frame_out
    rw [step10, zero10, zero_add, part10]
  · rw [outsAt0_B m c t h]
    frame_out
    rw [step10, part10]

end Cert.Kernel14Ideal.Glu

end
-- ==== Proof.Glu.Results.lean ====
module

public import proofs.«01_k».proof.Defs
public import proofs.«01_k».proof.Proof.Gen.Reference14Ideal.Value
public import proofs.«01_k».proof.Proof.Glu.Reference
public import proofs.«01_k».proof.Proof.Glu.Kernel
public import Idealize.ShloMosaic.Lib.Pipeline.ValueKit
public import Idealize.ShloMosaic.Lib.Pipeline.ReadBack
public import Idealize.ShloMosaic.Lib.Pointwise

/-! The reference leaves the gradients that the kernel leaves. -/

@[expose] public section

set_option maxRecDepth 16384

noncomputable section

namespace Cert.Reference14Ideal.Glu

open Idealize.ShloMosaic Idealize.ShloMosaic.TcCoe Idealize.SL.Sem
open Cert.Reference14Ideal Cert.Reference14Ideal.Gen
open Idealize.ShloMosaic.Pipeline (Dat)
open Cert.Glu
open Cert.Kernel14Ideal.Glu (ucol dvec)

variable (m : (ℓ : Loc nD τ sig) → Buf (Elt Ideal) ℓ)

variable (c : Dev nD)

def result6 : FVec Ideal S9216x512 .bf16 := fun i => dy (Y m c) (S m c) (A4 m c) (A5 m c) (i 0) (i 1)

theorem final6 (h : Reals m c) : (dats m 0 c).arrAt 6 cfg0.N = result6 m c := by
  refine (dats m 0 c).arrAt_eq_of_covers 6 _ (by decide +kernel) fun t hf y => ?_
  blk_simp
  refine Eq.trans ?_ (emb6 _ t y).symm
  rw [after0_6]
  frame_out
  idx_vars y
  exact (pay7 _ _ _ _ _ _ _ _ _ _).trans (run_dy m c t h _ _)

def result7 : FVec Ideal S9216x512 .f32 := fun i => dy (Y m c) (S m c) (A4 m c) (A5 m c) (i 0) (i 1) * dvec (A3 m c) (i 1)

theorem final7 (h : Reals m c) : (dats m 0 c).arrAt 7 cfg0.N = result7 m c := by
  refine (dats m 0 c).arrAt_eq_of_covers 7 _ (by decide +kernel) fun t hf y => ?_
  blk_simp
  refine Eq.trans ?_ (emb7 _ t y).symm
  rw [after0_7]
  frame_out
  idx_vars y
  refine (pay5 _ _ _ _ _ _ _ _ _ _ _).trans ((mul_comm _ _).trans (congr (congrArg HMul.hMul (run_dy m c t h _ _)) ?_))
  refine Eq.trans ?_ (blk3 m c t _)
  pointwise [k0_pay10]

def result8 : FVec Ideal S512x512 .f32 := fun i => ∑ r, gelu (Y m c r (i 0)) * dpre (Y m c) (S m c) (A4 m c) (A5 m c) r (i 1)

theorem final8 : (dats m 0 c).arrAt 8 cfg0.N = result8 m c := by
  refine (dats m 0 c).arrAt_eq_of_covers 8 _ (by decide +kernel) fun t hf y => ?_
  blk_simp
  refine Eq.trans ?_ (emb8 _ t y).symm
  rw [after0_8]
  frame_out
  idx_vars y
  refine (pay3 _ _ _ _ _).trans (Finset.sum_congr rfl fun r _ => (mul_comm _ _).trans ?_)
  exact congr (congrArg HMul.hMul (run24 m c t _ _)) (run_dpre m c t _ _)

def result9 : FVec Ideal S1x512 .f32 := fun i => ∑ r, dpre (Y m c) (S m c) (A4 m c) (A5 m c) r (i 1)

theorem final9 : (dats m 0 c).arrAt 9 cfg0.N = result9 m c := by
  refine (dats m 0 c).arrAt_eq_of_covers 9 _ (by decide +kernel) fun t hf y => ?_
  blk_simp
  refine Eq.trans ?_ (emb9 _ t y).symm
  rw [after0_9]
  frame_out
  idx_vars y
  exact (pay2 _ _ _ _ _).trans (Finset.sum_congr rfl fun r _ => run_dpre m c t _ _)

def result10 : FVec Ideal S1x512 .f32 := fun i => ∑ r, dy (Y m c) (S m c) (A4 m c) (A5 m c) r (i 1) * ucol (A0 m c) r (i 1)

theorem final10 (h : Reals m c) : (dats m 0 c).arrAt 10 cfg0.N = result10 m c := by
  refine (dats m 0 c).arrAt_eq_of_covers 10 _ (by decide +kernel) fun t hf y => ?_
  blk_simp
  refine Eq.trans ?_ (emb10 _ t y).symm
  rw [after0_10]
  frame_out
  idx_vars y
  refine (pay6 _ _ _ _ _ _ _ _ _ _ _).trans
    (Finset.sum_congr rfl fun r _ => congr (congrArg HMul.hMul (run_dy m c t h _ _)) ?_)
  refine Eq.trans ?_ ((ldU _ r _).trans (congrArg (fun X => ucol X r _) (blk0 m c t)))
  pointwise [k0_pay8]

end Cert.Reference14Ideal.Glu

end
-- ==== Proof.Glu.Claim.lean ====
module

public import proofs.«01_k».proof.Defs
public import proofs.«01_k».proof.Proof.Glu.Results
public import proofs.«01_k».proof.Proof.Finite

/-! The gated unit's gradient: the kernel's results are the reference's. -/

@[expose] public section

set_option maxRecDepth 16384

noncomputable section

namespace Cert.Reference14Ideal.Glu

open Idealize.ShloMosaic Idealize.ShloMosaic.TcCoe Idealize.SL.Sem
open Cert.Glu

section Same

variable (m : (ℓ : Loc Kernel14Ideal.nD Kernel14Ideal.τ Kernel14Ideal.sig) → Buf (Elt Ideal) ℓ)
  (m' : (ℓ : Loc nD τ sig) → Buf (Elt Ideal) ℓ) (c : Dev nD)

/-- The two programs' arguments are the same. -/
structure Same : Prop where
  z : A0 m' c = Kernel14Ideal.Glu.A0 m c
  ct : A1 m' c = Kernel14Ideal.Glu.A1 m c
  ys : A2 m' c = Kernel14Ideal.Glu.A2 m c
  d : A3 m' c = Kernel14Ideal.Glu.A3 m c
  w : A4 m' c = Kernel14Ideal.Glu.A4 m c
  b : A5 m' c = Kernel14Ideal.Glu.A5 m c

variable {m m' c} (h : Same m m' c)
include h

theorem Same.Y_eq : Y m' c = Kernel14Ideal.Glu.Y m c := by
  unfold Y Kernel14Ideal.Glu.Y
  rw [h.z, h.ys, h.d]

theorem Same.S_eq : S m' c = Kernel14Ideal.Glu.S m c := by
  unfold S Kernel14Ideal.Glu.S
  rw [h.ct]

theorem Same.result6_eq : result6 m' c = Kernel14Ideal.Glu.target6 m c := by
  unfold result6 Kernel14Ideal.Glu.target6
  rw [h.Y_eq, h.S_eq, h.w, h.b]

theorem Same.result7_eq : result7 m' c = Kernel14Ideal.Glu.target7 m c := by
  unfold result7 Kernel14Ideal.Glu.target7
  rw [h.Y_eq, h.S_eq, h.w, h.b, h.d]

theorem Same.result8_eq : result8 m' c = Kernel14Ideal.Glu.target8 m c := by
  unfold result8 Kernel14Ideal.Glu.target8
  rw [h.Y_eq, h.S_eq, h.w, h.b]

theorem Same.result9_eq : result9 m' c = Kernel14Ideal.Glu.target9 m c := by
  unfold result9 Kernel14Ideal.Glu.target9
  rw [h.Y_eq, h.S_eq, h.w, h.b]

theorem Same.result10_eq : result10 m' c = Kernel14Ideal.Glu.target10 m c := by
  unfold result10 Kernel14Ideal.Glu.target10
  rw [h.Y_eq, h.S_eq, h.w, h.b, h.z]

end Same

/-- The kernel and the reference compute the same five arrays over the reals. -/
theorem algebraic [Cert.Pre_finite14.Facts] : Cert.algebraic_Kernel14Ideal_Reference14Ideal_pre_finite14 := by
  intro m g m' g' hpre hagree
  have same : ∀ c, Same m m' c := fun c =>
    ⟨(hagree c).1, (hagree c).2.1, (hagree c).2.2.1, (hagree c).2.2.2.1, (hagree c).2.2.2.2.1, (hagree c).2.2.2.2.2⟩
  have reals : ∀ c, Reals m' c := fun c => by
    obtain ⟨hz, hct, hys, hd, hw⟩ := Cert.Finite.isReal_args14 _ _ _ _ _ _ (hpre c)
    obtain ⟨ez, ect, eys, ed, ew, -⟩ := same c
    exact ⟨fun i => ez ▸ hz i, fun i => ect ▸ hct i, fun i => eys ▸ hys i, fun i => ed ▸ hd i, fun i => ew ▸ hw i⟩
  refine ⟨Kernel14Ideal.Glu.target6 m, Kernel14Ideal.Glu.target7 m, Kernel14Ideal.Glu.target8 m, Kernel14Ideal.Glu.target9 m,
    Kernel14Ideal.Glu.target10 m, ?_, ?_⟩
  · refine θ_run_mono (θ_run_and (Kernel14Ideal.Gen.run_main m g) (Kernel14Ideal.Gen.unchanged m g)) ?_
    intro r hr c
    exact ⟨((hr.1 c).1 6).trans (Kernel14Ideal.Glu.final6 m c), ((hr.1 c).1 7).trans (Kernel14Ideal.Glu.final7 m c),
      ((hr.1 c).1 8).trans (Kernel14Ideal.Glu.final8 m c), ((hr.1 c).1 9).trans (Kernel14Ideal.Glu.final9 m c),
      ((hr.1 c).1 10).trans (Kernel14Ideal.Glu.final10 m c), hr.2 c⟩
  · refine θ_run_mono (θ_run_and (Gen.run_main m' g') (Gen.unchanged m' g')) ?_
    intro r hr c
    exact ⟨((hr.1 c).1 6).trans ((final6 m' c (reals c)).trans (same c).result6_eq),
      ((hr.1 c).1 7).trans ((final7 m' c (reals c)).trans (same c).result7_eq),
      ((hr.1 c).1 8).trans ((final8 m' c).trans (same c).result8_eq),
      ((hr.1 c).1 9).trans ((final9 m' c).trans (same c).result9_eq),
      ((hr.1 c).1 10).trans ((final10 m' c (reals c)).trans (same c).result10_eq), hr.2 c⟩

end Cert.Reference14Ideal.Glu

end
-- ==== Proof.Adam.Step.lean ====
module

public import Idealize.ShloMosaic.PureOps.Ideal.Laws
public import Idealize.ShloMosaic.Lib.Pointwise

/-! The optimiser's two corrections: the reference divides a moment by the share of it that has been seen, the kernel
multiplies by that share's reciprocal. -/

@[expose] public section

noncomputable section

namespace Cert.Adam

open Idealize.ShloMosaic Idealize.ShloMosaic.TcCoe

/-- The first moment's share at the tenth step, `1 - 0.9 ^ 10` as f32 holds it. -/
theorem m_share : Ideal.ofBits .f32 0x3F26BD02#32 = ((5463681 / 8388608 : ℝ) : EReal) := by
  simp [Ideal.ofBits, Ideal.ieee, -EReal.coe_mul]
  norm_num

/-- The second moment's, `1 - 0.999 ^ 10`. -/
theorem v_share : Ideal.ofBits .f32 0x3C231ACC#32 = ((2672307 / 268435456 : ℝ) : EReal) := by
  simp [Ideal.ofBits, Ideal.ieee, -EReal.coe_mul]
  norm_num

/-- Their reciprocals. -/
def mInv : EReal := ((8388608 / 5463681 : ℝ) : EReal)
def vInv : EReal := ((268435456 / 2672307 : ℝ) : EReal)

/-- One element's new moments and the change of its weight. -/
def newM (g m : EReal) : EReal := Ideal.ofBits .f32 0x3F666666#32 * m + Ideal.ofBits .f32 0x3DCCCCCD#32 * g

def newV (g v : EReal) : EReal := Ideal.ofBits .f32 0x3F7FBE77#32 * v + Ideal.ofBits .f32 0x3A83126F#32 * (g * g)

def delta (w g m v : EReal) : EReal :=
  Ideal.ofBits .f32 0xBA83126F#32 * (Ideal.div (newM g m * mInv) (Ideal.sqrt (newV g v * vInv) + Ideal.ofBits .f32 0x322BCC77#32)
    + Ideal.ofBits .f32 0x3C23D70A#32 * w)

theorem div_m (x : EReal) : Ideal.div x (Ideal.ofBits .f32 0x3F26BD02#32) = x * mInv := by
  rw [m_share, Ideal.div_coe (by norm_num), one_div_div, mInv]

theorem div_v (x : EReal) : Ideal.div x (Ideal.ofBits .f32 0x3C231ACC#32) = x * vInv := by
  rw [v_share, Ideal.div_coe (by norm_num), one_div_div, vInv]

end Cert.Adam

end
-- ==== Proof.Adam.Norms.lean ====
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pointwise
public import Idealize.ShloMosaic.Lib.Claim
public import Idealize.ShloMosaic.Adequacy
public import Idealize.ShloMosaic.Init
public import proofs.«01_k».proof.Proof.Adam.Step

/-! The optimiser's step for the four norms' weights. -/

@[expose] public section

set_option maxRecDepth 16384

noncomputable section

namespace Cert.Kernel15Ideal.Adam

open Idealize.ShloMosaic Idealize.ShloMosaic.TcCoe Idealize.SL.Sem
open Cert.Kernel15Ideal Cert.Adam
open Cert.Reference15Ideal.Read (val_main_v23_eq val_main_v4_eq val_main_v10_eq)

theorem mHat : Named.named (F := Ideal) κ "m_hat" (φ := .f32) 0x3FC48605#32 = mInv :=
  IdealRules.named_const.ideal_named_scalar _ _ _ _ rfl
theorem vHat : Named.named (F := Ideal) κ "v_hat" (φ := .f32) 0x42C8E6D3#32 = vInv :=
  IdealRules.named_const.ideal_named_scalar _ _ _ _ rfl

theorem delta (w g m v : FVec Ideal S2x1024 .f32) :
    Value.G4 (F := Ideal) g m v w = Cert.Reference15Ideal.Read.val_main_v23 (F := Ideal) w g m v := by
  rw [← val_main_v23_eq]
  funext i
  pointwise [div_m, div_v, mHat, vHat]

theorem reference_frame : Cert.quiescent_Reference15Ideal := fun m g _ =>
  (θ_run Cert.Reference15Ideal.defs _ _).mono (fun r h => ⟨fun c => (h c).2.2.2, sem_eq_zero_of_no_sems (by decide) r.2⟩)
    (Cert.Reference15Ideal.Value.run m g)

theorem algebraic : Cert.algebraic_Kernel15Ideal_Reference15Ideal := by
  intro m g m' g' _ same
  refine ⟨_, _, _, Value.run m g, θ_run_mono (Cert.Reference15Ideal.Value.run m' g') fun r h c => ?_⟩
  obtain ⟨hd, hm, hv, kept⟩ := h c
  obtain ⟨ew, eg, em, ev⟩ := same c
  rw [ew, eg, em, ev] at hd
  rw [eg, em] at hm
  rw [eg, ev] at hv
  exact ⟨hd.trans ((val_main_v23_eq _ _ _ _).trans (delta _ _ _ _).symm), hm, hv, kept⟩

end Cert.Kernel15Ideal.Adam

end
-- ==== Proof.Adam.GateUp.lean ====
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init
public import proofs.«01_k».proof.Proof.Adam.Step

/-! The optimiser's step for the feed-forward layer's gate and up weights, 512 rows at a time. -/

@[expose] public section

set_option maxRecDepth 16384

noncomputable section

namespace Cert.Kernel16Ideal.Adam

open Idealize.ShloMosaic Idealize.ShloMosaic.TcCoe Idealize.SL.Sem
open Cert.Kernel16Ideal Cert.Kernel16Ideal.Gen Cert.Adam
open Cert.Reference16Ideal.Read (val_main_v24_eq val_main_v25_eq val_main_v26_eq val_main_v24 val_main_v25 val_main_v26)

theorem mHat : Named.named (F := Ideal) κ "m_hat" (φ := .f32) 0x3FC48605#32 = mInv :=
  IdealRules.named_const.ideal_named_scalar _ _ _ _ rfl
theorem vHat : Named.named (F := Ideal) κ "v_hat" (φ := .f32) 0x42C8E6D3#32 = vInv :=
  IdealRules.named_const.ideal_named_scalar _ _ _ _ rfl

/-- The layers' arrays one below the other. -/
def flat (x : FVec Ideal S2x1024x704 .f32) : FVec Ideal S2048x704 .f32 := shapeCast S2048x704 x shapeCasts_S2x1024x704_S2048x704

variable (m : (ℓ : Loc nD τ sig) → Buf (Elt Ideal) ℓ)

def A0 (c : Dev nD) := (m ((c : Thread nD τ).loc main_arg0) : FVec Ideal S2x1024x704 .f32)
def A1 (c : Dev nD) := (m ((c : Thread nD τ).loc main_arg1) : FVec Ideal S2x1024x704 .f32)
def A2 (c : Dev nD) := (m ((c : Thread nD τ).loc main_arg2) : FVec Ideal S2x1024x704 .f32)
def A3 (c : Dev nD) := (m ((c : Thread nD τ).loc main_arg3) : FVec Ideal S2x1024x704 .f32)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem rows (t : Fin cfg0.N) (a : Fin 512) : 512 * t.val + a.val < 2048 := by
  have : t.val < 4 := t.isLt
  omega

theorem entry0 (c : Dev nD) : V m c main_v0 = flat (A0 m c) := by
  entry_read
  rfl
theorem entry1 (c : Dev nD) : V m c main_v1 = flat (A1 m c) := by
  entry_read
  rfl
theorem entry2 (c : Dev nD) : V m c main_v2 = flat (A2 m c) := by
  entry_read
  rfl
theorem entry3 (c : Dev nD) : V m c main_v3 = flat (A3 m c) := by
  entry_read
  rfl

theorem blk0 (c : Dev nD) (t : Fin cfg0.N) (a : Fin 512) (b : Fin 704) :
    iblk m c 0 t (ix2 a b) = flat (A0 m c) (ix2 ⟨512 * t.val + a.val, rows t a⟩ b) := by
  have e := entry0 m c
  generalize flat (A0 m c) = X at e ⊢
  blk_point [iblk, e, idx t]
theorem blk1 (c : Dev nD) (t : Fin cfg0.N) (a : Fin 512) (b : Fin 704) :
    iblk m c 1 t (ix2 a b) = flat (A1 m c) (ix2 ⟨512 * t.val + a.val, rows t a⟩ b) := by
  have e := entry1 m c
  generalize flat (A1 m c) = X at e ⊢
  blk_point [iblk, e, idx t]
theorem blk2 (c : Dev nD) (t : Fin cfg0.N) (a : Fin 512) (b : Fin 704) :
    iblk m c 2 t (ix2 a b) = flat (A2 m c) (ix2 ⟨512 * t.val + a.val, rows t a⟩ b) := by
  have e := entry2 m c
  generalize flat (A2 m c) = X at e ⊢
  blk_point [iblk, e, idx t]
theorem blk3 (c : Dev nD) (t : Fin cfg0.N) (a : Fin 512) (b : Fin 704) :
    iblk m c 3 t (ix2 a b) = flat (A3 m c) (ix2 ⟨512 * t.val + a.val, rows t a⟩ b) := by
  have e := entry3 m c
  generalize flat (A3 m c) = X at e ⊢
  blk_point [iblk, e, idx t]

theorem emb4 (X : FVec Ideal S2048x704 .f32) (t : Fin cfg0.N) (y : S512x704.Idx) :
    X ((win0_4.blk t).view.emb y) = X (ix2 ⟨512 * t.val + (y 0).val, rows t (y 0)⟩ (y 1)) := by
  blk_point [idx t]
theorem emb5 (X : FVec Ideal S2048x704 .f32) (t : Fin cfg0.N) (y : S512x704.Idx) :
    X ((win0_5.blk t).view.emb y) = X (ix2 ⟨512 * t.val + (y 0).val, rows t (y 0)⟩ (y 1)) := by
  blk_point [idx t]
theorem emb6 (X : FVec Ideal S2048x704 .f32) (t : Fin cfg0.N) (y : S512x704.Idx) :
    X ((win0_6.blk t).view.emb y) = X (ix2 ⟨512 * t.val + (y 0).val, rows t (y 0)⟩ (y 1)) := by
  blk_point [idx t]

def deltas (w g m v : FVec Ideal S2x1024x704 .f32) : FVec Ideal S2048x704 .f32 := fun i => delta (flat w i) (flat g i) (flat m i) (flat v i)
def firsts (g m : FVec Ideal S2x1024x704 .f32) : FVec Ideal S2048x704 .f32 := fun i => newM (flat g i) (flat m i)
def seconds (g v : FVec Ideal S2x1024x704 .f32) : FVec Ideal S2048x704 .f32 := fun i => newV (flat g i) (flat v i)

theorem pay2 (g m : Vec Ideal S512x704 .f32) (i : S512x704.Idx) : k0_pay2 g m i = newM (g i) (m i) := by
  pointwise [k0_pay1, k0_pay2, newM]
theorem pay3 (g v : Vec Ideal S512x704 .f32) (i : S512x704.Idx) : k0_pay3 g v i = newV (g i) (v i) := by
  pointwise [k0_pay1, k0_pay3, newV]
theorem pay4 (g m v w : Vec Ideal S512x704 .f32) (i : S512x704.Idx) : k0_pay4 g m v w i = delta (w i) (g i) (m i) (v i) := by
  pointwise [k0_pay4, pay2, pay3, delta, mHat, vHat]

theorem final4 (c : Dev nD) : (dats m 0 c).arrAt 4 cfg0.N = deltas (A0 m c) (A1 m c) (A2 m c) (A3 m c) := by
  refine (dats m 0 c).arrAt_eq_of_covers 4 _ (by decide +kernel) fun t hf y => ?_
  blk_simp
  refine Eq.trans ?_ (emb4 _ t y).symm
  rw [after0_4]
  frame_out
  idx_vars y
  rw [pay4]
  simp only [blk0, blk1, blk2, blk3, deltas]

theorem final5 (c : Dev nD) : (dats m 0 c).arrAt 5 cfg0.N = firsts (A1 m c) (A2 m c) := by
  refine (dats m 0 c).arrAt_eq_of_covers 5 _ (by decide +kernel) fun t hf y => ?_
  blk_simp
  refine Eq.trans ?_ (emb5 _ t y).symm
  rw [after0_5]
  frame_out
  idx_vars y
  rw [pay2]
  simp only [blk1, blk2, firsts]

theorem final6 (c : Dev nD) : (dats m 0 c).arrAt 6 cfg0.N = seconds (A1 m c) (A3 m c) := by
  refine (dats m 0 c).arrAt_eq_of_covers 6 _ (by decide +kernel) fun t hf y => ?_
  blk_simp
  refine Eq.trans ?_ (emb6 _ t y).symm
  rw [after0_6]
  frame_out
  idx_vars y
  rw [pay3]
  simp only [blk1, blk3, seconds]

theorem reference24 (w g m v : FVec Ideal S2x1024x704 .f32) : val_main_v24 (F := Ideal) w g m v = deltas w g m v := by
  rw [← val_main_v24_eq]
  refine congrArg (fun x => flat x) (a₂ := fun i => delta (w i) (g i) (m i) (v i)) ?_
  funext i
  pointwise [div_m, div_v, delta, newM, newV]

theorem reference25 (g m : FVec Ideal S2x1024x704 .f32) : val_main_v25 (F := Ideal) g m = firsts g m := by
  rw [← val_main_v25_eq]
  refine congrArg (fun x => flat x) (a₂ := fun i => newM (g i) (m i)) ?_
  funext i
  pointwise [newM]

theorem reference26 (g v : FVec Ideal S2x1024x704 .f32) : val_main_v26 (F := Ideal) g v = seconds g v := by
  rw [← val_main_v26_eq]
  refine congrArg (fun x => flat x) (a₂ := fun i => newV (g i) (v i)) ?_
  funext i
  pointwise [newV]

theorem reference_frame : Cert.quiescent_Reference16Ideal := fun m g _ =>
  (θ_run Cert.Reference16Ideal.defs _ _).mono (fun r h => ⟨fun c => (h c).2.2.2, sem_eq_zero_of_no_sems (by decide) r.2⟩)
    (Cert.Reference16Ideal.Value.run m g)

theorem algebraic : Cert.algebraic_Kernel16Ideal_Reference16Ideal := by
  intro m g m' g' _ same
  refine ⟨_, _, _, Value.run_blocks m g, θ_run_mono (Cert.Reference16Ideal.Value.run m' g') fun r h c => ?_⟩
  obtain ⟨hd, hm, hv, kept⟩ := h c
  obtain ⟨ew, eg, em, ev⟩ := same c
  rw [ew, eg, em, ev] at hd
  rw [eg, em] at hm
  rw [eg, ev] at hv
  exact ⟨hd.trans ((val_main_v24_eq _ _ _ _).trans ((reference24 _ _ _ _).trans (final4 m c).symm)),
    hm.trans ((val_main_v25_eq _ _).trans ((reference25 _ _).trans (final5 m c).symm)),
    hv.trans ((val_main_v26_eq _ _).trans ((reference26 _ _).trans (final6 m c).symm)), kept⟩

end Cert.Kernel16Ideal.Adam

end
-- ==== Proof.Adam.Down.lean ====
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init
public import proofs.«01_k».proof.Proof.Adam.Step

/-! The optimiser's step for the feed-forward layer's down weight, 352 rows at a time. -/

@[expose] public section

set_option maxRecDepth 16384

noncomputable section

namespace Cert.Kernel17Ideal.Adam

open Idealize.ShloMosaic Idealize.ShloMosaic.TcCoe Idealize.SL.Sem
open Cert.Kernel17Ideal Cert.Kernel17Ideal.Gen Cert.Adam
open Cert.Reference17Ideal.Read (val_main_v24_eq val_main_v25_eq val_main_v26_eq val_main_v24 val_main_v25 val_main_v26)

theorem mHat : Named.named (F := Ideal) κ "m_hat" (φ := .f32) 0x3FC48605#32 = mInv :=
  IdealRules.named_const.ideal_named_scalar _ _ _ _ rfl
theorem vHat : Named.named (F := Ideal) κ "v_hat" (φ := .f32) 0x42C8E6D3#32 = vInv :=
  IdealRules.named_const.ideal_named_scalar _ _ _ _ rfl

/-- The layers' arrays one below the other. -/
def flat (x : FVec Ideal S2x704x1024 .f32) : FVec Ideal S1408x1024 .f32 := shapeCast S1408x1024 x shapeCasts_S2x704x1024_S1408x1024

variable (m : (ℓ : Loc nD τ sig) → Buf (Elt Ideal) ℓ)

def A0 (c : Dev nD) := (m ((c : Thread nD τ).loc main_arg0) : FVec Ideal S2x704x1024 .f32)
def A1 (c : Dev nD) := (m ((c : Thread nD τ).loc main_arg1) : FVec Ideal S2x704x1024 .f32)
def A2 (c : Dev nD) := (m ((c : Thread nD τ).loc main_arg2) : FVec Ideal S2x704x1024 .f32)
def A3 (c : Dev nD) := (m ((c : Thread nD τ).loc main_arg3) : FVec Ideal S2x704x1024 .f32)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem rows (t : Fin cfg0.N) (a : Fin 352) : 352 * t.val + a.val < 1408 := by
  have : t.val < 4 := t.isLt
  omega

theorem entry0 (c : Dev nD) : V m c main_v0 = flat (A0 m c) := by
  entry_read
  rfl
theorem entry1 (c : Dev nD) : V m c main_v1 = flat (A1 m c) := by
  entry_read
  rfl
theorem entry2 (c : Dev nD) : V m c main_v2 = flat (A2 m c) := by
  entry_read
  rfl
theorem entry3 (c : Dev nD) : V m c main_v3 = flat (A3 m c) := by
  entry_read
  rfl

theorem blk0 (c : Dev nD) (t : Fin cfg0.N) (a : Fin 352) (b : Fin 1024) :
    iblk m c 0 t (ix2 a b) = flat (A0 m c) (ix2 ⟨352 * t.val + a.val, rows t a⟩ b) := by
  have e := entry0 m c
  generalize flat (A0 m c) = X at e ⊢
  blk_point [iblk, e, idx t]
theorem blk1 (c : Dev nD) (t : Fin cfg0.N) (a : Fin 352) (b : Fin 1024) :
    iblk m c 1 t (ix2 a b) = flat (A1 m c) (ix2 ⟨352 * t.val + a.val, rows t a⟩ b) := by
  have e := entry1 m c
  generalize flat (A1 m c) = X at e ⊢
  blk_point [iblk, e, idx t]
theorem blk2 (c : Dev nD) (t : Fin cfg0.N) (a : Fin 352) (b : Fin 1024) :
    iblk m c 2 t (ix2 a b) = flat (A2 m c) (ix2 ⟨352 * t.val + a.val, rows t a⟩ b) := by
  have e := entry2 m c
  generalize flat (A2 m c) = X at e ⊢
  blk_point [iblk, e, idx t]
theorem blk3 (c : Dev nD) (t : Fin cfg0.N) (a : Fin 352) (b : Fin 1024) :
    iblk m c 3 t (ix2 a b) = flat (A3 m c) (ix2 ⟨352 * t.val + a.val, rows t a⟩ b) := by
  have e := entry3 m c
  generalize flat (A3 m c) = X at e ⊢
  blk_point [iblk, e, idx t]

theorem emb4 (X : FVec Ideal S1408x1024 .f32) (t : Fin cfg0.N) (y : S352x1024.Idx) :
    X ((win0_4.blk t).view.emb y) = X (ix2 ⟨352 * t.val + (y 0).val, rows t (y 0)⟩ (y 1)) := by
  blk_point [idx t]
theorem emb5 (X : FVec Ideal S1408x1024 .f32) (t : Fin cfg0.N) (y : S352x1024.Idx) :
    X ((win0_5.blk t).view.emb y) = X (ix2 ⟨352 * t.val + (y 0).val, rows t (y 0)⟩ (y 1)) := by
  blk_point [idx t]
theorem emb6 (X : FVec Ideal S1408x1024 .f32) (t : Fin cfg0.N) (y : S352x1024.Idx) :
    X ((win0_6.blk t).view.emb y) = X (ix2 ⟨352 * t.val + (y 0).val, rows t (y 0)⟩ (y 1)) := by
  blk_point [idx t]

def deltas (w g m v : FVec Ideal S2x704x1024 .f32) : FVec Ideal S1408x1024 .f32 := fun i => delta (flat w i) (flat g i) (flat m i) (flat v i)
def firsts (g m : FVec Ideal S2x704x1024 .f32) : FVec Ideal S1408x1024 .f32 := fun i => newM (flat g i) (flat m i)
def seconds (g v : FVec Ideal S2x704x1024 .f32) : FVec Ideal S1408x1024 .f32 := fun i => newV (flat g i) (flat v i)

theorem pay2 (g m : Vec Ideal S352x1024 .f32) (i : S352x1024.Idx) : k0_pay2 g m i = newM (g i) (m i) := by
  pointwise [k0_pay1, k0_pay2, newM]
theorem pay3 (g v : Vec Ideal S352x1024 .f32) (i : S352x1024.Idx) : k0_pay3 g v i = newV (g i) (v i) := by
  pointwise [k0_pay1, k0_pay3, newV]
theorem pay4 (g m v w : Vec Ideal S352x1024 .f32) (i : S352x1024.Idx) : k0_pay4 g m v w i = delta (w i) (g i) (m i) (v i) := by
  pointwise [k0_pay4, pay2, pay3, delta, mHat, vHat]

theorem final4 (c : Dev nD) : (dats m 0 c).arrAt 4 cfg0.N = deltas (A0 m c) (A1 m c) (A2 m c) (A3 m c) := by
  refine (dats m 0 c).arrAt_eq_of_covers 4 _ (by decide +kernel) fun t hf y => ?_
  blk_simp
  refine Eq.trans ?_ (emb4 _ t y).symm
  rw [after0_4]
  frame_out
  idx_vars y
  rw [pay4]
  simp only [blk0, blk1, blk2, blk3, deltas]

theorem final5 (c : Dev nD) : (dats m 0 c).arrAt 5 cfg0.N = firsts (A1 m c) (A2 m c) := by
  refine (dats m 0 c).arrAt_eq_of_covers 5 _ (by decide +kernel) fun t hf y => ?_
  blk_simp
  refine Eq.trans ?_ (emb5 _ t y).symm
  rw [after0_5]
  frame_out
  idx_vars y
  rw [pay2]
  simp only [blk1, blk2, firsts]

theorem final6 (c : Dev nD) : (dats m 0 c).arrAt 6 cfg0.N = seconds (A1 m c) (A3 m c) := by
  refine (dats m 0 c).arrAt_eq_of_covers 6 _ (by decide +kernel) fun t hf y => ?_
  blk_simp
  refine Eq.trans ?_ (emb6 _ t y).symm
  rw [after0_6]
  frame_out
  idx_vars y
  rw [pay3]
  simp only [blk1, blk3, seconds]

theorem reference24 (w g m v : FVec Ideal S2x704x1024 .f32) : val_main_v24 (F := Ideal) w g m v = deltas w g m v := by
  rw [← val_main_v24_eq]
  refine congrArg (fun x => flat x) (a₂ := fun i => delta (w i) (g i) (m i) (v i)) ?_
  funext i
  pointwise [div_m, div_v, delta, newM, newV]

theorem reference25 (g m : FVec Ideal S2x704x1024 .f32) : val_main_v25 (F := Ideal) g m = firsts g m := by
  rw [← val_main_v25_eq]
  refine congrArg (fun x => flat x) (a₂ := fun i => newM (g i) (m i)) ?_
  funext i
  pointwise [newM]

theorem reference26 (g v : FVec Ideal S2x704x1024 .f32) : val_main_v26 (F := Ideal) g v = seconds g v := by
  rw [← val_main_v26_eq]
  refine congrArg (fun x => flat x) (a₂ := fun i => newV (g i) (v i)) ?_
  funext i
  pointwise [newV]

theorem reference_frame : Cert.quiescent_Reference17Ideal := fun m g _ =>
  (θ_run Cert.Reference17Ideal.defs _ _).mono (fun r h => ⟨fun c => (h c).2.2.2, sem_eq_zero_of_no_sems (by decide) r.2⟩)
    (Cert.Reference17Ideal.Value.run m g)

theorem algebraic : Cert.algebraic_Kernel17Ideal_Reference17Ideal := by
  intro m g m' g' _ same
  refine ⟨_, _, _, Value.run_blocks m g, θ_run_mono (Cert.Reference17Ideal.Value.run m' g') fun r h c => ?_⟩
  obtain ⟨hd, hm, hv, kept⟩ := h c
  obtain ⟨ew, eg, em, ev⟩ := same c
  rw [ew, eg, em, ev] at hd
  rw [eg, em] at hm
  rw [eg, ev] at hv
  exact ⟨hd.trans ((val_main_v24_eq _ _ _ _).trans ((reference24 _ _ _ _).trans (final4 m c).symm)),
    hm.trans ((val_main_v25_eq _ _).trans ((reference25 _ _).trans (final5 m c).symm)),
    hv.trans ((val_main_v26_eq _ _).trans ((reference26 _ _).trans (final6 m c).symm)), kept⟩

end Cert.Kernel17Ideal.Adam

end
-- ==== Proof.Adam.InWeight.lean ====
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pointwise
public import Idealize.ShloMosaic.Lib.Claim
public import Idealize.ShloMosaic.Adequacy
public import Idealize.ShloMosaic.Init
public import proofs.«01_k».proof.Proof.Adam.Step

/-! The optimiser's step for the mixing layer's input weight. -/

@[expose] public section

set_option maxRecDepth 16384

noncomputable section

namespace Cert.Kernel18Ideal.Adam

open Idealize.ShloMosaic Idealize.ShloMosaic.TcCoe Idealize.SL.Sem
open Cert.Kernel18Ideal Cert.Adam
open Cert.Reference18Ideal.Read (val_main_v23_eq val_main_v4_eq val_main_v10_eq)

theorem mHat : Named.named (F := Ideal) κ "m_hat" (φ := .f32) 0x3FC48605#32 = mInv :=
  IdealRules.named_const.ideal_named_scalar _ _ _ _ rfl
theorem vHat : Named.named (F := Ideal) κ "v_hat" (φ := .f32) 0x42C8E6D3#32 = vInv :=
  IdealRules.named_const.ideal_named_scalar _ _ _ _ rfl

theorem delta (w g m v : FVec Ideal S2x1024x320 .f32) :
    Value.G4 (F := Ideal) g m v w = Cert.Reference18Ideal.Read.val_main_v23 (F := Ideal) w g m v := by
  rw [← val_main_v23_eq]
  funext i
  pointwise [div_m, div_v, mHat, vHat]

theorem reference_frame : Cert.quiescent_Reference18Ideal := fun m g _ =>
  (θ_run Cert.Reference18Ideal.defs _ _).mono (fun r h => ⟨fun c => (h c).2.2.2, sem_eq_zero_of_no_sems (by decide) r.2⟩)
    (Cert.Reference18Ideal.Value.run m g)

theorem algebraic : Cert.algebraic_Kernel18Ideal_Reference18Ideal := by
  intro m g m' g' _ same
  refine ⟨_, _, _, Value.run m g, θ_run_mono (Cert.Reference18Ideal.Value.run m' g') fun r h c => ?_⟩
  obtain ⟨hd, hm, hv, kept⟩ := h c
  obtain ⟨ew, eg, em, ev⟩ := same c
  rw [ew, eg, em, ev] at hd
  rw [eg, em] at hm
  rw [eg, ev] at hv
  exact ⟨hd.trans ((val_main_v23_eq _ _ _ _).trans (delta _ _ _ _).symm), hm, hv, kept⟩

end Cert.Kernel18Ideal.Adam

end
-- ==== Proof.Adam.OutWeight.lean ====
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pointwise
public import Idealize.ShloMosaic.Lib.Claim
public import Idealize.ShloMosaic.Adequacy
public import Idealize.ShloMosaic.Init
public import proofs.«01_k».proof.Proof.Adam.Step

/-! The optimiser's step for the mixing layer's output weight. -/

@[expose] public section

set_option maxRecDepth 16384

noncomputable section

namespace Cert.Kernel19Ideal.Adam

open Idealize.ShloMosaic Idealize.ShloMosaic.TcCoe Idealize.SL.Sem
open Cert.Kernel19Ideal Cert.Adam
open Cert.Reference19Ideal.Read (val_main_v23_eq val_main_v4_eq val_main_v10_eq)

theorem mHat : Named.named (F := Ideal) κ "m_hat" (φ := .f32) 0x3FC48605#32 = mInv :=
  IdealRules.named_const.ideal_named_scalar _ _ _ _ rfl
theorem vHat : Named.named (F := Ideal) κ "v_hat" (φ := .f32) 0x42C8E6D3#32 = vInv :=
  IdealRules.named_const.ideal_named_scalar _ _ _ _ rfl

theorem delta (w g m v : FVec Ideal S2x256x1024 .f32) :
    Value.G4 (F := Ideal) g m v w = Cert.Reference19Ideal.Read.val_main_v23 (F := Ideal) w g m v := by
  rw [← val_main_v23_eq]
  funext i
  pointwise [div_m, div_v, mHat, vHat]

theorem reference_frame : Cert.quiescent_Reference19Ideal := fun m g _ =>
  (θ_run Cert.Reference19Ideal.defs _ _).mono (fun r h => ⟨fun c => (h c).2.2.2, sem_eq_zero_of_no_sems (by decide) r.2⟩)
    (Cert.Reference19Ideal.Value.run m g)

theorem algebraic : Cert.algebraic_Kernel19Ideal_Reference19Ideal := by
  intro m g m' g' _ same
  refine ⟨_, _, _, Value.run m g, θ_run_mono (Cert.Reference19Ideal.Value.run m' g') fun r h c => ?_⟩
  obtain ⟨hd, hm, hv, kept⟩ := h c
  obtain ⟨ew, eg, em, ev⟩ := same c
  rw [ew, eg, em, ev] at hd
  rw [eg, em] at hm
  rw [eg, ev] at hv
  exact ⟨hd.trans ((val_main_v23_eq _ _ _ _).trans (delta _ _ _ _).symm), hm, hv, kept⟩

end Cert.Kernel19Ideal.Adam

end
-- ==== Proof.Adam.ModWeight.lean ====
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init
public import proofs.«01_k».proof.Proof.Adam.Step

/-! The optimiser's step for the modulation's weight, 256 rows at a time. -/

@[expose] public section

set_option maxRecDepth 16384

noncomputable section

namespace Cert.Kernel20Ideal.Adam

open Idealize.ShloMosaic Idealize.ShloMosaic.TcCoe Idealize.SL.Sem
open Cert.Kernel20Ideal Cert.Kernel20Ideal.Gen Cert.Adam
open Cert.Reference20Ideal.Read (val_main_v24_eq val_main_v25_eq val_main_v26_eq val_main_v24 val_main_v25 val_main_v26)

theorem mHat : Named.named (F := Ideal) κ "m_hat" (φ := .f32) 0x3FC48605#32 = mInv :=
  IdealRules.named_const.ideal_named_scalar _ _ _ _ rfl
theorem vHat : Named.named (F := Ideal) κ "v_hat" (φ := .f32) 0x42C8E6D3#32 = vInv :=
  IdealRules.named_const.ideal_named_scalar _ _ _ _ rfl

/-- The layers' arrays one below the other. -/
def flat (x : FVec Ideal S2x1024x1536 .f32) : FVec Ideal S2048x1536 .f32 := shapeCast S2048x1536 x shapeCasts_S2x1024x1536_S2048x1536

variable (m : (ℓ : Loc nD τ sig) → Buf (Elt Ideal) ℓ)

def A0 (c : Dev nD) := (m ((c : Thread nD τ).loc main_arg0) : FVec Ideal S2x1024x1536 .f32)
def A1 (c : Dev nD) := (m ((c : Thread nD τ).loc main_arg1) : FVec Ideal S2x1024x1536 .f32)
def A2 (c : Dev nD) := (m ((c : Thread nD τ).loc main_arg2) : FVec Ideal S2x1024x1536 .f32)
def A3 (c : Dev nD) := (m ((c : Thread nD τ).loc main_arg3) : FVec Ideal S2x1024x1536 .f32)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem rows (t : Fin cfg0.N) (a : Fin 256) : 256 * t.val + a.val < 2048 := by
  have : t.val < 8 := t.isLt
  omega

theorem entry0 (c : Dev nD) : V m c main_v0 = flat (A0 m c) := by
  entry_read
  rfl
theorem entry1 (c : Dev nD) : V m c main_v1 = flat (A1 m c) := by
  entry_read
  rfl
theorem entry2 (c : Dev nD) : V m c main_v2 = flat (A2 m c) := by
  entry_read
  rfl
theorem entry3 (c : Dev nD) : V m c main_v3 = flat (A3 m c) := by
  entry_read
  rfl

theorem blk0 (c : Dev nD) (t : Fin cfg0.N) (a : Fin 256) (b : Fin 1536) :
    iblk m c 0 t (ix2 a b) = flat (A0 m c) (ix2 ⟨256 * t.val + a.val, rows t a⟩ b) := by
  have e := entry0 m c
  generalize flat (A0 m c) = X at e ⊢
  blk_point [iblk, e, idx t]
theorem blk1 (c : Dev nD) (t : Fin cfg0.N) (a : Fin 256) (b : Fin 1536) :
    iblk m c 1 t (ix2 a b) = flat (A1 m c) (ix2 ⟨256 * t.val + a.val, rows t a⟩ b) := by
  have e := entry1 m c
  generalize flat (A1 m c) = X at e ⊢
  blk_point [iblk, e, idx t]
theorem blk2 (c : Dev nD) (t : Fin cfg0.N) (a : Fin 256) (b : Fin 1536) :
    iblk m c 2 t (ix2 a b) = flat (A2 m c) (ix2 ⟨256 * t.val + a.val, rows t a⟩ b) := by
  have e := entry2 m c
  generalize flat (A2 m c) = X at e ⊢
  blk_point [iblk, e, idx t]
theorem blk3 (c : Dev nD) (t : Fin cfg0.N) (a : Fin 256) (b : Fin 1536) :
    iblk m c 3 t (ix2 a b) = flat (A3 m c) (ix2 ⟨256 * t.val + a.val, rows t a⟩ b) := by
  have e := entry3 m c
  generalize flat (A3 m c) = X at e ⊢
  blk_point [iblk, e, idx t]

theorem emb4 (X : FVec Ideal S2048x1536 .f32) (t : Fin cfg0.N) (y : S256x1536.Idx) :
    X ((win0_4.blk t).view.emb y) = X (ix2 ⟨256 * t.val + (y 0).val, rows t (y 0)⟩ (y 1)) := by
  blk_point [idx t]
theorem emb5 (X : FVec Ideal S2048x1536 .f32) (t : Fin cfg0.N) (y : S256x1536.Idx) :
    X ((win0_5.blk t).view.emb y) = X (ix2 ⟨256 * t.val + (y 0).val, rows t (y 0)⟩ (y 1)) := by
  blk_point [idx t]
theorem emb6 (X : FVec Ideal S2048x1536 .f32) (t : Fin cfg0.N) (y : S256x1536.Idx) :
    X ((win0_6.blk t).view.emb y) = X (ix2 ⟨256 * t.val + (y 0).val, rows t (y 0)⟩ (y 1)) := by
  blk_point [idx t]

def deltas (w g m v : FVec Ideal S2x1024x1536 .f32) : FVec Ideal S2048x1536 .f32 := fun i => delta (flat w i) (flat g i) (flat m i) (flat v i)
def firsts (g m : FVec Ideal S2x1024x1536 .f32) : FVec Ideal S2048x1536 .f32 := fun i => newM (flat g i) (flat m i)
def seconds (g v : FVec Ideal S2x1024x1536 .f32) : FVec Ideal S2048x1536 .f32 := fun i => newV (flat g i) (flat v i)

theorem pay2 (g m : Vec Ideal S256x1536 .f32) (i : S256x1536.Idx) : k0_pay2 g m i = newM (g i) (m i) := by
  pointwise [k0_pay1, k0_pay2, newM]
theorem pay3 (g v : Vec Ideal S256x1536 .f32) (i : S256x1536.Idx) : k0_pay3 g v i = newV (g i) (v i) := by
  pointwise [k0_pay1, k0_pay3, newV]
theorem pay4 (g m v w : Vec Ideal S256x1536 .f32) (i : S256x1536.Idx) : k0_pay4 g m v w i = delta (w i) (g i) (m i) (v i) := by
  pointwise [k0_pay4, pay2, pay3, delta, mHat, vHat]

theorem final4 (c : Dev nD) : (dats m 0 c).arrAt 4 cfg0.N = deltas (A0 m c) (A1 m c) (A2 m c) (A3 m c) := by
  refine (dats m 0 c).arrAt_eq_of_covers 4 _ (by decide +kernel) fun t hf y => ?_
  blk_simp
  refine Eq.trans ?_ (emb4 _ t y).symm
  rw [after0_4]
  frame_out
  idx_vars y
  rw [pay4]
  simp only [blk0, blk1, blk2, blk3, deltas]

theorem final5 (c : Dev nD) : (dats m 0 c).arrAt 5 cfg0.N = firsts (A1 m c) (A2 m c) := by
  refine (dats m 0 c).arrAt_eq_of_covers 5 _ (by decide +kernel) fun t hf y => ?_
  blk_simp
  refine Eq.trans ?_ (emb5 _ t y).symm
  rw [after0_5]
  frame_out
  idx_vars y
  rw [pay2]
  simp only [blk1, blk2, firsts]

theorem final6 (c : Dev nD) : (dats m 0 c).arrAt 6 cfg0.N = seconds (A1 m c) (A3 m c) := by
  refine (dats m 0 c).arrAt_eq_of_covers 6 _ (by decide +kernel) fun t hf y => ?_
  blk_simp
  refine Eq.trans ?_ (emb6 _ t y).symm
  rw [after0_6]
  frame_out
  idx_vars y
  rw [pay3]
  simp only [blk1, blk3, seconds]

theorem reference24 (w g m v : FVec Ideal S2x1024x1536 .f32) : val_main_v24 (F := Ideal) w g m v = deltas w g m v := by
  rw [← val_main_v24_eq]
  refine congrArg (fun x => flat x) (a₂ := fun i => delta (w i) (g i) (m i) (v i)) ?_
  funext i
  pointwise [div_m, div_v, delta, newM, newV]

theorem reference25 (g m : FVec Ideal S2x1024x1536 .f32) : val_main_v25 (F := Ideal) g m = firsts g m := by
  rw [← val_main_v25_eq]
  refine congrArg (fun x => flat x) (a₂ := fun i => newM (g i) (m i)) ?_
  funext i
  pointwise [newM]

theorem reference26 (g v : FVec Ideal S2x1024x1536 .f32) : val_main_v26 (F := Ideal) g v = seconds g v := by
  rw [← val_main_v26_eq]
  refine congrArg (fun x => flat x) (a₂ := fun i => newV (g i) (v i)) ?_
  funext i
  pointwise [newV]

theorem reference_frame : Cert.quiescent_Reference20Ideal := fun m g _ =>
  (θ_run Cert.Reference20Ideal.defs _ _).mono (fun r h => ⟨fun c => (h c).2.2.2, sem_eq_zero_of_no_sems (by decide) r.2⟩)
    (Cert.Reference20Ideal.Value.run m g)

theorem algebraic : Cert.algebraic_Kernel20Ideal_Reference20Ideal := by
  intro m g m' g' _ same
  refine ⟨_, _, _, Value.run_blocks m g, θ_run_mono (Cert.Reference20Ideal.Value.run m' g') fun r h c => ?_⟩
  obtain ⟨hd, hm, hv, kept⟩ := h c
  obtain ⟨ew, eg, em, ev⟩ := same c
  rw [ew, eg, em, ev] at hd
  rw [eg, em] at hm
  rw [eg, ev] at hv
  exact ⟨hd.trans ((val_main_v24_eq _ _ _ _).trans ((reference24 _ _ _ _).trans (final4 m c).symm)),
    hm.trans ((val_main_v25_eq _ _).trans ((reference25 _ _).trans (final5 m c).symm)),
    hv.trans ((val_main_v26_eq _ _).trans ((reference26 _ _).trans (final6 m c).symm)), kept⟩

end Cert.Kernel20Ideal.Adam

end
-- ==== Proof.Adam.ModOffset.lean ====
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pointwise
public import Idealize.ShloMosaic.Lib.Claim
public import Idealize.ShloMosaic.Adequacy
public import Idealize.ShloMosaic.Init
public import proofs.«01_k».proof.Proof.Adam.Step

/-! The optimiser's step for the modulation's offset. -/

@[expose] public section

set_option maxRecDepth 16384

noncomputable section

namespace Cert.Kernel21Ideal.Adam

open Idealize.ShloMosaic Idealize.ShloMosaic.TcCoe Idealize.SL.Sem
open Cert.Kernel21Ideal Cert.Adam
open Cert.Reference21Ideal.Read (val_main_v23_eq val_main_v4_eq val_main_v10_eq)

theorem mHat : Named.named (F := Ideal) κ "m_hat" (φ := .f32) 0x3FC48605#32 = mInv :=
  IdealRules.named_const.ideal_named_scalar _ _ _ _ rfl
theorem vHat : Named.named (F := Ideal) κ "v_hat" (φ := .f32) 0x42C8E6D3#32 = vInv :=
  IdealRules.named_const.ideal_named_scalar _ _ _ _ rfl

theorem delta (w g m v : FVec Ideal S2x6144 .f32) :
    Value.G4 (F := Ideal) g m v w = Cert.Reference21Ideal.Read.val_main_v23 (F := Ideal) w g m v := by
  rw [← val_main_v23_eq]
  funext i
  pointwise [div_m, div_v, mHat, vHat]

theorem reference_frame : Cert.quiescent_Reference21Ideal := fun m g _ =>
  (θ_run Cert.Reference21Ideal.defs _ _).mono (fun r h => ⟨fun c => (h c).2.2.2, sem_eq_zero_of_no_sems (by decide) r.2⟩)
    (Cert.Reference21Ideal.Value.run m g)

theorem algebraic : Cert.algebraic_Kernel21Ideal_Reference21Ideal := by
  intro m g m' g' _ same
  refine ⟨_, _, _, Value.run m g, θ_run_mono (Cert.Reference21Ideal.Value.run m' g') fun r h c => ?_⟩
  obtain ⟨hd, hm, hv, kept⟩ := h c
  obtain ⟨ew, eg, em, ev⟩ := same c
  rw [ew, eg, em, ev] at hd
  rw [eg, em] at hm
  rw [eg, ev] at hv
  exact ⟨hd.trans ((val_main_v23_eq _ _ _ _).trans (delta _ _ _ _).symm), hm, hv, kept⟩

end Cert.Kernel21Ideal.Adam

end
-- ==== Proof.Adam.SpatialWeight.lean ====
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pointwise
public import Idealize.ShloMosaic.Lib.Claim
public import Idealize.ShloMosaic.Adequacy
public import Idealize.ShloMosaic.Init
public import proofs.«01_k».proof.Proof.Adam.Step

/-! The optimiser's step for the spatial gating's weight. -/

@[expose] public section

set_option maxRecDepth 16384

noncomputable section

namespace Cert.Kernel22Ideal.Adam

open Idealize.ShloMosaic Idealize.ShloMosaic.TcCoe Idealize.SL.Sem
open Cert.Kernel22Ideal Cert.Adam
open Cert.Reference22Ideal.Read (val_main_v23_eq val_main_v4_eq val_main_v10_eq)

theorem mHat : Named.named (F := Ideal) κ "m_hat" (φ := .f32) 0x3FC48605#32 = mInv :=
  IdealRules.named_const.ideal_named_scalar _ _ _ _ rfl
theorem vHat : Named.named (F := Ideal) κ "v_hat" (φ := .f32) 0x42C8E6D3#32 = vInv :=
  IdealRules.named_const.ideal_named_scalar _ _ _ _ rfl

theorem delta (w g m v : FVec Ideal S2x4x128x128 .f32) :
    Value.G4 (F := Ideal) g m v w = Cert.Reference22Ideal.Read.val_main_v23 (F := Ideal) w g m v := by
  rw [← val_main_v23_eq]
  funext i
  pointwise [div_m, div_v, mHat, vHat]

theorem reference_frame : Cert.quiescent_Reference22Ideal := fun m g _ =>
  (θ_run Cert.Reference22Ideal.defs _ _).mono (fun r h => ⟨fun c => (h c).2.2.2, sem_eq_zero_of_no_sems (by decide) r.2⟩)
    (Cert.Reference22Ideal.Value.run m g)

theorem algebraic : Cert.algebraic_Kernel22Ideal_Reference22Ideal := by
  intro m g m' g' _ same
  refine ⟨_, _, _, Value.run m g, θ_run_mono (Cert.Reference22Ideal.Value.run m' g') fun r h c => ?_⟩
  obtain ⟨hd, hm, hv, kept⟩ := h c
  obtain ⟨ew, eg, em, ev⟩ := same c
  rw [ew, eg, em, ev] at hd
  rw [eg, em] at hm
  rw [eg, ev] at hv
  exact ⟨hd.trans ((val_main_v23_eq _ _ _ _).trans (delta _ _ _ _).symm), hm, hv, kept⟩

end Cert.Kernel22Ideal.Adam

end
-- ==== Proof.Adam.SpatialOffset.lean ====
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pointwise
public import Idealize.ShloMosaic.Lib.Claim
public import Idealize.ShloMosaic.Adequacy
public import Idealize.ShloMosaic.Init
public import proofs.«01_k».proof.Proof.Adam.Step

/-! The optimiser's step for the spatial gating's offset. -/

@[expose] public section

set_option maxRecDepth 16384

noncomputable section

namespace Cert.Kernel23Ideal.Adam

open Idealize.ShloMosaic Idealize.ShloMosaic.TcCoe Idealize.SL.Sem
open Cert.Kernel23Ideal Cert.Adam
open Cert.Reference23Ideal.Read (val_main_v23_eq val_main_v4_eq val_main_v10_eq)

theorem mHat : Named.named (F := Ideal) κ "m_hat" (φ := .f32) 0x3FC48605#32 = mInv :=
  IdealRules.named_const.ideal_named_scalar _ _ _ _ rfl
theorem vHat : Named.named (F := Ideal) κ "v_hat" (φ := .f32) 0x42C8E6D3#32 = vInv :=
  IdealRules.named_const.ideal_named_scalar _ _ _ _ rfl

theorem delta (w g m v : FVec Ideal S2x4x128 .f32) :
    Value.G4 (F := Ideal) g m v w = Cert.Reference23Ideal.Read.val_main_v23 (F := Ideal) w g m v := by
  rw [← val_main_v23_eq]
  funext i
  pointwise [div_m, div_v, mHat, vHat]

theorem reference_frame : Cert.quiescent_Reference23Ideal := fun m g _ =>
  (θ_run Cert.Reference23Ideal.defs _ _).mono (fun r h => ⟨fun c => (h c).2.2.2, sem_eq_zero_of_no_sems (by decide) r.2⟩)
    (Cert.Reference23Ideal.Value.run m g)

theorem algebraic : Cert.algebraic_Kernel23Ideal_Reference23Ideal := by
  intro m g m' g' _ same
  refine ⟨_, _, _, Value.run m g, θ_run_mono (Cert.Reference23Ideal.Value.run m' g') fun r h c => ?_⟩
  obtain ⟨hd, hm, hv, kept⟩ := h c
  obtain ⟨ew, eg, em, ev⟩ := same c
  rw [ew, eg, em, ev] at hd
  rw [eg, em] at hm
  rw [eg, ev] at hv
  exact ⟨hd.trans ((val_main_v23_eq _ _ _ _).trans (delta _ _ _ _).symm), hm, hv, kept⟩

end Cert.Kernel23Ideal.Adam

end
-- ==== Proof.Adam.Poles.lean ====
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pointwise
public import Idealize.ShloMosaic.Lib.Claim
public import Idealize.ShloMosaic.Adequacy
public import Idealize.ShloMosaic.Init
public import proofs.«01_k».proof.Proof.Adam.Step

/-! The optimiser's step for both parts of the state-space branch's poles. -/

@[expose] public section

set_option maxRecDepth 16384

noncomputable section

namespace Cert.Kernel24Ideal.Adam

open Idealize.ShloMosaic Idealize.ShloMosaic.TcCoe Idealize.SL.Sem
open Cert.Kernel24Ideal Cert.Adam
open Cert.Reference24Ideal.Read (val_main_v23_eq val_main_v4_eq val_main_v10_eq)

theorem mHat : Named.named (F := Ideal) κ "m_hat" (φ := .f32) 0x3FC48605#32 = mInv :=
  IdealRules.named_const.ideal_named_scalar _ _ _ _ rfl
theorem vHat : Named.named (F := Ideal) κ "v_hat" (φ := .f32) 0x42C8E6D3#32 = vInv :=
  IdealRules.named_const.ideal_named_scalar _ _ _ _ rfl

theorem delta (w g m v : FVec Ideal S2x2x32x64 .f32) :
    Value.G4 (F := Ideal) g m v w = Cert.Reference24Ideal.Read.val_main_v23 (F := Ideal) w g m v := by
  rw [← val_main_v23_eq]
  funext i
  pointwise [div_m, div_v, mHat, vHat]

theorem reference_frame : Cert.quiescent_Reference24Ideal := fun m g _ =>
  (θ_run Cert.Reference24Ideal.defs _ _).mono (fun r h => ⟨fun c => (h c).2.2.2, sem_eq_zero_of_no_sems (by decide) r.2⟩)
    (Cert.Reference24Ideal.Value.run m g)

theorem algebraic : Cert.algebraic_Kernel24Ideal_Reference24Ideal := by
  intro m g m' g' _ same
  refine ⟨_, _, _, Value.run m g, θ_run_mono (Cert.Reference24Ideal.Value.run m' g') fun r h c => ?_⟩
  obtain ⟨hd, hm, hv, kept⟩ := h c
  obtain ⟨ew, eg, em, ev⟩ := same c
  rw [ew, eg, em, ev] at hd
  rw [eg, em] at hm
  rw [eg, ev] at hv
  exact ⟨hd.trans ((val_main_v23_eq _ _ _ _).trans (delta _ _ _ _).symm), hm, hv, kept⟩

end Cert.Kernel24Ideal.Adam

end
-- ==== Proof.Adam.StepSizes.lean ====
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import Idealize.ShloMosaic.Lib.Pointwise
public import Idealize.ShloMosaic.Lib.Claim
public import Idealize.ShloMosaic.Adequacy
public import Idealize.ShloMosaic.Init
public import proofs.«01_k».proof.Proof.Adam.Step

/-! The optimiser's step for the state-space branch's step sizes. -/

@[expose] public section

set_option maxRecDepth 16384

noncomputable section

namespace Cert.Kernel25Ideal.Adam

open Idealize.ShloMosaic Idealize.ShloMosaic.TcCoe Idealize.SL.Sem
open Cert.Kernel25Ideal Cert.Adam
open Cert.Reference25Ideal.Read (val_main_v23_eq val_main_v4_eq val_main_v10_eq)

theorem mHat : Named.named (F := Ideal) κ "m_hat" (φ := .f32) 0x3FC48605#32 = mInv :=
  IdealRules.named_const.ideal_named_scalar _ _ _ _ rfl
theorem vHat : Named.named (F := Ideal) κ "v_hat" (φ := .f32) 0x42C8E6D3#32 = vInv :=
  IdealRules.named_const.ideal_named_scalar _ _ _ _ rfl

theorem delta (w g m v : FVec Ideal S2x2x32 .f32) :
    Value.G4 (F := Ideal) g m v w = Cert.Reference25Ideal.Read.val_main_v23 (F := Ideal) w g m v := by
  rw [← val_main_v23_eq]
  funext i
  pointwise [div_m, div_v, mHat, vHat]

theorem reference_frame : Cert.quiescent_Reference25Ideal := fun m g _ =>
  (θ_run Cert.Reference25Ideal.defs _ _).mono (fun r h => ⟨fun c => (h c).2.2.2, sem_eq_zero_of_no_sems (by decide) r.2⟩)
    (Cert.Reference25Ideal.Value.run m g)

theorem algebraic : Cert.algebraic_Kernel25Ideal_Reference25Ideal := by
  intro m g m' g' _ same
  refine ⟨_, _, _, Value.run m g, θ_run_mono (Cert.Reference25Ideal.Value.run m' g') fun r h c => ?_⟩
  obtain ⟨hd, hm, hv, kept⟩ := h c
  obtain ⟨ew, eg, em, ev⟩ := same c
  rw [ew, eg, em, ev] at hd
  rw [eg, em] at hm
  rw [eg, ev] at hv
  exact ⟨hd.trans ((val_main_v23_eq _ _ _ _).trans (delta _ _ _ _).symm), hm, hv, kept⟩

end Cert.Kernel25Ideal.Adam

end
-- ==== Proof.Adam.InputMatrices.lean ====
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import Idealize.ShloMosaic.Lib.Pointwise
public import Idealize.ShloMosaic.Lib.Claim
public import Idealize.ShloMosaic.Adequacy
public import Idealize.ShloMosaic.Init
public import proofs.«01_k».proof.Proof.Adam.Step

/-! The optimiser's step for both parts of the state-space branch's input matrices. -/

@[expose] public section

set_option maxRecDepth 16384

noncomputable section

namespace Cert.Kernel26Ideal.Adam

open Idealize.ShloMosaic Idealize.ShloMosaic.TcCoe Idealize.SL.Sem
open Cert.Kernel26Ideal Cert.Adam
open Cert.Reference26Ideal.Read (val_main_v23_eq val_main_v4_eq val_main_v10_eq)

theorem mHat : Named.named (F := Ideal) κ "m_hat" (φ := .f32) 0x3FC48605#32 = mInv :=
  IdealRules.named_const.ideal_named_scalar _ _ _ _ rfl
theorem vHat : Named.named (F := Ideal) κ "v_hat" (φ := .f32) 0x42C8E6D3#32 = vInv :=
  IdealRules.named_const.ideal_named_scalar _ _ _ _ rfl

theorem delta (w g m v : FVec Ideal S2x2x32x64x16 .f32) :
    Value.G4 (F := Ideal) g m v w = Cert.Reference26Ideal.Read.val_main_v23 (F := Ideal) w g m v := by
  rw [← val_main_v23_eq]
  funext i
  pointwise [div_m, div_v, mHat, vHat]

theorem reference_frame : Cert.quiescent_Reference26Ideal := fun m g _ =>
  (θ_run Cert.Reference26Ideal.defs _ _).mono (fun r h => ⟨fun c => (h c).2.2.2, sem_eq_zero_of_no_sems (by decide) r.2⟩)
    (Cert.Reference26Ideal.Value.run m g)

theorem algebraic : Cert.algebraic_Kernel26Ideal_Reference26Ideal := by
  intro m g m' g' _ same
  refine ⟨_, _, _, Value.run m g, θ_run_mono (Cert.Reference26Ideal.Value.run m' g') fun r h c => ?_⟩
  obtain ⟨hd, hm, hv, kept⟩ := h c
  obtain ⟨ew, eg, em, ev⟩ := same c
  rw [ew, eg, em, ev] at hd
  rw [eg, em] at hm
  rw [eg, ev] at hv
  exact ⟨hd.trans ((val_main_v23_eq _ _ _ _).trans (delta _ _ _ _).symm), hm, hv, kept⟩

end Cert.Kernel26Ideal.Adam

end
-- ==== Proof.Adam.OutputMatrices.lean ====
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import Idealize.ShloMosaic.Lib.Pointwise
public import Idealize.ShloMosaic.Lib.Claim
public import Idealize.ShloMosaic.Adequacy
public import Idealize.ShloMosaic.Init
public import proofs.«01_k».proof.Proof.Adam.Step

/-! The optimiser's step for both parts of the state-space branch's output matrices. -/

@[expose] public section

set_option maxRecDepth 16384

noncomputable section

namespace Cert.Kernel27Ideal.Adam

open Idealize.ShloMosaic Idealize.ShloMosaic.TcCoe Idealize.SL.Sem
open Cert.Kernel27Ideal Cert.Adam
open Cert.Reference27Ideal.Read (val_main_v23_eq val_main_v4_eq val_main_v10_eq)

theorem mHat : Named.named (F := Ideal) κ "m_hat" (φ := .f32) 0x3FC48605#32 = mInv :=
  IdealRules.named_const.ideal_named_scalar _ _ _ _ rfl
theorem vHat : Named.named (F := Ideal) κ "v_hat" (φ := .f32) 0x42C8E6D3#32 = vInv :=
  IdealRules.named_const.ideal_named_scalar _ _ _ _ rfl

theorem delta (w g m v : FVec Ideal S2x2x32x16x64 .f32) :
    Value.G4 (F := Ideal) g m v w = Cert.Reference27Ideal.Read.val_main_v23 (F := Ideal) w g m v := by
  rw [← val_main_v23_eq]
  funext i
  pointwise [div_m, div_v, mHat, vHat]

theorem reference_frame : Cert.quiescent_Reference27Ideal := fun m g _ =>
  (θ_run Cert.Reference27Ideal.defs _ _).mono (fun r h => ⟨fun c => (h c).2.2.2, sem_eq_zero_of_no_sems (by decide) r.2⟩)
    (Cert.Reference27Ideal.Value.run m g)

theorem algebraic : Cert.algebraic_Kernel27Ideal_Reference27Ideal := by
  intro m g m' g' _ same
  refine ⟨_, _, _, Value.run m g, θ_run_mono (Cert.Reference27Ideal.Value.run m' g') fun r h c => ?_⟩
  obtain ⟨hd, hm, hv, kept⟩ := h c
  obtain ⟨ew, eg, em, ev⟩ := same c
  rw [ew, eg, em, ev] at hd
  rw [eg, em] at hm
  rw [eg, ev] at hv
  exact ⟨hd.trans ((val_main_v23_eq _ _ _ _).trans (delta _ _ _ _).symm), hm, hv, kept⟩

end Cert.Kernel27Ideal.Adam

end
-- ==== Proof.Adam.DirectPath.lean ====
module

public import proofs.«01_k».proof.Defs
public import proofs.«01_k».proof.Proof.Gen.Kernel28Ideal.Value
public import proofs.«01_k».proof.Proof.Gen.Reference28Ideal.Run
public import proofs.«01_k».proof.Proof.Gen.Reference28Ideal.Read
public import Idealize.ShloMosaic.Lib.Pointwise
public import Idealize.ShloMosaic.Lib.Claim
public import Idealize.ShloMosaic.Adequacy
public import Idealize.ShloMosaic.Init
public import proofs.«01_k».proof.Proof.Adam.Step

/-! The optimiser's step for the state-space branch's direct path. -/

@[expose] public section

set_option maxRecDepth 16384

noncomputable section

namespace Cert.Kernel28Ideal.Adam

open Idealize.ShloMosaic Idealize.ShloMosaic.TcCoe Idealize.SL.Sem
open Cert.Kernel28Ideal Cert.Adam
open Cert.Reference28Ideal.Read (val_main_v23_eq val_main_v4_eq val_main_v10_eq)

theorem mHat : Named.named (F := Ideal) κ "m_hat" (φ := .f32) 0x3FC48605#32 = mInv :=
  IdealRules.named_const.ideal_named_scalar _ _ _ _ rfl
theorem vHat : Named.named (F := Ideal) κ "v_hat" (φ := .f32) 0x42C8E6D3#32 = vInv :=
  IdealRules.named_const.ideal_named_scalar _ _ _ _ rfl

theorem delta (w g m v : FVec Ideal S2x32x16 .f32) :
    Value.G4 (F := Ideal) g m v w = Cert.Reference28Ideal.Read.val_main_v23 (F := Ideal) w g m v := by
  rw [← val_main_v23_eq]
  funext i
  pointwise [div_m, div_v, mHat, vHat]

theorem reference_frame : Cert.quiescent_Reference28Ideal := fun m g _ =>
  (θ_run Cert.Reference28Ideal.defs _ _).mono (fun r h => ⟨fun c => (h c).2.2.2, sem_eq_zero_of_no_sems (by decide) r.2⟩)
    (Cert.Reference28Ideal.Value.run m g)

theorem algebraic : Cert.algebraic_Kernel28Ideal_Reference28Ideal := by
  intro m g m' g' _ same
  refine ⟨_, _, _, Value.run m g, θ_run_mono (Cert.Reference28Ideal.Value.run m' g') fun r h c => ?_⟩
  obtain ⟨hd, hm, hv, kept⟩ := h c
  obtain ⟨ew, eg, em, ev⟩ := same c
  rw [ew, eg, em, ev] at hd
  rw [eg, em] at hm
  rw [eg, ev] at hv
  exact ⟨hd.trans ((val_main_v23_eq _ _ _ _).trans (delta _ _ _ _).symm), hm, hv, kept⟩

end Cert.Kernel28Ideal.Adam

end
-- ==== Proof.Adam.GluWeight.lean ====
module

public import proofs.«01_k».proof.Defs
public import proofs.«01_k».proof.Proof.Gen.Kernel29Ideal.Value
public import proofs.«01_k».proof.Proof.Gen.Reference29Ideal.Run
public import proofs.«01_k».proof.Proof.Gen.Reference29Ideal.Read
public import Idealize.ShloMosaic.Lib.Pointwise
public import Idealize.ShloMosaic.Lib.Claim
public import Idealize.ShloMosaic.Adequacy
public import Idealize.ShloMosaic.Init
public import proofs.«01_k».proof.Proof.Adam.Step

/-! The optimiser's step for the gated unit's weight. -/

@[expose] public section

set_option maxRecDepth 16384

noncomputable section

namespace Cert.Kernel29Ideal.Adam

open Idealize.ShloMosaic Idealize.ShloMosaic.TcCoe Idealize.SL.Sem
open Cert.Kernel29Ideal Cert.Adam
open Cert.Reference29Ideal.Read (val_main_v23_eq val_main_v4_eq val_main_v10_eq)

theorem mHat : Named.named (F := Ideal) κ "m_hat" (φ := .f32) 0x3FC48605#32 = mInv :=
  IdealRules.named_const.ideal_named_scalar _ _ _ _ rfl
theorem vHat : Named.named (F := Ideal) κ "v_hat" (φ := .f32) 0x42C8E6D3#32 = vInv :=
  IdealRules.named_const.ideal_named_scalar _ _ _ _ rfl

theorem delta (w g m v : FVec Ideal S2x128x512 .f32) :
    Value.G4 (F := Ideal) g m v w = Cert.Reference29Ideal.Read.val_main_v23 (F := Ideal) w g m v := by
  rw [← val_main_v23_eq]
  funext i
  pointwise [div_m, div_v, mHat, vHat]

theorem reference_frame : Cert.quiescent_Reference29Ideal := fun m g _ =>
  (θ_run Cert.Reference29Ideal.defs _ _).mono (fun r h => ⟨fun c => (h c).2.2.2, sem_eq_zero_of_no_sems (by decide) r.2⟩)
    (Cert.Reference29Ideal.Value.run m g)

theorem algebraic : Cert.algebraic_Kernel29Ideal_Reference29Ideal := by
  intro m g m' g' _ same
  refine ⟨_, _, _, Value.run m g, θ_run_mono (Cert.Reference29Ideal.Value.run m' g') fun r h c => ?_⟩
  obtain ⟨hd, hm, hv, kept⟩ := h c
  obtain ⟨ew, eg, em, ev⟩ := same c
  rw [ew, eg, em, ev] at hd
  rw [eg, em] at hm
  rw [eg, ev] at hv
  exact ⟨hd.trans ((val_main_v23_eq _ _ _ _).trans (delta _ _ _ _).symm), hm, hv, kept⟩

end Cert.Kernel29Ideal.Adam

end
-- ==== Proof.Adam.GluOffset.lean ====
module

public import proofs.«01_k».proof.Defs
public import proofs.«01_k».proof.Proof.Gen.Kernel30Ideal.Value
public import proofs.«01_k».proof.Proof.Gen.Reference30Ideal.Run
public import proofs.«01_k».proof.Proof.Gen.Reference30Ideal.Read
public import Idealize.ShloMosaic.Lib.Pointwise
public import Idealize.ShloMosaic.Lib.Claim
public import Idealize.ShloMosaic.Adequacy
public import Idealize.ShloMosaic.Init
public import proofs.«01_k».proof.Proof.Adam.Step

/-! The optimiser's step for the gated unit's offset. -/

@[expose] public section

set_option maxRecDepth 16384

noncomputable section

namespace Cert.Kernel30Ideal.Adam

open Idealize.ShloMosaic Idealize.ShloMosaic.TcCoe Idealize.SL.Sem
open Cert.Kernel30Ideal Cert.Adam
open Cert.Reference30Ideal.Read (val_main_v23_eq val_main_v4_eq val_main_v10_eq)

theorem mHat : Named.named (F := Ideal) κ "m_hat" (φ := .f32) 0x3FC48605#32 = mInv :=
  IdealRules.named_const.ideal_named_scalar _ _ _ _ rfl
theorem vHat : Named.named (F := Ideal) κ "v_hat" (φ := .f32) 0x42C8E6D3#32 = vInv :=
  IdealRules.named_const.ideal_named_scalar _ _ _ _ rfl

theorem delta (w g m v : FVec Ideal S2x512 .f32) :
    Value.G4 (F := Ideal) g m v w = Cert.Reference30Ideal.Read.val_main_v23 (F := Ideal) w g m v := by
  rw [← val_main_v23_eq]
  funext i
  pointwise [div_m, div_v, mHat, vHat]

theorem reference_frame : Cert.quiescent_Reference30Ideal := fun m g _ =>
  (θ_run Cert.Reference30Ideal.defs _ _).mono (fun r h => ⟨fun c => (h c).2.2.2, sem_eq_zero_of_no_sems (by decide) r.2⟩)
    (Cert.Reference30Ideal.Value.run m g)

theorem algebraic : Cert.algebraic_Kernel30Ideal_Reference30Ideal := by
  intro m g m' g' _ same
  refine ⟨_, _, _, Value.run m g, θ_run_mono (Cert.Reference30Ideal.Value.run m' g') fun r h c => ?_⟩
  obtain ⟨hd, hm, hv, kept⟩ := h c
  obtain ⟨ew, eg, em, ev⟩ := same c
  rw [ew, eg, em, ev] at hd
  rw [eg, em] at hm
  rw [eg, ev] at hv
  exact ⟨hd.trans ((val_main_v23_eq _ _ _ _).trans (delta _ _ _ _).symm), hm, hv, kept⟩

end Cert.Kernel30Ideal.Adam

end
-- ==== Proof.Adam.PoolWeight.lean ====
module

public import proofs.«01_k».proof.Defs
public import proofs.«01_k».proof.Proof.Gen.Kernel31Ideal.Value
public import proofs.«01_k».proof.Proof.Gen.Reference31Ideal.Run
public import proofs.«01_k».proof.Proof.Gen.Reference31Ideal.Read
public import Idealize.ShloMosaic.Lib.Pointwise
public import Idealize.ShloMosaic.Lib.Claim
public import Idealize.ShloMosaic.Adequacy
public import Idealize.ShloMosaic.Init
public import proofs.«01_k».proof.Proof.Adam.Step

/-! The optimiser's step for the pooling's weight. -/

@[expose] public section

set_option maxRecDepth 16384

noncomputable section

namespace Cert.Kernel31Ideal.Adam

open Idealize.ShloMosaic Idealize.ShloMosaic.TcCoe Idealize.SL.Sem
open Cert.Kernel31Ideal Cert.Adam
open Cert.Reference31Ideal.Read (val_main_v23_eq val_main_v4_eq val_main_v10_eq)

theorem mHat : Named.named (F := Ideal) κ "m_hat" (φ := .f32) 0x3FC48605#32 = mInv :=
  IdealRules.named_const.ideal_named_scalar _ _ _ _ rfl
theorem vHat : Named.named (F := Ideal) κ "v_hat" (φ := .f32) 0x42C8E6D3#32 = vInv :=
  IdealRules.named_const.ideal_named_scalar _ _ _ _ rfl

theorem delta (w g m v : FVec Ideal S2x4x64x64 .f32) :
    Value.G4 (F := Ideal) g m v w = Cert.Reference31Ideal.Read.val_main_v23 (F := Ideal) w g m v := by
  rw [← val_main_v23_eq]
  funext i
  pointwise [div_m, div_v, mHat, vHat]

theorem reference_frame : Cert.quiescent_Reference31Ideal := fun m g _ =>
  (θ_run Cert.Reference31Ideal.defs _ _).mono (fun r h => ⟨fun c => (h c).2.2.2, sem_eq_zero_of_no_sems (by decide) r.2⟩)
    (Cert.Reference31Ideal.Value.run m g)

theorem algebraic : Cert.algebraic_Kernel31Ideal_Reference31Ideal := by
  intro m g m' g' _ same
  refine ⟨_, _, _, Value.run m g, θ_run_mono (Cert.Reference31Ideal.Value.run m' g') fun r h c => ?_⟩
  obtain ⟨hd, hm, hv, kept⟩ := h c
  obtain ⟨ew, eg, em, ev⟩ := same c
  rw [ew, eg, em, ev] at hd
  rw [eg, em] at hm
  rw [eg, ev] at hv
  exact ⟨hd.trans ((val_main_v23_eq _ _ _ _).trans (delta _ _ _ _).symm), hm, hv, kept⟩

end Cert.Kernel31Ideal.Adam

end
-- ==== Proof.Adam.PoolScale.lean ====
module

public import proofs.«01_k».proof.Defs
public import proofs.«01_k».proof.Proof.Gen.Kernel32Ideal.Value
public import proofs.«01_k».proof.Proof.Gen.Reference32Ideal.Run
public import proofs.«01_k».proof.Proof.Gen.Reference32Ideal.Read
public import Idealize.ShloMosaic.Lib.Pointwise
public import Idealize.ShloMosaic.Lib.Claim
public import Idealize.ShloMosaic.Adequacy
public import Idealize.ShloMosaic.Init
public import proofs.«01_k».proof.Proof.Adam.Step

/-! The optimiser's step for the pooling's scale. -/

@[expose] public section

set_option maxRecDepth 16384

noncomputable section

namespace Cert.Kernel32Ideal.Adam

open Idealize.ShloMosaic Idealize.ShloMosaic.TcCoe Idealize.SL.Sem
open Cert.Kernel32Ideal Cert.Adam
open Cert.Reference32Ideal.Read (val_main_v23_eq val_main_v4_eq val_main_v10_eq)

theorem mHat : Named.named (F := Ideal) κ "m_hat" (φ := .f32) 0x3FC48605#32 = mInv :=
  IdealRules.named_const.ideal_named_scalar _ _ _ _ rfl
theorem vHat : Named.named (F := Ideal) κ "v_hat" (φ := .f32) 0x42C8E6D3#32 = vInv :=
  IdealRules.named_const.ideal_named_scalar _ _ _ _ rfl

theorem delta (w g m v : FVec Ideal S2x256 .f32) :
    Value.G4 (F := Ideal) g m v w = Cert.Reference32Ideal.Read.val_main_v23 (F := Ideal) w g m v := by
  rw [← val_main_v23_eq]
  funext i
  pointwise [div_m, div_v, mHat, vHat]

theorem reference_frame : Cert.quiescent_Reference32Ideal := fun m g _ =>
  (θ_run Cert.Reference32Ideal.defs _ _).mono (fun r h => ⟨fun c => (h c).2.2.2, sem_eq_zero_of_no_sems (by decide) r.2⟩)
    (Cert.Reference32Ideal.Value.run m g)

theorem algebraic : Cert.algebraic_Kernel32Ideal_Reference32Ideal := by
  intro m g m' g' _ same
  refine ⟨_, _, _, Value.run m g, θ_run_mono (Cert.Reference32Ideal.Value.run m' g') fun r h c => ?_⟩
  obtain ⟨hd, hm, hv, kept⟩ := h c
  obtain ⟨ew, eg, em, ev⟩ := same c
  rw [ew, eg, em, ev] at hd
  rw [eg, em] at hm
  rw [eg, ev] at hv
  exact ⟨hd.trans ((val_main_v23_eq _ _ _ _).trans (delta _ _ _ _).symm), hm, hv, kept⟩

end Cert.Kernel32Ideal.Adam

end
-- ==== Proof.Adam.Context.lean ====
module

public import proofs.«01_k».proof.Defs
public import proofs.«01_k».proof.Proof.Gen.Kernel33Ideal.Value
public import proofs.«01_k».proof.Proof.Gen.Reference33Ideal.Run
public import proofs.«01_k».proof.Proof.Gen.Reference33Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init
public import proofs.«01_k».proof.Proof.Adam.Step

/-! The optimiser's step for the context, 2 rows at a time. -/

@[expose] public section

set_option maxRecDepth 16384

noncomputable section

namespace Cert.Kernel33Ideal.Adam

open Idealize.ShloMosaic Idealize.ShloMosaic.TcCoe Idealize.SL.Sem
open Cert.Kernel33Ideal Cert.Kernel33Ideal.Gen Cert.Adam
open Cert.Reference33Ideal.Read (val_main_v24_eq val_main_v25_eq val_main_v26_eq val_main_v24 val_main_v25 val_main_v26)

theorem mHat : Named.named (F := Ideal) κ "m_hat" (φ := .f32) 0x3FC48605#32 = mInv :=
  IdealRules.named_const.ideal_named_scalar _ _ _ _ rfl
theorem vHat : Named.named (F := Ideal) κ "v_hat" (φ := .f32) 0x42C8E6D3#32 = vInv :=
  IdealRules.named_const.ideal_named_scalar _ _ _ _ rfl

/-- The layers' arrays one below the other. -/
def flat (x : FVec Ideal S1024 .f32) : FVec Ideal S2x512 .f32 := shapeCast S2x512 x shapeCasts_S1024_S2x512

variable (m : (ℓ : Loc nD τ sig) → Buf (Elt Ideal) ℓ)

def A0 (c : Dev nD) := (m ((c : Thread nD τ).loc main_arg0) : FVec Ideal S1024 .f32)
def A1 (c : Dev nD) := (m ((c : Thread nD τ).loc main_arg1) : FVec Ideal S1024 .f32)
def A2 (c : Dev nD) := (m ((c : Thread nD τ).loc main_arg2) : FVec Ideal S1024 .f32)
def A3 (c : Dev nD) := (m ((c : Thread nD τ).loc main_arg3) : FVec Ideal S1024 .f32)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem rows (t : Fin cfg0.N) (a : Fin 2) : 2 * t.val + a.val < 2 := by
  have : t.val < 1 := t.isLt
  omega

theorem entry0 (c : Dev nD) : V m c main_v0 = flat (A0 m c) := by
  entry_read
  rfl
theorem entry1 (c : Dev nD) : V m c main_v1 = flat (A1 m c) := by
  entry_read
  rfl
theorem entry2 (c : Dev nD) : V m c main_v2 = flat (A2 m c) := by
  entry_read
  rfl
theorem entry3 (c : Dev nD) : V m c main_v3 = flat (A3 m c) := by
  entry_read
  rfl

theorem blk0 (c : Dev nD) (t : Fin cfg0.N) (a : Fin 2) (b : Fin 512) :
    iblk m c 0 t (ix2 a b) = flat (A0 m c) (ix2 ⟨2 * t.val + a.val, rows t a⟩ b) := by
  have e := entry0 m c
  generalize flat (A0 m c) = X at e ⊢
  blk_point [iblk, e, idx t]
theorem blk1 (c : Dev nD) (t : Fin cfg0.N) (a : Fin 2) (b : Fin 512) :
    iblk m c 1 t (ix2 a b) = flat (A1 m c) (ix2 ⟨2 * t.val + a.val, rows t a⟩ b) := by
  have e := entry1 m c
  generalize flat (A1 m c) = X at e ⊢
  blk_point [iblk, e, idx t]
theorem blk2 (c : Dev nD) (t : Fin cfg0.N) (a : Fin 2) (b : Fin 512) :
    iblk m c 2 t (ix2 a b) = flat (A2 m c) (ix2 ⟨2 * t.val + a.val, rows t a⟩ b) := by
  have e := entry2 m c
  generalize flat (A2 m c) = X at e ⊢
  blk_point [iblk, e, idx t]
theorem blk3 (c : Dev nD) (t : Fin cfg0.N) (a : Fin 2) (b : Fin 512) :
    iblk m c 3 t (ix2 a b) = flat (A3 m c) (ix2 ⟨2 * t.val + a.val, rows t a⟩ b) := by
  have e := entry3 m c
  generalize flat (A3 m c) = X at e ⊢
  blk_point [iblk, e, idx t]

theorem emb4 (X : FVec Ideal S2x512 .f32) (t : Fin cfg0.N) (y : S2x512.Idx) :
    X ((win0_4.blk t).view.emb y) = X (ix2 ⟨2 * t.val + (y 0).val, rows t (y 0)⟩ (y 1)) := by
  blk_point [idx t]
theorem emb5 (X : FVec Ideal S2x512 .f32) (t : Fin cfg0.N) (y : S2x512.Idx) :
    X ((win0_5.blk t).view.emb y) = X (ix2 ⟨2 * t.val + (y 0).val, rows t (y 0)⟩ (y 1)) := by
  blk_point [idx t]
theorem emb6 (X : FVec Ideal S2x512 .f32) (t : Fin cfg0.N) (y : S2x512.Idx) :
    X ((win0_6.blk t).view.emb y) = X (ix2 ⟨2 * t.val + (y 0).val, rows t (y 0)⟩ (y 1)) := by
  blk_point [idx t]

def deltas (w g m v : FVec Ideal S1024 .f32) : FVec Ideal S2x512 .f32 := fun i => delta (flat w i) (flat g i) (flat m i) (flat v i)
def firsts (g m : FVec Ideal S1024 .f32) : FVec Ideal S2x512 .f32 := fun i => newM (flat g i) (flat m i)
def seconds (g v : FVec Ideal S1024 .f32) : FVec Ideal S2x512 .f32 := fun i => newV (flat g i) (flat v i)

theorem pay2 (g m : Vec Ideal S2x512 .f32) (i : S2x512.Idx) : k0_pay2 g m i = newM (g i) (m i) := by
  pointwise [k0_pay1, k0_pay2, newM]
theorem pay3 (g v : Vec Ideal S2x512 .f32) (i : S2x512.Idx) : k0_pay3 g v i = newV (g i) (v i) := by
  pointwise [k0_pay1, k0_pay3, newV]
theorem pay4 (g m v w : Vec Ideal S2x512 .f32) (i : S2x512.Idx) : k0_pay4 g m v w i = delta (w i) (g i) (m i) (v i) := by
  pointwise [k0_pay4, pay2, pay3, delta, mHat, vHat]

theorem final4 (c : Dev nD) : (dats m 0 c).arrAt 4 cfg0.N = deltas (A0 m c) (A1 m c) (A2 m c) (A3 m c) := by
  refine (dats m 0 c).arrAt_eq_of_covers 4 _ (by decide +kernel) fun t hf y => ?_
  blk_simp
  refine Eq.trans ?_ (emb4 _ t y).symm
  rw [after0_4]
  frame_out
  idx_vars y
  rw [pay4]
  simp only [blk0, blk1, blk2, blk3, deltas]

theorem final5 (c : Dev nD) : (dats m 0 c).arrAt 5 cfg0.N = firsts (A1 m c) (A2 m c) := by
  refine (dats m 0 c).arrAt_eq_of_covers 5 _ (by decide +kernel) fun t hf y => ?_
  blk_simp
  refine Eq.trans ?_ (emb5 _ t y).symm
  rw [after0_5]
  frame_out
  idx_vars y
  rw [pay2]
  simp only [blk1, blk2, firsts]

theorem final6 (c : Dev nD) : (dats m 0 c).arrAt 6 cfg0.N = seconds (A1 m c) (A3 m c) := by
  refine (dats m 0 c).arrAt_eq_of_covers 6 _ (by decide +kernel) fun t hf y => ?_
  blk_simp
  refine Eq.trans ?_ (emb6 _ t y).symm
  rw [after0_6]
  frame_out
  idx_vars y
  rw [pay3]
  simp only [blk1, blk3, seconds]

theorem reference24 (w g m v : FVec Ideal S1024 .f32) : val_main_v24 (F := Ideal) w g m v = deltas w g m v := by
  rw [← val_main_v24_eq]
  refine congrArg (fun x => flat x) (a₂ := fun i => delta (w i) (g i) (m i) (v i)) ?_
  funext i
  pointwise [div_m, div_v, delta, newM, newV]

theorem reference25 (g m : FVec Ideal S1024 .f32) : val_main_v25 (F := Ideal) g m = firsts g m := by
  rw [← val_main_v25_eq]
  refine congrArg (fun x => flat x) (a₂ := fun i => newM (g i) (m i)) ?_
  funext i
  pointwise [newM]

theorem reference26 (g v : FVec Ideal S1024 .f32) : val_main_v26 (F := Ideal) g v = seconds g v := by
  rw [← val_main_v26_eq]
  refine congrArg (fun x => flat x) (a₂ := fun i => newV (g i) (v i)) ?_
  funext i
  pointwise [newV]

theorem reference_frame : Cert.quiescent_Reference33Ideal := fun m g _ =>
  (θ_run Cert.Reference33Ideal.defs _ _).mono (fun r h => ⟨fun c => (h c).2.2.2, sem_eq_zero_of_no_sems (by decide) r.2⟩)
    (Cert.Reference33Ideal.Value.run m g)

theorem algebraic : Cert.algebraic_Kernel33Ideal_Reference33Ideal := by
  intro m g m' g' _ same
  refine ⟨_, _, _, Value.run_blocks m g, θ_run_mono (Cert.Reference33Ideal.Value.run m' g') fun r h c => ?_⟩
  obtain ⟨hd, hm, hv, kept⟩ := h c
  obtain ⟨ew, eg, em, ev⟩ := same c
  rw [ew, eg, em, ev] at hd
  rw [eg, em] at hm
  rw [eg, ev] at hv
  exact ⟨hd.trans ((val_main_v24_eq _ _ _ _).trans ((reference24 _ _ _ _).trans (final4 m c).symm)),
    hm.trans ((val_main_v25_eq _ _).trans ((reference25 _ _).trans (final5 m c).symm)),
    hv.trans ((val_main_v26_eq _ _).trans ((reference26 _ _).trans (final6 m c).symm)), kept⟩

end Cert.Kernel33Ideal.Adam

end
-- ==== Proof.Mod.Weight.lean ====
module

public import proofs.«01_k».proof.Defs
public import proofs.«01_k».proof.Proof.Gen.Kernel34Ideal.Value
public import proofs.«01_k».proof.Proof.Gen.Reference34Ideal.Run
public import proofs.«01_k».proof.Proof.Gen.Reference34Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

/-! The gradient of the modulation's weight, and one device's part of the gradient of silu of the context's vector. -/

@[expose] public section

set_option maxRecDepth 16384

noncomputable section

namespace Cert.Kernel34Ideal.Mod

open Idealize.ShloMosaic Idealize.ShloMosaic.TcCoe Idealize.SL.Sem
open Cert.Kernel34Ideal Cert.Kernel34Ideal.Gen
open Idealize.ShloMosaic.Pipeline (Dat)

variable (m : (ℓ : Loc nD τ sig) → Buf (Elt Ideal) ℓ)

def A0 (c : Dev nD) := (m ((c : Thread nD τ).loc main_arg0) : FVec Ideal S32x1024 .f32)
def A1 (c : Dev nD) := (m ((c : Thread nD τ).loc main_arg1) : FVec Ideal S1024 .f32)
def A2 (c : Dev nD) := (m ((c : Thread nD τ).loc main_arg2) : FVec Ideal S2x1024x1536 .f32)
def A3 (c : Dev nD) := (m ((c : Thread nD τ).loc main_arg3) : FVec Ideal S2x32x1536 .f32)
def A4 (c : Dev nD) := (m ((c : Thread nD τ).loc main_arg4) : FVec Ideal S8x2x1x1536 .f32)

theorem idx : ∀ t : Fin cfg0.N, win0_0.index t = ![0, 0] ∧ win0_1.index t = ![0, 0, 0] ∧ win0_2.index t = ![0, 0, 0]
    ∧ win0_3.index t = ![0, 0, 0, 0] ∧ win0_4.index t = ![0, 0, 0] ∧ win0_5.index t = ![0, 0] :=
  (by decide +kernel : ∀ t : Fin grid0.N, _)

def silu (x : EReal) : EReal := x * Ideal.div 1 (1 + Ideal.exp (0 - x))

/-- The sum over the devices of the gradients of one layer's modulation of the context. -/
def shared (d : FVec Ideal S8x2x1x1536 .f32) (l : Fin 2) (b : Fin 1536) : EReal := ∑ q : Fin 8, d (ix4 q l (0 : Fin 1) b)

/-- The weight's gradient: the rows of the batch, and the context's row. -/
def weights (x : FVec Ideal S32x1024 .f32) (s : FVec Ideal S1024 .f32) (g : FVec Ideal S2x32x1536 .f32)
    (d : FVec Ideal S8x2x1x1536 .f32) : FVec Ideal S2x1024x1536 .f32 := fun i =>
  ∑ r : Fin 32, silu (x (ix2 r (i 1))) * g (ix3 (i 0) r (i 2)) + silu (s (ix1 (i 1))) * shared d (i 0) (i 2)

/-- The gradient of silu of the context's vector, summed over the two layers. -/
def context (w : FVec Ideal S2x1024x1536 .f32) (d : FVec Ideal S8x2x1x1536 .f32) : FVec Ideal S1x1024 .f32 := fun i =>
  ∑ b : Fin 1536, shared d 0 b * w (ix3 (0 : Fin 2) (i 1) b) + ∑ b : Fin 1536, shared d 1 b * w (ix3 (1 : Fin 2) (i 1) b)

/-- Three blocks of rows, one below the other. -/
def stack (x : FVec Ideal S32x1024 .f32) (y : FVec Ideal S1x1024 .f32) (z : FVec Ideal S7x1024 .f32) : FVec Ideal S40x1024 .f32 :=
  concatenate S40x1024 0 [⟨S32x1024, x⟩, ⟨S1x1024, y⟩, ⟨S7x1024, z⟩] concatenates_S32x1024_S1x1024_S7x1024_S40x1024_d0

/-- The rows the kernel takes: the batch, the context and seven rows of zeros. -/
def rows (x : FVec Ideal S32x1024 .f32) (s : FVec Ideal S1024 .f32) : FVec Ideal S40x1024 .f32 :=
  stack x (broadcastInDim S1x1024 ![1] bcast_S1024_S1x1024_1 s) (broadcastInDim S7x1024 ![] bcast_S_S7x1024 (constant S_ .f32 0x00000000#32))

/-- The gradients of the rows, eight rows of zeros below. -/
def padded (g : FVec Ideal S2x32x1536 .f32) : FVec Ideal S2x40x1536 .f32 :=
  concatenate S2x40x1536 1 [⟨S2x32x1536, g⟩, ⟨S2x8x1536, broadcastInDim S2x8x1536 ![] bcast_S_S2x8x1536 (constant S_ .f32 0x00000000#32)⟩]
    concatenates_S2x32x1536_S2x8x1536_S2x40x1536_d1

theorem entry0 (c : Dev nD) : V m c main_v2 = rows (A0 m c) (A1 m c) := by
  simp only [V, hostOps0]
  after_results
  change stack _ _ _ = stack _ _ _
  congr 1
theorem entry2 (c : Dev nD) : V m c main_v4 = padded (A3 m c) := by
  entry_read
  rfl

theorem blk0 (c : Dev nD) (t : Fin cfg0.N) : iblk m c 0 t = rows (A0 m c) (A1 m c) := by
  have e := entry0 m c
  generalize rows (A0 m c) (A1 m c) = X at e ⊢
  funext i
  idx_vars i
  blk_point [iblk, e, idx t]
theorem blk1 (c : Dev nD) (t : Fin cfg0.N) : iblk m c 1 t = A2 m c := by
  funext i
  idx_vars i
  blk_point [iblk, V, A2, idx t]
theorem blk2 (c : Dev nD) (t : Fin cfg0.N) : iblk m c 2 t = padded (A3 m c) := by
  have e := entry2 m c
  generalize padded (A3 m c) = X at e ⊢
  funext i
  idx_vars i
  blk_point [iblk, e, idx t]
theorem blk3 (c : Dev nD) (t : Fin cfg0.N) : iblk m c 3 t = A4 m c := by
  funext i
  idx_vars i
  blk_point [iblk, V, A4, idx t]

theorem emb4 (X : FVec Ideal S2x1024x1536 .f32) (t : Fin cfg0.N) (y : S2x1024x1536.Idx) :
    X ((win0_4.blk t).view.emb y) = X y := by
  idx_vars y
  blk_point [idx t]
theorem emb5 (X : FVec Ideal S1x1024 .f32) (t : Fin cfg0.N) (y : S1x1024.Idx) :
    X ((win0_5.blk t).view.emb y) = X y := by
  idx_vars y
  blk_point [idx t]

/-- One row of the second factor: the row's gradient, and at row 32 the devices' sum. -/
def second (g : EReal) (k : ℕ) (s : EReal) : EReal := g + Scalar.select (IntOp.cmpi .eq (BitVec.ofNat 32 k) 32#32) s 0

theorem pay12 (x : Vec Ideal S40x1024 .f32) (v54 v56 v59 v62 v65 v68 v71 v74 : Vec Ideal S1x1x1x1536 .f32)
    (g : Vec Ideal S1x40x1536 .f32) (a : Fin 1024) (b : Fin 1536) :
    k0_pay12 (k0_pay3 x) k0_pay4 (k0_pay10 v54 v56) v59 v62 v65 v68 v71 v74 g (ix2 a b)
      = ∑ k : Fin 40, silu (x (ix2 k a)) * second (g (ix3 (0 : Fin 1) k b)) k.val (k0_pay11 (k0_pay10 v54 v56) v59 v62 v65 v68 v71 v74 (ix2 (0 : Fin 1) b)) := by
  pointwise [k0_pay12, k0_pay3, k0_pay4, silu, second]

theorem reference37 (x : FVec Ideal S32x1024 .f32) (s : FVec Ideal S1024 .f32) (g : FVec Ideal S2x32x1536 .f32)
    (d : FVec Ideal S8x2x1x1536 .f32) : Cert.Reference34Ideal.Read.val_main_v37 (F := Ideal) x s g d = weights x s g d := by
  rw [← Cert.Reference34Ideal.Read.val_main_v37_eq]
  funext i
  idx_vars i
  pointwise [weights, shared, silu, zero_sub]
  obtain rfl | rfl := (by decide : ∀ a : Fin 2, a = 0 ∨ a = 1) i0
  · rw [dif_pos (by decide)]
    refine (add_comm _ _).trans (congrArg₂ (· + ·) (Finset.sum_congr rfl fun _ _ => mul_comm _ _) ?_)
    exact (Fin.sum_univ_one _).trans (mul_comm _ _)
  · rw [dif_neg (by decide)]
    refine (add_comm _ _).trans (congrArg₂ (· + ·) (Finset.sum_congr rfl fun _ _ => mul_comm _ _) ?_)
    exact (Fin.sum_univ_one _).trans (mul_comm _ _)

theorem reference38 (w : FVec Ideal S2x1024x1536 .f32) (d : FVec Ideal S8x2x1x1536 .f32) :
    Cert.Reference34Ideal.Read.val_main_v38 (F := Ideal) w d = context w d := by
  rw [← Cert.Reference34Ideal.Read.val_main_v38_eq]
  funext i
  pointwise [context, shared]

theorem final5 (c : Dev nD) : (dats m 0 c).arrAt 5 cfg0.N = context (A2 m c) (A4 m c) := by
  refine (dats m 0 c).arrAt_eq_of_covers 5 _ (by decide +kernel) fun t hf y => ?_
  blk_simp
  refine Eq.trans ?_ (emb5 _ t y).symm
  rw [after0_5, blk0, blk1, blk2, blk3]
  generalize A4 m c = D
  generalize A2 m c = W
  unfold_out out0_5
  frame_out
  pointwise [k0_pay2, k0_pay9, k0_pay5, k0_pay6, k0_pay7, k0_pay10, k0_pay11, context, shared]
  simp only [Fin.sum_univ_eight]

theorem second_other (g s : EReal) (k : Fin 40) (h : k.val ≠ 32) : second g k.val s = g := by
  unfold second
  rw [(by decide : ∀ k : Fin 40, k.val ≠ 32 → IntOp.cmpi .eq (BitVec.ofNat 32 k.val) 32#32 = 0#1) k h]
  exact add_zero g

theorem second_context (g s : EReal) (k : Fin 40) (h : k.val = 32) : second g k.val s = g + s := by
  unfold second
  rw [(by decide : ∀ k : Fin 40, k.val = 32 → IntOp.cmpi .eq (BitVec.ofNat 32 k.val) 32#32 = 1#1) k h]
  rfl

theorem rows_batch (x : FVec Ideal S32x1024 .f32) (s : FVec Ideal S1024 .f32) (k : Fin 40) (a : Fin 1024) (h : k.val < 32) :
    rows x s (ix2 k a) = x (ix2 ⟨k.val, h⟩ a) := by
  pointwise [rows, stack]
  rw [dif_pos h]

theorem rows_context (x : FVec Ideal S32x1024 .f32) (s : FVec Ideal S1024 .f32) (k : Fin 40) (a : Fin 1024) (h : k.val = 32) :
    rows x s (ix2 k a) = s (ix1 a) := by
  pointwise [rows, stack]
  rw [dif_neg (by omega), dif_pos (by omega)]

theorem rows_rest (x : FVec Ideal S32x1024 .f32) (s : FVec Ideal S1024 .f32) (k : Fin 40) (a : Fin 1024) (h : 32 < k.val) :
    rows x s (ix2 k a) = 0 := by
  pointwise [rows, stack]
  rw [dif_neg (by omega), dif_neg (by omega)]

theorem padded_batch (g : FVec Ideal S2x32x1536 .f32) (l : Fin 2) (k : Fin 40) (b : Fin 1536) (h : k.val < 32) :
    padded g (ix3 l k b) = g (ix3 l ⟨k.val, h⟩ b) := by
  pointwise [padded]
  rw [dif_pos h]

theorem padded_rest (g : FVec Ideal S2x32x1536 .f32) (l : Fin 2) (k : Fin 40) (b : Fin 1536) (h : 32 ≤ k.val) :
    padded g (ix3 l k b) = 0 := by
  pointwise [padded]
  rw [dif_neg (by omega)]

theorem silu_zero : silu 0 = 0 := zero_mul _

/-- The product over the forty rows: the zeros add nothing. -/
theorem sum40 (x : FVec Ideal S32x1024 .f32) (s : FVec Ideal S1024 .f32) (g : FVec Ideal S2x32x1536 .f32)
    (d : FVec Ideal S8x2x1x1536 .f32) (l : Fin 2) (a : Fin 1024) (b : Fin 1536) :
    ∑ k : Fin 40, silu (rows x s (ix2 k a)) * second (padded g (ix3 l k b)) k.val (shared d l b) = weights x s g d (ix3 l a b) := by
  refine (Fin.sum_univ_add (a := 32) (b := 8) _).trans (congrArg₂ (· + ·) (Finset.sum_congr rfl fun r _ => ?_) ?_)
  · rw [rows_batch _ _ _ _ r.isLt, padded_batch _ _ _ _ r.isLt, second_other _ _ _ (by have := r.isLt; simp; omega)]
    rfl
  · refine (Fin.sum_univ_succ _).trans ?_
    rw [Finset.sum_eq_zero fun k _ => ?_, add_zero]
    · rw [rows_context _ _ _ _ (by simp), padded_rest _ _ _ _ (by simp), second_context _ _ _ (by simp), zero_add]
      rfl
    · rw [rows_rest _ _ _ _ (by simp), silu_zero, zero_mul]

theorem final4 (c : Dev nD) : (dats m 0 c).arrAt 4 cfg0.N = weights (A0 m c) (A1 m c) (A3 m c) (A4 m c) := by
  refine (dats m 0 c).arrAt_eq_of_covers 4 _ (by decide +kernel) fun t hf y => ?_
  blk_simp
  refine Eq.trans ?_ (emb4 _ t y).symm
  rw [after0_4, blk0, blk1, blk2, blk3]
  idx_vars y
  rw [← sum40]
  generalize A4 m c = D
  generalize A2 m c = W
  generalize rows (A0 m c) (A1 m c) = R
  generalize padded (A3 m c) = P
  unfold_out out0_4
  canon_tiles x h
  · pointwise [k0_pay1, k0_pay3, k0_pay4, k0_pay6, k0_pay10, k0_pay11, k0_pay12, shared, silu, second]
    obtain rfl : y0 = 1 := Fin.ext (h0.trans (by simpa using x0_lt))
    obtain rfl : y1 = x 1 := Fin.ext h1
    obtain rfl : y2 = x 2 := Fin.ext h2
    simp only [Fin.sum_univ_eight]
  · pointwise [k0_pay8, k0_pay3, k0_pay4, k0_pay6, k0_pay7, shared, silu, second]
    obtain rfl : y0 = 0 := Fin.ext (h0.trans (by simpa using x0_lt))
    obtain rfl : y1 = x 1 := Fin.ext h1
    obtain rfl : y2 = x 2 := Fin.ext h2
    simp only [Fin.sum_univ_eight]

/-- The reference finishes and leaves its arguments as they were. -/
theorem reference_frame : Cert.quiescent_Reference34Ideal := fun m g _ =>
  (θ_run Cert.Reference34Ideal.defs _ _).mono (fun r h => ⟨fun c => (h c).2.2, sem_eq_zero_of_no_sems (by decide) r.2⟩)
    (Cert.Reference34Ideal.Value.run m g)

/-- The kernel and the reference compute the same arrays over the reals. -/
theorem algebraic : Cert.algebraic_Kernel34Ideal_Reference34Ideal := by
  intro m g m' g' _ same
  refine ⟨_, _, Value.run_blocks m g, θ_run_mono (Cert.Reference34Ideal.Value.run m' g') fun r h c => ?_⟩
  obtain ⟨hw, hc, kept⟩ := h c
  obtain ⟨ex, es, ew, eg, ed⟩ := same c
  rw [ex, es, eg, ed] at hw
  rw [ew, ed] at hc
  exact ⟨hw.trans ((Cert.Reference34Ideal.Read.val_main_v37_eq _ _ _ _).trans ((reference37 _ _ _ _).trans (final4 m c).symm)),
    hc.trans ((Cert.Reference34Ideal.Read.val_main_v38_eq _ _).trans ((reference38 _ _).trans (final5 m c).symm)), kept⟩

end Cert.Kernel34Ideal.Mod

end
-- ==== Proof.Mod.Offset.lean ====
module

public import proofs.«01_k».proof.Defs
public import proofs.«01_k».proof.Proof.Gen.Kernel35Ideal.Value
public import proofs.«01_k».proof.Proof.Gen.Reference35Ideal.Run
public import proofs.«01_k».proof.Proof.Gen.Reference35Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init
public import proofs.«01_k».proof.Proof.Finite

/-! The gradients of the modulation's offset and of the context's vector. -/

@[expose] public section

set_option maxRecDepth 16384

noncomputable section

namespace Cert.Kernel35Ideal.Mod

open Idealize.ShloMosaic Idealize.ShloMosaic.TcCoe Idealize.SL.Sem
open Cert.Kernel35Ideal Cert.Kernel35Ideal.Gen Cert.Reals
open Idealize.ShloMosaic.Pipeline (Dat)

variable (m : (ℓ : Loc nD τ sig) → Buf (Elt Ideal) ℓ)

def A0 (c : Dev nD) := (m ((c : Thread nD τ).loc main_arg0) : FVec Ideal S8x2x8x6144 .f32)
def A1 (c : Dev nD) := (m ((c : Thread nD τ).loc main_arg1) : FVec Ideal S4x1x1024 .f32)
def A2 (c : Dev nD) := (m ((c : Thread nD τ).loc main_arg2) : FVec Ideal S1024 .f32)

theorem idx : ∀ t : Fin cfg0.N, win0_0.index t = ![0, 0, 0, 0] ∧ win0_1.index t = ![0, 0, 0] ∧ win0_2.index t = ![0, 0]
    ∧ win0_3.index t = ![0, 0] ∧ win0_4.index t = ![0, 0] :=
  (by decide +kernel : ∀ t : Fin grid0.N, _)

/-- The offset's gradient: the sum over the devices and their rows. -/
def offsets (d : FVec Ideal S8x2x8x6144 .f32) : FVec Ideal S2x6144 .f32 := fun i =>
  ∑ q : Fin 8, ∑ r : Fin 8, d (ix4 q (i 0) r (i 1))

/-- The sum of the devices' parts. -/
def total (g : FVec Ideal S4x1x1024 .f32) (k : Fin 1024) : EReal := ∑ q : Fin 4, g (ix3 q (0 : Fin 1) k)

def logistic (x : EReal) : EReal := Ideal.div 1 (1 + Ideal.exp (0 - x))

/-- The context's gradient: the sum of the parts times the derivative of silu. -/
def context (g : FVec Ideal S4x1x1024 .f32) (x : FVec Ideal S1024 .f32) : FVec Ideal S1x1024 .f32 := fun i =>
  total g (i 1) * (logistic (x (ix1 (i 1))) * (1 + x (ix1 (i 1)) * (1 - logistic (x (ix1 (i 1))))))

/-- A vector as one row. -/
def asRow (x : FVec Ideal S1024 .f32) : FVec Ideal S1x1024 .f32 := broadcastInDim S1x1024 ![1] bcast_S1024_S1x1024_1 x

theorem entry2 (c : Dev nD) : V m c main_v0 = asRow (A2 m c) := by
  entry_read
  rfl

theorem blk0 (c : Dev nD) (t : Fin cfg0.N) : iblk m c 0 t = A0 m c := by
  funext i
  idx_vars i
  blk_point [iblk, V, A0, idx t]
theorem blk1 (c : Dev nD) (t : Fin cfg0.N) : iblk m c 1 t = A1 m c := by
  funext i
  idx_vars i
  blk_point [iblk, V, A1, idx t]
theorem blk2 (c : Dev nD) (t : Fin cfg0.N) : iblk m c 2 t = asRow (A2 m c) := by
  have e := entry2 m c
  generalize asRow (A2 m c) = X at e ⊢
  funext i
  idx_vars i
  blk_point [iblk, e, idx t]

theorem emb3 (X : FVec Ideal S2x6144 .f32) (t : Fin cfg0.N) (y : S2x6144.Idx) :
    X ((win0_3.blk t).view.emb y) = X y := by
  idx_vars y
  blk_point [idx t]
theorem emb4 (X : FVec Ideal S1x1024 .f32) (t : Fin cfg0.N) (y : S1x1024.Idx) :
    X ((win0_4.blk t).view.emb y) = X y := by
  idx_vars y
  blk_point [idx t]

/-- The eight devices' sums, spelt out for one element. -/
theorem row (d : FVec Ideal S8x2x8x6144 .f32) {a a' : Fin 2} {b b' : Fin 6144} (ha : a = a') (hb : b = b') :
    ∑ q : Fin 8, ∑ r : Fin 8, d (ix4 q a r b) = ∑ r : Fin 8, d (ix4 (0 : Fin 8) a' r b') + ∑ r : Fin 8, d (ix4 (1 : Fin 8) a' r b')
      + ∑ r : Fin 8, d (ix4 (2 : Fin 8) a' r b') + ∑ r : Fin 8, d (ix4 (3 : Fin 8) a' r b')
      + ∑ r : Fin 8, d (ix4 (4 : Fin 8) a' r b') + ∑ r : Fin 8, d (ix4 (5 : Fin 8) a' r b')
      + ∑ r : Fin 8, d (ix4 (6 : Fin 8) a' r b') + ∑ r : Fin 8, d (ix4 (7 : Fin 8) a' r b') := by
  subst ha hb
  rw [Fin.sum_univ_eight]

theorem final3 (c : Dev nD) : (dats m 0 c).arrAt 3 cfg0.N = offsets (A0 m c) := by
  refine (dats m 0 c).arrAt_eq_of_covers 3 _ (by decide +kernel) fun t hf y => ?_
  blk_simp
  refine Eq.trans ?_ (emb3 _ t y).symm
  rw [after0_3, blk0]
  generalize A0 m c = D
  unfold out0_3
  canon_tiles x h
  · pointwise [k0_pay6, k0_pay5, k0_pay4, offsets]
    exact (row D (Fin.ext (by omega)) (Fin.ext h1)).symm
  · pointwise [k0_pay3, k0_pay2, offsets]
    exact (row D (Fin.ext (by omega)) (Fin.ext h1)).symm

theorem final4 (c : Dev nD) : (dats m 0 c).arrAt 4 cfg0.N = context (A1 m c) (A2 m c) := by
  refine (dats m 0 c).arrAt_eq_of_covers 4 _ (by decide +kernel) fun t hf y => ?_
  blk_simp
  refine Eq.trans ?_ (emb4 _ t y).symm
  rw [after0_4]
  frame_out
  idx_vars y
  pointwise [k0_pay1, k0_pay7, context, total, blk1, blk2, asRow, logistic]
  rw [Fin.sum_univ_four]

/-- The two spellings of the derivative of silu agree against a real factor. -/
theorem slope {s : EReal} (hs : IsReal s) (x : EReal) :
    s * Ideal.div 1 (1 + Ideal.exp (-x)) + x * s * (Ideal.div 1 (1 + Ideal.exp (-x)) * (1 - Ideal.div 1 (1 + Ideal.exp (-x))))
      = s * (logistic x * (1 + x * (1 - logistic x))) := by
  have e : Ideal.div 1 (1 + Ideal.exp (-x)) = logistic x := by rw [logistic, zero_sub]
  rw [e]
  clear e
  obtain ⟨a, rfl⟩ := hs
  unfold logistic
  induction x with
  | bot => rw [logistic_bot]; simp
  | top =>
    rw [logistic_top]
    have z : (1 : EReal) - 1 = 0 := by rw [← EReal.coe_one, ← EReal.coe_sub, sub_self, EReal.coe_zero]
    rw [z]
    simp
  | coe r =>
    rw [logistic_coe]
    generalize (1 / (1 + Real.exp (-r)) : ℝ) = l
    norm_cast
    ring

theorem reference5 (d : FVec Ideal S8x2x8x6144 .f32) : Cert.Reference35Ideal.Read.val_main_v5 (F := Ideal) d = offsets d := by
  rw [← Cert.Reference35Ideal.Read.val_main_v5_eq]
  funext i
  pointwise [offsets]

theorem reference6 (g : FVec Ideal S4x1x1024 .f32) (x : FVec Ideal S1024 .f32) (real : ∀ i, IsReal (g i)) :
    Cert.Reference35Ideal.Read.val_main_v6 (F := Ideal) g x = context g x := by
  rw [← Cert.Reference35Ideal.Read.val_main_v6_eq]
  funext i
  pointwise [context, total, zero_sub]
  exact slope (IsReal.sum _ _ fun _ => real _) _

/-- The reference finishes and leaves its arguments as they were. -/
theorem reference_frame : Cert.quiescent_Reference35Ideal := fun m g _ =>
  (θ_run Cert.Reference35Ideal.defs _ _).mono (fun r h => ⟨fun c => (h c).2.2, sem_eq_zero_of_no_sems (by decide) r.2⟩)
    (Cert.Reference35Ideal.Value.run m g)

/-- The kernel and the reference compute the same arrays over the reals. -/
theorem algebraic [Cert.Pre_finite35.Facts] : Cert.algebraic_Kernel35Ideal_Reference35Ideal_pre_finite35 := by
  intro m g m' g' pre same
  refine ⟨_, _, Value.run_blocks m g, θ_run_mono (Cert.Reference35Ideal.Value.run m' g') fun r h c => ?_⟩
  obtain ⟨hb, hc, kept⟩ := h c
  obtain ⟨ed, eg, ex⟩ := same c
  rw [ed] at hb
  rw [eg, ex] at hc
  exact ⟨hb.trans ((Cert.Reference35Ideal.Read.val_main_v5_eq _).trans ((reference5 _).trans (final3 m c).symm)),
    hc.trans ((Cert.Reference35Ideal.Read.val_main_v6_eq _ _).trans
      ((reference6 _ _ (Cert.Finite.isReal_args35 _ _ _ (pre c))).trans (final4 m c).symm)), kept⟩

end Cert.Kernel35Ideal.Mod

end
-- ==== Proof.Norm.Formula.lean ====
module

public import Idealize.ShloMosaic.Lib.Pointwise
public import Idealize.ShloMosaic.PureOps.Ideal

/-! The gradient of a modulated root-mean-square norm, row by row, and the sums over the rows of a sequence. -/

@[expose] public section

noncomputable section

namespace Cert.Norm

open Idealize.ShloMosaic

/-- The row of place `i` in token block `r` of sequence `b`. -/
abbrev row (r : Fin 9) (b : Fin 4) (i : Fin 256) : Fin 9216 := ⟨(r.val * 4 + b.val) * 256 + i.val, by omega⟩

/-- The token block and the sequence of a row. -/
abbrev blockOf (n : Fin 9216) : Fin 9 := ⟨n.val / 1024, by omega⟩
abbrev seqOf (n : Fin 9216) : Fin 4 := ⟨n.val / 256 % 4, by omega⟩

/-- The row of the modulation that token block `r` of sequence `b` takes: the context's in the first block. -/
def modRow (r : Fin 9) (b : Fin 4) : Fin 8 := if r.val = 0 then 4 else ⟨b.val, by omega⟩

/-- One more than the scale of token block `r` of sequence `b`. -/
def gainOf (M : (⟨2, ![8, 6144]⟩ : Shape).Idx → EReal) (r : Fin 9) (b : Fin 4) (k : Fin 1024) : EReal :=
  1 + M (ix2 (modRow r b) ⟨1024 + k.val, by omega⟩)

def scaleOf (M : (⟨2, ![8, 6144]⟩ : Shape).Idx → EReal) (n : Fin 9216) (k : Fin 1024) : EReal := gainOf M (blockOf n) (seqOf n) k

theorem blockOf_row (r : Fin 9) (b : Fin 4) (i : Fin 256) : blockOf (row r b i) = r := Fin.ext (by dsimp; omega)
theorem seqOf_row (r : Fin 9) (b : Fin 4) (i : Fin 256) : seqOf (row r b i) = b := Fin.ext (by dsimp; omega)

theorem scaleOf_row (M : (⟨2, ![8, 6144]⟩ : Shape).Idx → EReal) (r : Fin 9) (b : Fin 4) (i : Fin 256) (k : Fin 1024) :
    scaleOf M (row r b i) k = gainOf M r b k := by
  unfold scaleOf
  rw [blockOf_row, seqOf_row]

def width : EReal := Ideal.ofBits .f32 0x44800000#32
def eps : EReal := Ideal.ofBits .f32 0x358637BD#32
def minusHalf : EReal := Ideal.ofBits .f32 0xBF000000#32

section Row

variable (X H D : Fin 9216 → Fin 1024 → EReal) (g : Fin 1024 → EReal) (S : Fin 9216 → Fin 1024 → EReal)

/-- The mean square of a row, the small number added; its reciprocal root; the normalised row. -/
def level (n : Fin 9216) : EReal := Ideal.div (∑ k, X n k * X n k) width + eps
def root (n : Fin 9216) : EReal := Ideal.rsqrt (level X n)
def hat (n : Fin 9216) (k : Fin 1024) : EReal := X n k * root X n

/-- The gradient of the normalised row. -/
def dhat (n : Fin 9216) (k : Fin 1024) : EReal := H n k * (g k * S n k)

/-- The gradient of the row: the part along the normalised row is taken out. -/
def dx (n : Fin 9216) (k : Fin 1024) : EReal :=
  D n k + root X n * (dhat H g S n k - hat X n k * Ideal.div (∑ x, dhat H g S n x * hat X n x) width)

/-- The same by the chain rule through the mean square. -/
def pull (n : Fin 9216) : EReal :=
  Ideal.div ((∑ x, X n x * (H n x * S n x * g x)) * (minusHalf * Ideal.div (root X n) (level X n))) width
def dxChain (n : Fin 9216) (k : Fin 1024) : EReal :=
  D n k + H n k * S n k * g k * root X n + X n k * pull X H g S n + pull X H g S n * X n k

/-- What a row gives to the gradients of the scale and of the gain. -/
def dscale (n : Fin 9216) (k : Fin 1024) : EReal := H n k * (hat X n k * g k)
def dgain (n : Fin 9216) (k : Fin 1024) : EReal := H n k * S n k * hat X n k

end Row

/-- The sum over the places of token block `r` of sequence `b`. -/
def blockSum (G : Fin 9216 → Fin 1024 → EReal) (k : Fin 1024) (r : Fin 9) (b : Fin 4) : EReal := ∑ i, G (row r b i) k

/-- The modulation's rows: a sequence's own row collects its later blocks, the context's row collects the first blocks. -/
def total (T : Fin 9 → Fin 4 → EReal) (q : Fin 8) : EReal :=
  (if q.val < 4 then ∑ r : Fin 8, T r.succ ⟨q.val % 4, by omega⟩ else 0) + (if q.val = 4 then ∑ b, T 0 b else 0)

/-- What step `t` adds to row `q`. -/
def part (T : Fin 9 → Fin 4 → EReal) (t : Fin 18) (q : Fin 8) : EReal :=
  if t.val % 9 = 0 then (if q.val = 4 then ∑ s : Fin 2, T ⟨t.val % 9, by omega⟩ ⟨t.val / 9 * 2 + s.val, by omega⟩ else 0)
  else if t.val / 9 * 2 ≤ q.val ∧ q.val < t.val / 9 * 2 + 2 then T ⟨t.val % 9, by omega⟩ ⟨q.val % 4, by omega⟩ else 0

theorem sum_eighteen (f : Fin 18 → EReal) : ∑ t, f t = f 0 + (f 1 + (f 2 + (f 3 + (f 4 + (f 5 + (f 6 + (f 7 + (f 8
    + (f 9 + (f 10 + (f 11 + (f 12 + (f 13 + (f 14 + (f 15 + (f 16 + f 17)))))))))))))))) := by
  simp only [Fin.sum_univ_succ, Fin.sum_univ_zero, add_zero]
  rfl

theorem sum_eight (f : Fin 8 → EReal) :
    ∑ t, f t = f 0 + (f 1 + (f 2 + (f 3 + (f 4 + (f 5 + (f 6 + f 7)))))) := by
  simp only [Fin.sum_univ_succ, Fin.sum_univ_zero, add_zero]
  rfl

theorem part_zero (T : Fin 9 → Fin 4 → EReal) (t : Fin 18) (q : Fin 8) (h : t.val % 9 = 0) : part T t q
    = if q.val = 4 then ∑ s : Fin 2, T ⟨t.val % 9, by omega⟩ ⟨t.val / 9 * 2 + s.val, by omega⟩ else 0 := if_pos h

theorem part_pos (T : Fin 9 → Fin 4 → EReal) (t : Fin 18) (q : Fin 8) (h : ¬t.val % 9 = 0) : part T t q
    = if t.val / 9 * 2 ≤ q.val ∧ q.val < t.val / 9 * 2 + 2 then T ⟨t.val % 9, by omega⟩ ⟨q.val % 4, by omega⟩ else 0 := if_neg h

/-- A step of a first block gives to the context's row alone. -/
theorem part_first (T : Fin 9 → Fin 4 → EReal) (q : Fin 8) :
    part T 0 q + part T 9 q = if q.val = 4 then ∑ b, T 0 b else 0 := by
  rw [part_zero T 0 q rfl, part_zero T 9 q rfl]
  by_cases h : q.val = 4
  · rw [if_pos h, if_pos h, if_pos h, Fin.sum_univ_two, Fin.sum_univ_two, Fin.sum_univ_four, add_assoc (T 0 0 + T 0 1)]
    rfl
  · rw [if_neg h, if_neg h, if_neg h, add_zero]

/-- The two steps of a later block give together one block to each sequence's own row. -/
theorem part_later (T : Fin 9 → Fin 4 → EReal) (r : Fin 8) (q : Fin 8) :
    part T ⟨r.val + 1, by omega⟩ q + part T ⟨r.val + 10, by omega⟩ q
      = if q.val < 4 then T r.succ ⟨q.val % 4, by omega⟩ else 0 := by
  have e : (⟨(r.val + 1) % 9, by omega⟩ : Fin 9) = r.succ := Fin.ext (by show (r.val + 1) % 9 = r.val + 1; omega)
  have e' : (⟨(r.val + 10) % 9, by omega⟩ : Fin 9) = r.succ := Fin.ext (by show (r.val + 10) % 9 = r.val + 1; omega)
  have d : (r.val + 1) / 9 = 0 := by omega
  have d' : (r.val + 10) / 9 = 1 := by omega
  rw [part_pos T _ q (by show ¬(r.val + 1) % 9 = 0; omega), part_pos T _ q (by show ¬(r.val + 10) % 9 = 0; omega)]
  dsimp only
  rw [e, e', d, d']
  by_cases h : q.val < 2
  · rw [if_pos (by omega), if_neg (by omega), if_pos (by omega), add_zero]
  · by_cases h' : q.val < 4
    · rw [if_neg (by omega), if_pos (by omega), if_pos (by omega), zero_add]
    · rw [if_neg (by omega), if_neg (by omega), if_neg (by omega), add_zero]

theorem sum_part (T : Fin 9 → Fin 4 → EReal) (q : Fin 8) : ∑ t, part T t q = total T q := by
  have h : ∑ t, part T t q = ∑ r : Fin 8, (part T ⟨r.val + 1, by omega⟩ q + part T ⟨r.val + 10, by omega⟩ q)
      + (part T 0 q + part T 9 q) := by
    rw [sum_eighteen, sum_eight]
    show part T 0 q + (part T 1 q + (part T 2 q + (part T 3 q + (part T 4 q + (part T 5 q + (part T 6 q + (part T 7 q + (part T 8 q
      + (part T 9 q + (part T 10 q + (part T 11 q + (part T 12 q + (part T 13 q + (part T 14 q + (part T 15 q
      + (part T 16 q + part T 17 q))))))))))))))))
      = (part T 1 q + part T 10 q + (part T 2 q + part T 11 q + (part T 3 q + part T 12 q + (part T 4 q + part T 13 q
      + (part T 5 q + part T 14 q + (part T 6 q + part T 15 q + (part T 7 q + part T 16 q + (part T 8 q + part T 17 q))))))))
      + (part T 0 q + part T 9 q)
    ac_rfl
  rw [h, part_first, total]
  refine congrArg (· + _) ?_
  rw [Finset.sum_congr rfl fun r _ => part_later T r q]
  by_cases hq : q.val < 4
  · simp only [if_pos hq]
  · simp only [if_neg hq, Finset.sum_const_zero]

/-- Steps and their places number the rows. -/
def places : Fin 18 × Fin 512 ≃ Fin 9216 where
  toFun p := ⟨(p.1.val % 9 * 2 + p.1.val / 9) * 512 + p.2.val, by omega⟩
  invFun n := (⟨n.val / 512 % 2 * 9 + n.val / 512 / 2, by omega⟩, ⟨n.val % 512, by omega⟩)
  left_inv p := by
    have h : ((p.1.val % 9 * 2 + p.1.val / 9) * 512 + p.2.val) / 512 = p.1.val % 9 * 2 + p.1.val / 9 := by omega
    refine Prod.ext (Fin.ext ?_) (Fin.ext (by dsimp; omega))
    dsimp only
    rw [h]
    omega
  right_inv n := by
    have h : n.val / 512 / 2 < 9 := by omega
    have h1 : (n.val / 512 % 2 * 9 + n.val / 512 / 2) % 9 = n.val / 512 / 2 := by omega
    have h2 : (n.val / 512 % 2 * 9 + n.val / 512 / 2) / 9 = n.val / 512 % 2 := by omega
    refine Fin.ext ?_
    dsimp only
    rw [h1, h2]
    omega

theorem sum_places (G : Fin 9216 → EReal) : ∑ t : Fin 18, ∑ x : Fin 512, G (places (t, x)) = ∑ n, G n := by
  rw [← places.sum_comp G, Fintype.sum_prod_type]

end Cert.Norm

end
-- ==== Proof.Norm.Blocks.lean ====
module

public import proofs.«01_k».proof.Defs
public import proofs.«01_k».proof.Proof.Gen.Kernel36Ideal.Value
public import Idealize.ShloMosaic.Lib.Pipeline.ValueKit
public import Idealize.ShloMosaic.Lib.Pipeline.ReadBack
public import Idealize.ShloMosaic.Lib.Pointwise
public import proofs.«01_k».proof.Proof.Norm.Formula

/-! The blocks of the arguments that one step of the modulated norm's gradient reads. -/

@[expose] public section

set_option maxRecDepth 16384

noncomputable section

namespace Cert.Kernel36Ideal.Norm

open Idealize.ShloMosaic Idealize.ShloMosaic.TcCoe Idealize.SL.Sem
open Cert.Kernel36Ideal Cert.Kernel36Ideal.Gen
open Idealize.ShloMosaic.Pipeline (Dat)
open Cert.Norm

variable (m : (ℓ : Loc nD τ sig) → Buf (Elt Ideal) ℓ)

theorem idx : ∀ t : Fin cfg0.N, win0_0.index t = ![t.val % 9 * 2 + t.val / 9, 0] ∧ win0_1.index t = ![t.val % 9 * 2 + t.val / 9, 0]
    ∧ win0_2.index t = ![t.val % 9 * 2 + t.val / 9, 0] ∧ win0_3.index t = ![0, 0]
    ∧ win0_4.index t = ![t.val % 9 * 6 + 1, t.val / 9, 0, 0] ∧ win0_5.index t = ![t.val / 9, t.val % 9 - 1, 0, 0]
    ∧ win0_6.index t = ![0, 0, 0] ∧ win0_7.index t = ![0, 0, 0] ∧ win0_8.index t = ![0, 0] :=
  (by decide +kernel : ∀ t : Fin grid0.N, _)

def A0 (c : Dev nD) := (m ((c : Thread nD τ).loc main_arg0) : FVec Ideal S9216x1024 .f32)
def A1 (c : Dev nD) := (m ((c : Thread nD τ).loc main_arg1) : FVec Ideal S9216x1024 .bf16)
def A2 (c : Dev nD) := (m ((c : Thread nD τ).loc main_arg2) : FVec Ideal S9216x1024 .f32)
def A3 (c : Dev nD) := (m ((c : Thread nD τ).loc main_arg3) : FVec Ideal S1024 .f32)
def A4 (c : Dev nD) := (m ((c : Thread nD τ).loc main_arg4) : FVec Ideal S8x6144 .f32)

theorem lt (t : Fin cfg0.N) : t.val < 18 := t.isLt

/-- The token block of step `t`, and the sequence of its place `s`. -/
abbrev tok (t : Fin cfg0.N) : Fin 9 := ⟨t.val % 9, by omega⟩
abbrev seq (t : Fin cfg0.N) (s : Fin 2) : Fin 4 := ⟨t.val / 9 * 2 + s.val, by have := lt t; omega⟩

abbrev place (s : Fin 2) (i : Fin 256) : Fin 512 := ⟨s.val * 256 + i.val, by omega⟩

theorem blk0 (c : Dev nD) (t : Fin cfg0.N) (s : Fin 2) (i : Fin 256) (k : Fin 1024) :
    iblk m c 0 t (ix2 (place s i) k) = A0 m c (ix2 (row (tok t) (seq t s) i) k) := by
  blk_point [iblk, V, A0, idx t]

theorem blk1 (c : Dev nD) (t : Fin cfg0.N) (s : Fin 2) (i : Fin 256) (k : Fin 1024) :
    iblk m c 1 t (ix2 (place s i) k) = A1 m c (ix2 (row (tok t) (seq t s) i) k) := by
  blk_point [iblk, V, A1, idx t]

theorem blk2 (c : Dev nD) (t : Fin cfg0.N) (s : Fin 2) (i : Fin 256) (k : Fin 1024) :
    iblk m c 2 t (ix2 (place s i) k) = A2 m c (ix2 (row (tok t) (seq t s) i) k) := by
  blk_point [iblk, V, A2, idx t]

theorem entry3 (c : Dev nD) (k : Fin 1024) : V m c main_v0 (ix2 (0 : Fin 1) k) = A3 m c (ix1 k) := by
  entry_read
  pointwise [A3]

theorem blk3 (c : Dev nD) (t : Fin cfg0.N) (k : Fin 1024) : iblk m c 3 t (ix2 (0 : Fin 1) k) = A3 m c (ix1 k) := by
  refine Eq.trans ?_ (entry3 m c k)
  blk_point [iblk, idx t]

/-- Gathering whole rows: row `(r, b)` of the result is the row of the table whose number stands at `(r, b)`. -/
theorem gather_rows {α : Type} (X : S8x6144.Idx → α) (I : IVec S9x4x1 32) (r : Fin 9) (b : Fin 4) (j : Fin 6144) :
    Host.gather gather_S8x6144_S9x4x1_S9x4x6144_2_0_n_n_0_2_16144 X I (ix3 r b j)
      = X (ix2 (⟨min (I (ix3 r b (0 : Fin 1))).toInt.toNat 7, by omega⟩ : Fin 8) j) := by
  unfold Host.gather
  congr 1
  funext a
  refine Fin.ext ?_
  show GatherDims.start _ _ _ a + GatherDims.batchCoord _ _ a + GatherDims.offCoord _ _ a = _
  have h01 : a = 0 ∨ a = 1 := by
    match a with
    | ⟨0, _⟩ => exact Or.inl rfl
    | ⟨1, _⟩ => exact Or.inr rfl
  obtain rfl | rfl := h01
  · rw [GatherDims.batchCoord_eq_zero _ _ _ (fun h => by simp [gather_S8x6144_S9x4x1_S9x4x6144_2_0_n_n_0_2_16144] at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gather_S8x6144_S9x4x1_S9x4x6144_2_0_n_n_0_2_16144 from List.mem_singleton.mpr rfl)]
    have hsi : GatherDims.siIdx gather_S8x6144_S9x4x1_S9x4x6144_2_0_n_n_0_2_16144 (ix3 r b j) ⟨List.idxOf (0 : Fin 2) gather_S8x6144_S9x4x1_S9x4x6144_2_0_n_n_0_2_16144.startIndexMap, List.idxOf_lt_length_iff.2 (List.mem_singleton.mpr rfl)⟩ = ix3 r b (0 : Fin 1) := by
      funext a; refine Fin.ext ?_
      match a with
      | ⟨0, _⟩ => rfl
      | ⟨1, _⟩ => rfl
      | ⟨2, _⟩ => rfl
    rw [hsi]
    rfl
  · rw [GatherDims.batchCoord_eq_zero _ _ _ (fun h => by simp [gather_S8x6144_S9x4x1_S9x4x6144_2_0_n_n_0_2_16144] at h)]
    unfold GatherDims.start GatherDims.offCoord
    have h1 : (1 : Fin 2) ∉ GatherDims.startIndexMap gather_S8x6144_S9x4x1_S9x4x6144_2_0_n_n_0_2_16144 := by
      show (1 : Fin 2) ∉ [0]
      decide
    have h2 : (1 : Fin 2) ∈ GatherDims.sKept gather_S8x6144_S9x4x1_S9x4x6144_2_0_n_n_0_2_16144 :=
      (GatherDims.mem_sKept _ _).mpr ⟨h1, List.not_mem_nil⟩
    rw [dif_neg h1, dif_pos h2]
    simp only [Nat.zero_add]
    rfl

theorem entry4 (c : Dev nD) (r : Fin 9) (b : Fin 4) (k : Fin 1024) :
    V m c main_v8 (ix4 (⟨r.val * 6 + 1, by omega⟩ : Fin 54) b (0 : Fin 1) k) = A4 m c (ix2 (modRow r b) ⟨1024 + k.val, by omega⟩) := by
  entry_read
  pointwise [A4]
  rw [gather_rows]
  congr 1
  have h : ∀ (r : Fin 9) (b : Fin 4), min (BitVec.toInt (lit0 (S9x4.rowMajor (ix2 r b)))).toNat 7 = (modRow r b).val := by
    decide +kernel
  funext a
  refine Fin.ext ?_
  match a with
  | ⟨0, _⟩ => exact h r b
  | ⟨1, _⟩ => exact congrArg (· * 1024 + k.val) (by omega : (r.val * 6 + 1) % 6 = 1)

theorem blk4 (c : Dev nD) (t : Fin cfg0.N) (s : Fin 2) (k : Fin 1024) :
    iblk m c 4 t (ix4 (0 : Fin 1) s (0 : Fin 1) k) = A4 m c (ix2 (modRow (tok t) (seq t s)) ⟨1024 + k.val, by omega⟩) := by
  refine Eq.trans ?_ (entry4 m c (tok t) (seq t s) k)
  blk_point [iblk, idx t]

theorem emb5 (X : FVec Ideal S4x8x256x1024 .f32) (t : Fin cfg0.N) (y : S2x1x256x1024.Idx) :
    X ((win0_5.blk t).view.emb y) = X (ix4 (seq t (y 0)) ⟨t.val % 9 - 1, by omega⟩ (y 2) (y 3)) := by
  blk_point [idx t]

theorem emb6 (X : FVec Ideal S8x1x1024 .f32) (t : Fin cfg0.N) (y : S8x1x1024.Idx) : X ((win0_6.blk t).view.emb y) = X y := by
  idx_vars y
  blk_point [idx t]

theorem emb7 (X : FVec Ideal S8x1x1024 .f32) (t : Fin cfg0.N) (y : S8x1x1024.Idx) : X ((win0_7.blk t).view.emb y) = X y := by
  idx_vars y
  blk_point [idx t]

theorem emb8 (X : FVec Ideal S1x1024 .f32) (t : Fin cfg0.N) (y : S1x1024.Idx) : X ((win0_8.blk t).view.emb y) = X y := by
  idx_vars y
  blk_point [idx t]

end Cert.Kernel36Ideal.Norm

end
-- ==== Proof.Norm.Kernel.lean ====
module

public import proofs.«01_k».proof.Proof.Norm.Blocks
public import Idealize.ShloMosaic.Lib.WritesUnit

/-! What the kernel leaves: in each step the gradients of its rows, and over all steps the three sums. -/

@[expose] public section

set_option maxRecDepth 16384

noncomputable section

namespace Cert.Kernel36Ideal.Norm

open Idealize.ShloMosaic Idealize.ShloMosaic.TcCoe Idealize.SL.Sem
open Cert.Kernel36Ideal Cert.Kernel36Ideal.Gen
open Idealize.ShloMosaic.Pipeline (Dat)
open Cert.Norm

variable (m : (ℓ : Loc nD τ sig) → Buf (Elt Ideal) ℓ)

/-! The body's values, from the blocks it reads. -/

theorem pay3 (x : Vec Ideal S512x1024 .bf16) (s : Fin 2) (i : Fin 256) (k : Fin 1024) :
    k0_pay3 (F := Ideal) x (ix3 s i k) = x (ix2 (place s i) k) := by
  pointwise [k0_pay3]

theorem pay5 (x : Vec Ideal S1x2x1x1024 .f32) (s : Fin 2) (k : Fin 1024) :
    k0_pay5 (F := Ideal) x (ix3 s (0 : Fin 1) k) = 1 + x (ix4 (0 : Fin 1) s (0 : Fin 1) k) := by
  pointwise [k0_pay5]

theorem pay6 (x : Vec Ideal S512x1024 .f32) (s : Fin 2) (i : Fin 256) :
    k0_pay6 (F := Ideal) x (ix3 s i (0 : Fin 1))
      = Ideal.rsqrt (Ideal.div (∑ k, x (ix2 (place s i) k) * x (ix2 (place s i) k)) width + eps) := by
  pointwise [k0_pay6, k0_pay2, width, eps]

theorem pay7 (x : Vec Ideal S512x1024 .f32) (s : Fin 2) (i : Fin 256) (k : Fin 1024) :
    k0_pay7 (F := Ideal) x (ix3 s i k) = x (ix2 (place s i) k) * k0_pay6 (F := Ideal) x (ix3 s i (0 : Fin 1)) := by
  pointwise [k0_pay7, k0_pay2]

theorem pay8 (x : Vec Ideal S512x1024 .f32) (h : Vec Ideal S512x1024 .bf16) (g : Vec Ideal S1x1024 .f32) (z : Vec Ideal S1x2x1x1024 .f32)
    (d : Vec Ideal S512x1024 .f32) (s : Fin 2) (i : Fin 256) (k : Fin 1024) :
    k0_pay8 (F := Ideal) x h g z d (ix4 s (0 : Fin 1) i k)
      = d (ix2 (place s i) k) + k0_pay6 (F := Ideal) x (ix3 s i (0 : Fin 1))
        * (k0_pay3 (F := Ideal) h (ix3 s i k) * (g (ix2 (0 : Fin 1) k) * k0_pay5 (F := Ideal) z (ix3 s (0 : Fin 1) k))
          - k0_pay7 (F := Ideal) x (ix3 s i k)
            * Ideal.div (∑ j, k0_pay3 (F := Ideal) h (ix3 s i j) * (g (ix2 (0 : Fin 1) j) * k0_pay5 (F := Ideal) z (ix3 s (0 : Fin 1) j))
              * k0_pay7 (F := Ideal) x (ix3 s i j)) width) := by
  pointwise [k0_pay8, k0_pay4, width]

theorem pay13 (h : FVec Ideal S2x256x1024 .f32) (acc : Vec Ideal S1x1x1024 .f32) (k : Fin 1024) :
    k0_pay13 (F := Ideal) h acc (ix3 (0 : Fin 1) (0 : Fin 1) k) = acc (ix3 (0 : Fin 1) (0 : Fin 1) k) + ∑ s : Fin 2, ∑ i : Fin 256, h (ix3 s i k) := by
  pointwise [k0_pay13, k0_pay12]

theorem pay14 (h : FVec Ideal S2x256x1024 .f32) (acc : Vec Ideal S2x1x1024 .f32) (s : Fin 2) (k : Fin 1024) :
    k0_pay14 (F := Ideal) h acc (ix3 s (0 : Fin 1) k) = acc (ix3 s (0 : Fin 1) k) + ∑ i : Fin 256, h (ix3 s i k) := by
  pointwise [k0_pay14, k0_pay12]

theorem pay16 (h y : FVec Ideal S2x256x1024 .f32) (g : Vec Ideal S1x1024 .f32) (acc : Vec Ideal S1x1x1024 .f32) (k : Fin 1024) :
    k0_pay16 (F := Ideal) h (k0_pay4 g) y acc (ix3 (0 : Fin 1) (0 : Fin 1) k)
      = acc (ix3 (0 : Fin 1) (0 : Fin 1) k) + ∑ s : Fin 2, ∑ i : Fin 256, h (ix3 s i k) * (y (ix3 s i k) * g (ix2 (0 : Fin 1) k)) := by
  pointwise [k0_pay16, k0_pay15, k0_pay4]

theorem pay17 (h y : FVec Ideal S2x256x1024 .f32) (g : Vec Ideal S1x1024 .f32) (acc : Vec Ideal S2x1x1024 .f32) (s : Fin 2) (k : Fin 1024) :
    k0_pay17 (F := Ideal) h (k0_pay4 g) y acc (ix3 s (0 : Fin 1) k)
      = acc (ix3 s (0 : Fin 1) k) + ∑ i : Fin 256, h (ix3 s i k) * (y (ix3 s i k) * g (ix2 (0 : Fin 1) k)) := by
  pointwise [k0_pay17, k0_pay15, k0_pay4]

/-- The sequence of a step's row, and its place there. -/
abbrev half (x : Fin 512) : Fin 2 := ⟨x.val / 256, by omega⟩
abbrev rest (x : Fin 512) : Fin 256 := ⟨x.val % 256, by omega⟩

theorem pay19 (h y : FVec Ideal S2x256x1024 .f32) (z : FVec Ideal S2x1x1024 .f32) (k : Fin 1024) :
    k0_pay19 (F := Ideal) h z y (ix2 (0 : Fin 1) k)
      = ∑ x : Fin 512, h (ix3 (half x) (rest x) k) * z (ix3 (half x) (0 : Fin 1) k) * y (ix3 (half x) (rest x) k) := by
  pointwise [k0_pay19]

theorem pay18 (acc : Vec Ideal S1x1024 .f32) : k0_pay18 (F := Ideal) acc = acc := by
  funext i
  pointwise [k0_pay18]

theorem pay9 (i : S8x1x1024.Idx) : k0_pay9 (F := Ideal) i = 0 := by
  pointwise [k0_pay9]

theorem pay10 (i : S8x1x1024.Idx) : k0_pay10 (F := Ideal) i = 0 := by
  pointwise [k0_pay10]

theorem pay11 (i : S1x1024.Idx) : k0_pay11 (F := Ideal) i = 0 := by
  pointwise [k0_pay11]

theorem off1 : ∀ t : Fin cfg0.N, k0_off1 (grid0.coords t) = ![t.val / 9 * 2, 0, 0] :=
  (by decide +kernel : ∀ t : Fin grid0.N, _)

theorem off2 : ∀ t : Fin cfg0.N, k0_off2 (grid0.coords t) = ![t.val / 9 * 2, 0, 0] :=
  (by decide +kernel : ∀ t : Fin grid0.N, _)

/-! Reading back the rows a step adds to. -/

theorem ld_at (X : Vec Ideal S8x1x1024 .f32) (off size : Fin 3 → ℕ) (inb) (o : ℕ) (hoff : off = ![o, 0, 0])
    (x : (Rect.unit (s := S8x1x1024) off size inb).shape.Idx) (q : Fin 8) (k : Fin 1024) (hq : q.val = o + (x 0).val)
    (hu : 0 = (x 1).val) (hk : k.val = (x 2).val) :
    View.ld (Val := Elt Ideal) (e' := .f32) X (Rect.unit (s := S8x1x1024) off size inb) x = X (ix3 q (0 : Fin 1) k) := by
  refine View.ld_unit_apply_of X off size inb x _ fun a => ?_
  subst hoff
  match a with
  | ⟨0, _⟩ => exact hq
  | ⟨1, _⟩ => exact hu.trans (Nat.zero_add _).symm
  | ⟨2, _⟩ => exact hk.trans (Nat.zero_add _).symm

theorem put_pair {M : Memref sig .tc .vmem S8x1x1024 .f32} (hM : M.IsWhole) (X : Vec Ideal S8x1x1024 .f32) (o : ℕ) (off : Fin 3 → ℕ)
    (inb : ∀ a, off a + (![2, 1, 1024] : Fin 3 → ℕ) a ≤ S8x1x1024.size a) (hoff : off = ![o, 0, 0])
    (w : Vec Ideal S2x1x1024 .f32) (P : Fin 2 → Fin 1024 → EReal)
    (hw : ∀ s k, w (ix3 s (0 : Fin 1) k) = View.ld (Val := Elt Ideal) (e' := .f32) X (Rect.unit (s := S8x1x1024) off ![2, 1, 1024] inb) (ix3 s (0 : Fin 1) k) + P s k)
    (q : Fin 8) (k : Fin 1024) :
    M.view.read (Elt Ideal) (M.view.writes (Elt Ideal) (hM.unread X) [⟨Rect.unit (s := S8x1x1024) off ![2, 1, 1024] inb, w⟩]) (ix3 q (0 : Fin 1) k)
      = X (ix3 q (0 : Fin 1) k) + if h : o ≤ q.val ∧ q.val < o + 2 then P ⟨q.val - o, by omega⟩ k else 0 := by
  by_cases h : o ≤ q.val ∧ q.val < o + 2
  · rw [dif_pos h]
    refine Eq.trans (View.read_writes_cons_unit_of_mem M.view _ inb w [] _ (ix3 (⟨q.val - o, by omega⟩ : Fin 2) (0 : Fin 1) k) hoff fun a => ?_) ?_
    · match a with
      | ⟨0, _⟩ => exact (by omega : q.val = o + (q.val - o))
      | ⟨1, _⟩ => rfl
      | ⟨2, _⟩ => exact (Nat.zero_add _).symm
    · exact (hw _ k).trans (congrArg (· + _) (ld_at X off _ inb o hoff _ q k (by show q.val = o + (q.val - o); omega) rfl rfl))
  · rw [dif_neg h, add_zero]
    refine (View.read_writes_cons_unit_of_not_mem M.view _ inb w [] _ hoff 0 ?_).trans ?_
    · show q.val < o ∨ o + 2 ≤ q.val
      omega
    · rw [View.writes_nil]
      exact congrFun (hM.read_unread X) _

theorem put_one {M : Memref sig .tc .vmem S8x1x1024 .f32} (hM : M.IsWhole) (X : Vec Ideal S8x1x1024 .f32)
    (inb : ∀ a, (![4, 0, 0] : Fin 3 → ℕ) a + (![1, 1, 1024] : Fin 3 → ℕ) a ≤ S8x1x1024.size a)
    (w : Vec Ideal S1x1x1024 .f32) (P : Fin 1024 → EReal)
    (hw : ∀ k, w (ix3 (0 : Fin 1) (0 : Fin 1) k)
      = View.ld (Val := Elt Ideal) (e' := .f32) X (Rect.unit (s := S8x1x1024) ![4, 0, 0] ![1, 1, 1024] inb) (ix3 (0 : Fin 1) (0 : Fin 1) k) + P k)
    (q : Fin 8) (k : Fin 1024) :
    M.view.read (Elt Ideal) (M.view.writes (Elt Ideal) (hM.unread X) [⟨Rect.unit (s := S8x1x1024) ![4, 0, 0] ![1, 1, 1024] inb, w⟩]) (ix3 q (0 : Fin 1) k)
      = X (ix3 q (0 : Fin 1) k) + if q.val = 4 then P k else 0 := by
  by_cases h : q.val = 4
  · rw [if_pos h]
    refine Eq.trans (View.read_writes_cons_unit_of_mem M.view _ inb w [] _ (ix3 (0 : Fin 1) (0 : Fin 1) k) rfl fun a => ?_) ?_
    · match a with
      | ⟨0, _⟩ => exact h
      | ⟨1, _⟩ => rfl
      | ⟨2, _⟩ => exact (Nat.zero_add _).symm
    · exact (hw k).trans (congrArg (· + _) (ld_at X _ _ inb 4 rfl _ q k h rfl rfl))
  · rw [if_neg h, add_zero]
    refine (View.read_writes_cons_unit_of_not_mem M.view _ inb w [] _ rfl 0 ?_).trans ?_
    · show q.val < 4 ∨ 4 + 1 ≤ q.val
      omega
    · rw [View.writes_nil]
      exact congrFun (hM.read_unread X) _

theorem filled (Z : Vec Ideal S8x1x1024 .f32)
    (inb : ∀ a, (![0, 0, 0] : Fin 3 → ℕ) a + (![8, 1, 1024] : Fin 3 → ℕ) a ≤ S8x1x1024.size a) :
    View.canon ([⟨Rect.unit (s := S8x1x1024) ![0, 0, 0] ![8, 1, 1024] inb, Z⟩] : List (View.Piece (Elt Ideal) S8x1x1024 .f32)) = Z :=
  View.canon_cons_unit_zero (S := S8x1x1024) (off := ![0, 0, 0]) (funext fun a => by
    match a with
    | ⟨0, _⟩ => rfl
    | ⟨1, _⟩ => rfl
    | ⟨2, _⟩ => rfl) inb Z []

/-- The first step: the whole array is filled, then its row 4 is written. -/
theorem put_first (Z : Vec Ideal S8x1x1024 .f32)
    (inb : ∀ a, (![4, 0, 0] : Fin 3 → ℕ) a + (![1, 1, 1024] : Fin 3 → ℕ) a ≤ S8x1x1024.size a)
    (inb' : ∀ a, (![0, 0, 0] : Fin 3 → ℕ) a + (![8, 1, 1024] : Fin 3 → ℕ) a ≤ S8x1x1024.size a)
    (w : Vec Ideal S1x1x1024 .f32) (q : Fin 8) (k : Fin 1024) :
    View.canon ([⟨Rect.unit (s := S8x1x1024) ![4, 0, 0] ![1, 1, 1024] inb, w⟩, ⟨Rect.unit (s := S8x1x1024) ![0, 0, 0] ![8, 1, 1024] inb', Z⟩] : List (View.Piece (Elt Ideal) S8x1x1024 .f32)) (ix3 q (0 : Fin 1) k)
      = if q.val = 4 then w (ix3 (0 : Fin 1) (0 : Fin 1) k) else Z (ix3 q (0 : Fin 1) k) := by
  by_cases h : q.val = 4
  · rw [if_pos h]
    have e : (Rect.unit (s := S8x1x1024) ![4, 0, 0] ![1, 1, 1024] inb).emb (ix3 (0 : Fin 1) (0 : Fin 1) k) = ix3 q (0 : Fin 1) k :=
      funext fun a => Fin.ext (by
        match a with
        | ⟨0, _⟩ => exact h.symm
        | ⟨1, _⟩ => rfl
        | ⟨2, _⟩ => exact (Nat.zero_add _).trans (Nat.one_mul _))
    exact (congrArg (View.canon _) e.symm).trans
      (View.canon_cons_emb (Rect.unit (s := S8x1x1024) ![4, 0, 0] ![1, 1, 1024] inb) w
        [⟨Rect.unit (s := S8x1x1024) ![0, 0, 0] ![8, 1, 1024] inb', Z⟩] (ix3 (0 : Fin 1) (0 : Fin 1) k))
  · rw [if_neg h]
    have e : (ix3 q (0 : Fin 1) k : S8x1x1024.Idx) ∉ (Rect.unit (s := S8x1x1024) ![4, 0, 0] ![1, 1, 1024] inb).set := by
      rw [Rect.mem_set_unit]
      intro hall
      have h0 : 4 ≤ q.val ∧ q.val < 4 + 1 := hall 0
      omega
    exact (View.canon_cons_of_not_mem (⟨Rect.unit (s := S8x1x1024) ![4, 0, 0] ![1, 1, 1024] inb, w⟩ : View.Piece (Elt Ideal) S8x1x1024 .f32)
      [⟨Rect.unit (s := S8x1x1024) ![0, 0, 0] ![8, 1, 1024] inb', Z⟩] e).trans (congrFun (filled Z inb') _)

theorem read_first (v : View sig .tc .vmem S8x1x1024 .f32) (Z : Vec Ideal S8x1x1024 .f32)
    (inb : ∀ a, (![4, 0, 0] : Fin 3 → ℕ) a + (![1, 1, 1024] : Fin 3 → ℕ) a ≤ S8x1x1024.size a)
    (inb' : ∀ a, (![0, 0, 0] : Fin 3 → ℕ) a + (![8, 1, 1024] : Fin 3 → ℕ) a ≤ S8x1x1024.size a) (i) :
    v.readCov ([⟨Rect.unit (s := S8x1x1024) ![0, 0, 0] ![8, 1, 1024] inb', Z⟩] : List (View.Piece (Elt Ideal) S8x1x1024 .f32))
      (Rect.unit (s := S8x1x1024) ![4, 0, 0] ![1, 1, 1024] inb).toLoadRect i
      = Z ((Rect.unit (s := S8x1x1024) ![4, 0, 0] ![1, 1, 1024] inb).toLoadRect.idx i) := by
  rw [View.readCov_eq_canon']
  exact congrFun (filled Z inb') _

end Cert.Kernel36Ideal.Norm

end
-- ==== Proof.Norm.Final.lean ====
module

public import proofs.«01_k».proof.Proof.Norm.Kernel

/-! What the kernel leaves: the gradient of its rows, and over all steps the sums for the shift, the scale and the gain. -/

@[expose] public section

set_option maxRecDepth 16384

noncomputable section

namespace Cert.Kernel36Ideal.Norm

open Idealize.ShloMosaic Idealize.ShloMosaic.TcCoe Idealize.SL.Sem
open Cert.Kernel36Ideal Cert.Kernel36Ideal.Gen
open Idealize.ShloMosaic.Pipeline (Dat)
open Cert.Norm

variable (m : (ℓ : Loc nD τ sig) → Buf (Elt Ideal) ℓ)

section Row

variable (c : Dev nD)

/-- The arrays of the call, by row and column: the input, the two gradients that arrive, the gain, the scale. -/
def X (n : Fin 9216) (k : Fin 1024) : EReal := A0 m c (ix2 n k)
def H (n : Fin 9216) (k : Fin 1024) : EReal := A1 m c (ix2 n k)
def D (n : Fin 9216) (k : Fin 1024) : EReal := A2 m c (ix2 n k)
def g (k : Fin 1024) : EReal := A3 m c (ix1 k)
def S (n : Fin 9216) (k : Fin 1024) : EReal := scaleOf (A4 m c) n k

/-- The row of place `i` of sequence `s` in step `t`. -/
abbrev at_ (t : Fin cfg0.N) (s : Fin 2) (i : Fin 256) : Fin 9216 := row (tok t) (seq t s) i

theorem root_blk (t : Fin cfg0.N) (s : Fin 2) (i : Fin 256) :
    k0_pay6 (F := Ideal) (iblk m c 0 t) (ix3 s i (0 : Fin 1)) = root (X m c) (at_ t s i) := by
  rw [pay6]
  unfold root level
  simp only [blk0]
  rfl

theorem hat_blk (t : Fin cfg0.N) (s : Fin 2) (i : Fin 256) (k : Fin 1024) :
    k0_pay7 (F := Ideal) (iblk m c 0 t) (ix3 s i k) = hat (X m c) (at_ t s i) k := by
  rw [pay7, root_blk, blk0]
  rfl

theorem h_blk (t : Fin cfg0.N) (s : Fin 2) (i : Fin 256) (k : Fin 1024) :
    k0_pay3 (F := Ideal) (iblk m c 1 t) (ix3 s i k) = H m c (at_ t s i) k := by
  rw [pay3]
  exact blk1 m c t s i k

theorem s_blk (t : Fin cfg0.N) (s : Fin 2) (i : Fin 256) (k : Fin 1024) :
    k0_pay5 (F := Ideal) (iblk m c 4 t) (ix3 s (0 : Fin 1) k) = S m c (at_ t s i) k := by
  rw [pay5, S, scaleOf_row, gainOf]
  exact congrArg (1 + ·) (blk4 m c t s k)

end Row

def target5 (c : Dev nD) : FVec Ideal S4x8x256x1024 .f32 := fun y =>
  dx (X m c) (H m c) (D m c) (g m c) (S m c) (row (Fin.succ (y 1)) (y 0) (y 2)) (y 3)
def target6 (c : Dev nD) : FVec Ideal S8x1x1024 .f32 := fun y => total (blockSum (H m c) (y 2)) (y 0)
def target7 (c : Dev nD) : FVec Ideal S8x1x1024 .f32 := fun y =>
  total (blockSum (dscale (X m c) (H m c) (g m c)) (y 2)) (y 0)
def target8 (c : Dev nD) : FVec Ideal S1x1024 .f32 := fun y => ∑ n, dgain (X m c) (H m c) (S m c) n (y 1)

theorem dx_blk (c : Dev nD) (t : Fin cfg0.N) (s : Fin 2) (i : Fin 256) (k : Fin 1024) :
    k0_pay8 (F := Ideal) (iblk m c 0 t) (iblk m c 1 t) (iblk m c 3 t) (iblk m c 4 t) (iblk m c 2 t) (ix4 s (0 : Fin 1) i k)
      = dx (X m c) (H m c) (D m c) (g m c) (S m c) (at_ t s i) k := by
  rw [pay8]
  simp only [root_blk, hat_blk, h_blk, s_blk m c t s i, blk2, blk3]
  rfl

theorem later5 : ∀ t : Fin cfg0.N, (cfg0.win 5).flush t = true → 1 ≤ t.val % 9 := (by decide +kernel : ∀ t : Fin grid0.N, _)

theorem final5 (c : Dev nD) : (dats m 0 c).arrAt 5 cfg0.N = target5 m c := by
  refine (dats m 0 c).arrAt_eq_of_covers 5 _ (by decide +kernel) fun t hf y => ?_
  have h := later5 t hf
  have ht := lt t
  blk_simp
  refine Eq.trans ?_ (emb5 _ t y).symm
  rw [after0_5, outsAt0_B m c t (by omega) (by omega) h (by omega) h]
  frame_out
  idx_vars y
  obtain rfl : y1 = 0 := Subsingleton.elim _ _
  refine (dx_blk m c t y0 y2 y3).trans ?_
  refine congrArg (fun n => dx (X m c) (H m c) (D m c) (g m c) (S m c) n _) (Fin.ext ?_)
  show ((t.val % 9) * 4 + _) * 256 + _ = ((t.val % 9 - 1 + 1) * 4 + _) * 256 + _
  rw [Nat.sub_add_cancel h]
  rfl

/-- An array that starts as zero and takes in every step that step's sums is, after the last step, the modulation's
rows. -/
theorem acc_parts (f : (n : Nat) → n < cfg0.N → S8x1x1024.Idx → EReal) (G : Fin 9216 → Fin 1024 → EReal)
    (h0 : ∀ t : Fin cfg0.N, t.val % 18 = 0 → ∀ q k, f t.val t.isLt (ix3 q (0 : Fin 1) k) = part (blockSum G k) t q)
    (hs : ∀ t : Fin cfg0.N, ¬t.val % 18 = 0 → ∀ q k, f t.val t.isLt (ix3 q (0 : Fin 1) k)
      = f (t.val - 1) (Nat.lt_of_le_of_lt (Nat.sub_le _ _) t.isLt) (ix3 q (0 : Fin 1) k) + part (blockSum G k) t q)
    (t : Fin cfg0.N) (h : t.val % 18 = 17) (q : Fin 8) (k : Fin 1024) :
    f t.val t.isLt (ix3 q (0 : Fin 1) k) = total (blockSum G k) q := by
  have ht := lt t
  refine (Pipeline.eq_sum_fin_of_reset_step_apply_of_flush (fun n h (p : Fin 8 × Fin 1024) => f n h (ix3 p.1 (0 : Fin 1) p.2)) 18
    (fun _ => 0) (fun t p => part (blockSum G p.2) t p.1) (fun t h p => (h0 t h p.1 p.2).trans (zero_add _).symm)
    (fun t h p => hs t h p.1 p.2) t h (q, k)).trans ?_
  rw [zero_add, ← sum_part]
  refine Finset.sum_congr rfl fun s _ => congrArg (fun t => part (blockSum G k) t q) (Fin.ext ?_)
  dsimp
  omega

/-- What a step of a first block adds, and what a step of a later one adds. -/
theorem part_at_zero (G : Fin 9216 → Fin 1024 → EReal) (t : Fin cfg0.N) (h : t.val % 9 = 0) (q : Fin 8) (k : Fin 1024)
    (p : Fin 2 → Fin 256 → EReal) (hp : ∀ s i, p s i = G (at_ t s i) k) :
    (if q.val = 4 then ∑ s, ∑ i, p s i else 0) = part (blockSum G k) t q := by
  rw [part_zero _ _ _ h]
  refine if_congr Iff.rfl (Finset.sum_congr rfl fun s _ => Finset.sum_congr rfl fun i _ => hp s i) rfl

theorem part_at_pos (G : Fin 9216 → Fin 1024 → EReal) (t : Fin cfg0.N) (h : ¬t.val % 9 = 0) (q : Fin 8) (k : Fin 1024)
    (p : Fin 2 → Fin 256 → EReal) (hp : ∀ s i, p s i = G (at_ t s i) k) :
    (if h : t.val / 9 * 2 ≤ q.val ∧ q.val < t.val / 9 * 2 + 2 then ∑ i, p ⟨q.val - t.val / 9 * 2, by omega⟩ i else 0)
      = part (blockSum G k) t q := by
  have ht := lt t
  rw [part_pos _ _ _ h]
  by_cases hq : t.val / 9 * 2 ≤ q.val ∧ q.val < t.val / 9 * 2 + 2
  · rw [dif_pos hq, if_pos hq]
    refine Finset.sum_congr rfl fun i _ => (hp _ i).trans (congrArg (fun b => G (row (tok t) b i) k) (Fin.ext ?_))
    show t.val / 9 * 2 + (q.val - t.val / 9 * 2) = q.val % 4
    omega
  · rw [dif_neg hq, if_neg hq]

theorem final6 (c : Dev nD) : (dats m 0 c).arrAt 6 cfg0.N = target6 m c := by
  refine (dats m 0 c).arrAt_eq_of_covers 6 _ (by decide +kernel) fun t hf y => ?_
  blk_simp
  refine Eq.trans ?_ (emb6 _ t y).symm
  rw [after0_6]
  idx_vars y
  obtain rfl : y1 = 0 := Subsingleton.elim _ _
  refine acc_parts (fun n h => (outsAt0 m c n h).2.1) (H m c) (fun t h q k => ?_) (fun t h q k => ?_) t ((flush0_6 t).mp hf) y0 y2
  · have h9 : t.val % 9 = 0 := by omega
    rw [outsAt0_A m c t h h9 (by omega) h9 (by omega)]
    frame_out
    refine (put_first _ _ _ _ q k).trans (Eq.trans ?_ (part_at_zero (H m c) t h9 q k _ fun s i => h_blk m c t s i k))
    rw [pay13, read_first, pay9, pay9, zero_add]
  · by_cases h9 : t.val % 9 = 0
    · rw [outsAt0_C m c t h h9 (by omega) h9 (by omega)]
      frame_out
      refine (put_one (hs0_6 t) _ _ _ _ (fun k => pay13 _ _ k) q k).trans (congrArg (_ + ·) ?_)
      exact part_at_zero (H m c) t h9 q k _ fun s i => h_blk m c t s i k
    · rw [outsAt0_B m c t h h9 (by omega) h9 (by omega)]
      frame_out
      refine (put_pair (hs0_6 t) _ _ _ _ (off1 t) _ _ (fun s k => pay14 _ _ s k) q k).trans (congrArg (_ + ·) ?_)
      exact part_at_pos (H m c) t h9 q k _ fun s i => h_blk m c t s i k

/-- What a place of a step gives to the scale's gradient. -/
def scales (c : Dev nD) (t : Fin cfg0.N) (s : Fin 2) (i : Fin 256) (k : Fin 1024) : EReal :=
  k0_pay3 (F := Ideal) (iblk m c 1 t) (ix3 s i k) * (k0_pay7 (F := Ideal) (iblk m c 0 t) (ix3 s i k) * iblk m c 3 t (ix2 (0 : Fin 1) k))

theorem dscale_blk (c : Dev nD) (t : Fin cfg0.N) (s : Fin 2) (i : Fin 256) (k : Fin 1024) :
    scales m c t s i k = dscale (X m c) (H m c) (g m c) (at_ t s i) k := by
  rw [scales, h_blk, hat_blk, blk3]
  rfl

theorem final7 (c : Dev nD) : (dats m 0 c).arrAt 7 cfg0.N = target7 m c := by
  refine (dats m 0 c).arrAt_eq_of_covers 7 _ (by decide +kernel) fun t hf y => ?_
  blk_simp
  refine Eq.trans ?_ (emb7 _ t y).symm
  rw [after0_7]
  idx_vars y
  obtain rfl : y1 = 0 := Subsingleton.elim _ _
  refine acc_parts (fun n h => (outsAt0 m c n h).2.2.1) (dscale (X m c) (H m c) (g m c)) (fun t h q k => ?_) (fun t h q k => ?_) t
    ((flush0_7 t).mp hf) y0 y2
  · have h9 : t.val % 9 = 0 := by omega
    rw [outsAt0_A m c t h h9 (by omega) h9 (by omega)]
    frame_out
    refine (put_first _ _ _ _ q k).trans (Eq.trans ?_ (part_at_zero (dscale (X m c) (H m c) (g m c)) t h9 q k (scales m c t · · k) fun s i => dscale_blk m c t s i k))
    rw [pay16, read_first, pay10, pay10, zero_add]
    simp only [scales]
  · by_cases h9 : t.val % 9 = 0
    · rw [outsAt0_C m c t h h9 (by omega) h9 (by omega)]
      frame_out
      refine (put_one (hs0_7 t) _ _ _ _ (fun k => pay16 _ _ _ _ k) q k).trans (congrArg (_ + ·) ?_)
      exact part_at_zero (dscale (X m c) (H m c) (g m c)) t h9 q k (scales m c t · · k) fun s i => dscale_blk m c t s i k
    · rw [outsAt0_B m c t h h9 (by omega) h9 (by omega)]
      frame_out
      refine (put_pair (hs0_7 t) _ _ _ _ (off2 t) _ _ (fun s k => pay17 _ _ _ _ s k) q k).trans (congrArg (_ + ·) ?_)
      exact part_at_pos (dscale (X m c) (H m c) (g m c)) t h9 q k (scales m c t · · k) fun s i => dscale_blk m c t s i k

theorem step8 (c : Dev nD) (t : Fin cfg0.N) (acc : Vec Ideal S1x1024 .f32) (k : Fin 1024) :
    k0_pay1 (F := Ideal) (k0_pay18 acc)
        (k0_pay19 (k0_pay3 (iblk m c 1 t)) (k0_pay5 (iblk m c 4 t)) (k0_pay7 (iblk m c 0 t))) (ix2 (0 : Fin 1) k)
      = acc (ix2 (0 : Fin 1) k) + ∑ x : Fin 512, dgain (X m c) (H m c) (S m c) (places (t, x)) k := by
  have e : k0_pay1 (F := Ideal) (k0_pay18 acc)
        (k0_pay19 (k0_pay3 (iblk m c 1 t)) (k0_pay5 (iblk m c 4 t)) (k0_pay7 (iblk m c 0 t))) (ix2 (0 : Fin 1) k)
      = acc (ix2 (0 : Fin 1) k)
        + k0_pay19 (F := Ideal) (k0_pay3 (iblk m c 1 t)) (k0_pay5 (iblk m c 4 t)) (k0_pay7 (iblk m c 0 t)) (ix2 (0 : Fin 1) k) := by
    rw [pay18]
    rfl
  rw [e, pay19]
  refine congrArg (_ + ·) (Finset.sum_congr rfl fun x _ => ?_)
  rw [h_blk, hat_blk, s_blk m c t (half x) (rest x)]
  refine congrArg (fun n => dgain (X m c) (H m c) (S m c) n k) (Fin.ext ?_)
  have ht := lt t
  show (t.val % 9 * 4 + (t.val / 9 * 2 + x.val / 256)) * 256 + x.val % 256 = (t.val % 9 * 2 + t.val / 9) * 512 + x.val
  omega

theorem final8 (c : Dev nD) : (dats m 0 c).arrAt 8 cfg0.N = target8 m c := by
  refine (dats m 0 c).arrAt_eq_of_covers 8 _ (by decide +kernel) fun t hf y => ?_
  blk_simp
  refine Eq.trans ?_ (emb8 _ t y).symm
  rw [after0_8]
  obtain ⟨k, rfl⟩ : ∃ k : Fin 1024, y = ix2 (0 : Fin 1) k := by
    idx_vars y
    exact ⟨y1, by rw [Subsingleton.elim y0 (0 : Fin 1)]⟩
  have hl := (flush0_8 t).mp hf
  have ht := lt t
  refine (Pipeline.eq_sum_fin_of_reset_step_apply_of_flush (fun n h (k : Fin 1024) => (outsAt0 m c n h).2.2.2 (ix2 (0 : Fin 1) k)) 18
    (fun _ => 0) (fun t k => ∑ x : Fin 512, dgain (X m c) (H m c) (S m c) (places (t, x)) k) (fun t h k => ?_) (fun t h k => ?_) t hl k).trans ?_
  · have h9 : t.val % 9 = 0 := by omega
    rw [outsAt0_A m c t h h9 (by omega) h9 (by omega)]
    frame_out
    rw [step8, pay11]
  · by_cases h9 : t.val % 9 = 0
    · rw [outsAt0_C m c t h h9 (by omega) h9 (by omega)]
      frame_out
      rw [step8]
    · rw [outsAt0_B m c t h h9 (by omega) h9 (by omega)]
      frame_out
      rw [step8]
  · rw [zero_add]
    refine Eq.trans ?_ (sum_places fun n => dgain (X m c) (H m c) (S m c) n k)
    refine Finset.sum_congr rfl fun s _ => congrArg (fun t => ∑ x : Fin 512, dgain (X m c) (H m c) (S m c) (places (t, x)) k) (Fin.ext ?_)
    dsimp
    omega

end Cert.Kernel36Ideal.Norm

end
-- ==== Proof.Norm.Reference.lean ====
module

public import proofs.«01_k».proof.Defs
public import proofs.«01_k».proof.Proof.Norm.Formula
public import proofs.«01_k».proof.Proof.Gen.Reference36Ideal.Read
public import Idealize.ShloMosaic.Lib.Pointwise

/-! What the reference's derivative of the modulated norm computes. -/

@[expose] public section

set_option maxRecDepth 16384

noncomputable section

namespace Cert.Reference36Ideal.Norm

open Idealize.ShloMosaic Idealize.ShloMosaic.TcCoe Idealize.SL.Sem
open Cert.Reference36Ideal Cert.Reference36Ideal.Gen Cert.Reference36Ideal.Read Cert.Norm

/-- A matrix by row and column. -/
def rows {φ : FTy} (x : FVec Ideal S9216x1024 φ) : Fin 9216 → Fin 1024 → EReal := fun n k => x (ix2 n k)

theorem r8 (x : FVec Ideal S9216x1024 .f32) (n : Fin 9216) :
    val_main_v8 (F := Ideal) x (ix2 n (0 : Fin 1)) = level (rows x) n := by
  pointwise [val_main_v8, val_main_v7, val_main_v6, val_main_v5, val_main_v4, val_main_v3, val_main_v2, val_main_cst, val_main_cst_0, val_main_cst_1]
  rfl

theorem r9 (x : FVec Ideal S9216x1024 .f32) (n : Fin 9216) :
    val_main_v9 (F := Ideal) x (ix2 n (0 : Fin 1)) = root (rows x) n := by
  rw [root, ← r8]
  pointwise [val_main_v9]

theorem r12 (x : FVec Ideal S9216x1024 .f32) (n : Fin 9216) :
    val_main_v12 (F := Ideal) x (ix2 n (0 : Fin 1)) = minusHalf * Ideal.div (root (rows x) n) (level (rows x) n) := by
  rw [← r9, ← r8]
  pointwise [val_main_v12, val_main_v11, val_main_v10, val_main_cst_2]
  rfl

theorem r14 (x : FVec Ideal S9216x1024 .f32) (n : Fin 9216) (k : Fin 1024) :
    val_main_v14 (F := Ideal) x (ix2 n k) = hat (rows x) n k := by
  rw [hat, ← r9]
  pointwise [val_main_v14, val_main_v13]
  rfl

theorem row_at (r : Fin 9) (b : Fin 4) (i : Fin 256) (h : r.val * 1024 + b.val * 256 + i.val < 9216) :
    (⟨r.val * 1024 + b.val * 256 + i.val, h⟩ : Fin 9216) = row r b i := Fin.ext (by dsimp; omega)

theorem r34 (s : FVec Ideal S8x6144 .f32) (r : Fin 9) (b : Fin 4) (k : Fin 1024) :
    val_main_v34 (F := Ideal) s (ix4 r b (0 : Fin 1) k) = gainOf s r b k := by
  pointwise [val_main_v34, val_main_v33, val_main_v32, val_main_v31, val_main_v30, val_main_v29, val_main_v28, val_main_v27, val_main_v26,
    val_main_v1, val_main_cst_3, gainOf, modRow]
  by_cases hr : r.val = 0
  · rw [dif_pos (by omega), if_pos hr]
  · rw [dif_neg (by omega), if_neg hr]

theorem r47 (h : FVec Ideal S9216x1024 .bf16) (s : FVec Ideal S8x6144 .f32) (r : Fin 9) (b : Fin 4) (i : Fin 256) (k : Fin 1024) :
    val_main_v47 (F := Ideal) h s (ix4 r b i k) = rows h (row r b i) k * gainOf s r b k := by
  rw [← r34]
  pointwise [val_main_v47, val_main_v46, val_main_v40, val_main_v39]
  rw [row_at]
  rfl

theorem r68 (h : FVec Ideal S9216x1024 .bf16) (s : FVec Ideal S8x6144 .f32) (n : Fin 9216) (k : Fin 1024) :
    val_main_v68 (F := Ideal) h s (ix2 n k) = rows h n k * scaleOf s n k := by
  pointwise [val_main_v68]
  rw [r47]
  refine congrArg (fun m => rows h m k * scaleOf s n k) (Fin.ext ?_)
  show (n.val / 1024 * 4 + n.val / 256 % 4) * 256 + n.val % 256 = n.val
  omega

theorem r58 (h : FVec Ideal S9216x1024 .bf16) (r : Fin 9) (b : Fin 4) (k : Fin 1024) :
    val_main_v58 (F := Ideal) h (ix3 r b k) = blockSum (rows h) k r b := by
  pointwise [val_main_v58, val_main_v42, val_main_v41, val_main_v40, val_main_v39, val_main_cst_4, val_main_cst_12, row_at]
  rw [Fin.sum_univ_one]
  rfl

theorem r48 (x : FVec Ideal S9216x1024 .f32) (h : FVec Ideal S9216x1024 .bf16) (g : FVec Ideal S1024 .f32) (r : Fin 9) (b : Fin 4) (k : Fin 1024) :
    val_main_v48 (F := Ideal) x h g (ix3 r b k) = blockSum (dscale (rows x) (rows h) fun k => g (ix1 k)) k r b := by
  pointwise [val_main_v48, val_main_v45, val_main_v44, val_main_v43, val_main_v40, val_main_v39, val_main_v18, val_main_v17, val_main_v16, val_main_v15, val_main_cst_5, val_main_cst_6, row_at]
  rw [Fin.sum_univ_one]
  exact Finset.sum_congr rfl fun i _ => by rw [r14, mul_comm]; rfl

/-- The two padded sums are the modulation's rows. -/
theorem total_of (T : Fin 9 → Fin 4 → EReal) (q : Fin 8) :
    ((if h : q.val < 4 then ∑ x : Fin 8, T ⟨1 + x.val, by omega⟩ ⟨q.val, h⟩ else 0)
      + if _ : 4 ≤ q.val ∧ q.val - 4 < 1 then ∑ b : Fin 4, ∑ _x : Fin 1, T 0 b else 0) = total T q := by
  simp only [Fin.sum_univ_one, dite_eq_ite]
  refine congrArg₂ (· + ·) ?_ ?_
  · by_cases h : q.val < 4
    · rw [dif_pos h, if_pos h]
      refine Finset.sum_congr rfl fun r _ => congrArg₂ T (Fin.ext ?_) (Fin.ext ?_)
      · show 1 + r.val = r.val + 1
        omega
      · show q.val = q.val % 4
        omega
    · rw [dif_neg h, if_neg h]
  · by_cases h : q.val = 4
    · rw [if_pos (by omega), if_pos h]
    · rw [if_neg (by omega), if_neg h]

theorem r93 (h : FVec Ideal S9216x1024 .bf16) (q : Fin 8) (k : Fin 1024) :
    val_main_v93 (F := Ideal) h (ix3 q (0 : Fin 1) k) = total (blockSum (rows h) k) q := by
  pointwise [val_main_v93, val_main_v67, val_main_v66, val_main_v65, val_main_v64, val_main_v63, val_main_v62, val_main_v61, val_main_v60, val_main_v59,
    val_main_cst_13, val_main_cst_14, val_main_cst_15, val_main_cst_16, val_main_cst_17, r58]
  exact total_of (blockSum (rows h) k) q

theorem r94 (x : FVec Ideal S9216x1024 .f32) (h : FVec Ideal S9216x1024 .bf16) (g : FVec Ideal S1024 .f32) (q : Fin 8) (k : Fin 1024) :
    val_main_v94 (F := Ideal) x h g (ix3 q (0 : Fin 1) k) = total (blockSum (dscale (rows x) (rows h) fun k => g (ix1 k)) k) q := by
  pointwise [val_main_v94, val_main_v57, val_main_v56, val_main_v55, val_main_v54, val_main_v53, val_main_v52, val_main_v51, val_main_v50, val_main_v49,
    val_main_cst_7, val_main_cst_8, val_main_cst_9, val_main_cst_10, val_main_cst_11, r48]
  exact total_of (blockSum (dscale (rows x) (rows h) fun k => g (ix1 k)) k) q

theorem r95 (x : FVec Ideal S9216x1024 .f32) (h : FVec Ideal S9216x1024 .bf16) (s : FVec Ideal S8x6144 .f32) (k : Fin 1024) :
    val_main_v95 (F := Ideal) x h s (ix2 (0 : Fin 1) k) = ∑ n, dgain (rows x) (rows h) (scaleOf s) n k := by
  pointwise [val_main_v95, val_main_v74, val_main_v71, val_main_v70, val_main_v69, val_main_cst_18, val_main_cst_19, r14, r68]
  rw [Fin.sum_univ_one]
  exact Finset.sum_congr rfl fun n _ => mul_comm _ _

theorem r89 (x : FVec Ideal S9216x1024 .f32) (h : FVec Ideal S9216x1024 .bf16) (d : FVec Ideal S9216x1024 .f32) (g : FVec Ideal S1024 .f32)
    (s : FVec Ideal S8x6144 .f32) (n : Fin 9216) (k : Fin 1024) :
    val_main_v89 (F := Ideal) x h d g s (ix2 n k)
      = dxChain (rows x) (rows h) (rows d) (fun k => g (ix1 k)) (scaleOf s) n k := by
  pointwise [val_main_v89, val_main_v88, val_main_v87, val_main_v86, val_main_v85, val_main_v84, val_main_v83, val_main_v82, val_main_v81, val_main_v80, val_main_v79, val_main_v78, val_main_v77, val_main_v76, val_main_v75, val_main_v73, val_main_v72, val_main_v15,
    val_main_cst_20, val_main_cst_21, val_main_cst_22, r68, r9, r12]
  simp only [Fin.sum_univ_one]
  rw [r12]
  rfl

theorem r92 (x : FVec Ideal S9216x1024 .f32) (h : FVec Ideal S9216x1024 .bf16) (d : FVec Ideal S9216x1024 .f32) (g : FVec Ideal S1024 .f32)
    (s : FVec Ideal S8x6144 .f32) (b : Fin 4) (r : Fin 8) (i : Fin 256) (k : Fin 1024) :
    val_main_v92 (F := Ideal) x h d g s (ix4 b r i k)
      = dxChain (rows x) (rows h) (rows d) (fun k => g (ix1 k)) (scaleOf s) (row r.succ b i) k := by
  pointwise [val_main_v92, val_main_v91, val_main_v90]
  rw [r89]
  refine congrArg (fun n => dxChain (rows x) (rows h) (rows d) (fun k => g (ix1 k)) (scaleOf s) n k) (Fin.ext ?_)
  show 1024 + (r.val * 1024 + b.val * 256 + i.val) = ((r.val + 1) * 4 + b.val) * 256 + i.val
  omega

end Cert.Reference36Ideal.Norm

end
-- ==== Proof.Norm.Chain.lean ====
module

public import proofs.«01_k».proof.Proof.Norm.Formula
public import proofs.«01_k».proof.Proof.Reals

/-! The two spellings of the row's gradient agree, for all extended reals. -/

@[expose] public section

noncomputable section

namespace Cert.Norm

open Idealize.ShloMosaic Cert.Reals

theorem width_val : width = ((1024 : ℝ) : EReal) := by
  simp [width, Ideal.ofBits, Ideal.ieee, -EReal.coe_mul]
  norm_num

theorem minusHalf_val : minusHalf = ((-1 / 2 : ℝ) : EReal) := by
  simp [minusHalf, Ideal.ofBits, Ideal.ieee, -EReal.coe_mul]
  norm_num

theorem eps_pos : ∃ e : ℝ, 0 < e ∧ eps = (e : EReal) := by
  refine ⟨8796093 * (2 ^ 43)⁻¹, by positivity, ?_⟩
  simp [eps, Ideal.ofBits, Ideal.ieee, -EReal.coe_mul]

theorem coe_sum (f : Fin 1024 → ℝ) : ∑ k, ((f k : ℝ) : EReal) = ((∑ k, f k : ℝ) : EReal) := by
  induction (Finset.univ : Finset (Fin 1024)) using Finset.induction with
  | empty => simp
  | insert a t ha ih => rw [Finset.sum_insert ha, Finset.sum_insert ha, ih, EReal.coe_add]

theorem square_nonneg (x : EReal) : 0 ≤ x * x := by
  induction x with
  | bot => simp
  | top => simp
  | coe r => exact_mod_cast mul_self_nonneg r

theorem square_top {x : EReal} (h : ¬IsReal x) : x * x = ⊤ := by
  induction x with
  | bot => simp
  | top => simp
  | coe r => exact absurd (isReal_coe r) h

/-- A real number that is not negative distributes over a sum and over a difference of extended reals. -/
theorem sum_mul_coe (f : Fin 1024 → EReal) {r : ℝ} (hr : 0 ≤ r) : ∑ k, f k * (r : EReal) = (∑ k, f k) * (r : EReal) := by
  induction (Finset.univ : Finset (Fin 1024)) using Finset.induction with
  | empty => simp
  | insert a t ha ih =>
    rw [Finset.sum_insert ha, Finset.sum_insert ha, ih,
      EReal.right_distrib_of_nonneg_of_ne_top (EReal.coe_nonneg.mpr hr) (EReal.coe_ne_top r)]

theorem coe_mul_sub {r : ℝ} (hr : 0 ≤ r) (a b : EReal) : (r : EReal) * (a - b) = r * a + -(r * b) := by
  rw [sub_eq_add_neg, EReal.left_distrib_of_nonneg_of_ne_top (EReal.coe_nonneg.mpr hr) (EReal.coe_ne_top r), mul_neg]

theorem twice (y : EReal) : y + y = ((2 : ℝ) : EReal) * y := by
  induction y with
  | bot => rw [EReal.coe_mul_bot_of_pos (by norm_num)]; rfl
  | top => rw [EReal.coe_mul_top_of_pos (by norm_num)]; rfl
  | coe r => rw [← EReal.coe_add, ← EReal.coe_mul, two_mul]

/-- The two spellings for a row of real numbers: `r * r` is the reciprocal of the level `w`. -/
theorem chain_real (x : Fin 1024 → ℝ) (d : Fin 1024 → EReal) (c : EReal) (r w : ℝ) (hr : 0 ≤ r) (e : r * r = 1 / w) (k : Fin 1024) :
    c + (r : EReal) * (d k - (x k : EReal) * r * ((∑ j, d j * ((x j : EReal) * r)) * ((1 / 1024 : ℝ) : EReal)))
      = c + d k * r
        + x k * ((∑ j, (x j : EReal) * d j) * (((-1 / 2 : ℝ) : EReal) * (r * ((1 / w : ℝ) : EReal))) * ((1 / 1024 : ℝ) : EReal))
        + (∑ j, (x j : EReal) * d j) * (((-1 / 2 : ℝ) : EReal) * (r * ((1 / w : ℝ) : EReal))) * ((1 / 1024 : ℝ) : EReal) * x k := by
  have q : ∑ j, d j * ((x j : EReal) * r) = (∑ j, (x j : EReal) * d j) * r := by
    rw [← sum_mul_coe _ hr]
    exact Finset.sum_congr rfl fun j _ => by rw [← mul_assoc, mul_comm (d j)]
  rw [q]
  generalize (∑ j, (x j : EReal) * d j) = Q
  have left : (r : EReal) * ((x k : EReal) * r * (Q * r * ((1 / 1024 : ℝ) : EReal))) = Q * ((r * x k * r * r * (1 / 1024) : ℝ) : EReal) := by
    simp only [EReal.coe_mul]
    ac_rfl
  have right : Q * (((-1 / 2 : ℝ) : EReal) * (r * ((1 / w : ℝ) : EReal))) * ((1 / 1024 : ℝ) : EReal) * x k
      = Q * ((-1 / 2 * (r * (1 / w)) * (1 / 1024) * x k : ℝ) : EReal) := by
    simp only [EReal.coe_mul]
    ac_rfl
  rw [coe_mul_sub hr, left, mul_comm (x k : EReal) (Q * _ * _), right, add_assoc, add_assoc, twice, mul_comm (r : EReal) (d k), ← mul_neg,
    ← EReal.coe_neg, mul_left_comm, ← EReal.coe_mul]
  have z : -(r * x k * r * r * (1 / 1024)) = 2 * (-1 / 2 * (r * (1 / w)) * (1 / 1024) * x k) := by
    rw [← e]
    ring
  rw [z]

section Row

variable (X H D : Fin 9216 → Fin 1024 → EReal) (g : Fin 1024 → EReal) (S : Fin 9216 → Fin 1024 → EReal) (n : Fin 9216) (k : Fin 1024)

/-- A row with an infinite element has an infinite level, and its reciprocal root is zero. -/
theorem level_top (h : ¬∀ k, IsReal (X n k)) : level X n = ⊤ := by
  obtain ⟨j, hj⟩ := not_forall.mp h
  have s : ∑ k, X n k * X n k = ⊤ := top_le_iff.mp ((square_top hj).symm.le.trans
    (Finset.single_le_sum (f := fun k => X n k * X n k) (fun i _ => square_nonneg _) (Finset.mem_univ j)))
  obtain ⟨e, -, ee⟩ := eps_pos
  rw [level, s, width_val, Ideal.div_coe (by norm_num), EReal.top_mul_coe_of_pos (by norm_num), ee, EReal.top_add_coe]

theorem dx_eq_of_top (h : level X n = ⊤) : dx X H D g S n k = dxChain X H D g S n k := by
  have r : root X n = 0 := by rw [root, h, Ideal.rsqrt_top]
  have z : Ideal.div (0 : EReal) ⊤ = 0 := by simp [Ideal.div]
  have p : pull X H g S n = 0 := by
    rw [pull, r, h, z, mul_zero, mul_zero, width_val, Ideal.div_coe (by norm_num), zero_mul]
  rw [dx, dxChain, r, p, zero_mul, mul_zero, mul_zero, zero_mul, add_zero, add_zero, add_zero]

theorem dx_eq_of_real (h : ∀ k, IsReal (X n k)) : dx X H D g S n k = dxChain X H D g S n k := by
  choose x ex using h
  obtain ⟨e, he, ee⟩ := eps_pos
  have hw : level X n = (((∑ k, x k * x k) * (1 / 1024) + e : ℝ) : EReal) := by
    unfold level
    simp only [ex, ← EReal.coe_mul]
    rw [coe_sum, width_val, Ideal.div_coe (by norm_num), ee, ← EReal.coe_mul, ← EReal.coe_add]
  have wpos : 0 < (∑ k, x k * x k) * (1 / 1024) + e :=
    add_pos_of_nonneg_of_pos (mul_nonneg (Finset.sum_nonneg fun k _ => mul_self_nonneg _) (by norm_num)) he
  generalize (∑ k, x k * x k) * (1 / 1024) + e = w at hw wpos
  have hr : root X n = ((1 / Real.sqrt w : ℝ) : EReal) := by
    rw [root, hw, Ideal.rsqrt_coe, if_neg wpos.le.not_gt, if_neg wpos.ne', one_div]
  have rr : 1 / Real.sqrt w * (1 / Real.sqrt w) = 1 / w := by
    rw [div_mul_div_comm, one_mul, Real.mul_self_sqrt wpos.le]
  have r0 : 0 ≤ 1 / Real.sqrt w := by positivity
  generalize 1 / Real.sqrt w = r at hr rr r0
  have hd : ∀ k, H n k * S n k * g k = dhat H g S n k := fun k => by rw [dhat, mul_comm (g k), mul_assoc]
  unfold dx dxChain pull hat
  simp only [hd, ex, hr, hw, width_val, minusHalf_val, Ideal.div_coe wpos.ne', Ideal.div_coe (show (1024 : ℝ) ≠ 0 by norm_num)]
  exact chain_real x (dhat H g S n) (D n k) r w r0 rr k

theorem dx_eq_dxChain : dx X H D g S n k = dxChain X H D g S n k := by
  by_cases h : ∀ k, IsReal (X n k)
  · exact dx_eq_of_real X H D g S n k h
  · exact dx_eq_of_top X H D g S n k (level_top X n h)

end Row

end Cert.Norm

end
-- ==== Proof.Norm.Claim.lean ====
module

public import proofs.«01_k».proof.Defs
public import proofs.«01_k».proof.Proof.Norm.Final
public import proofs.«01_k».proof.Proof.Norm.Reference
public import proofs.«01_k».proof.Proof.Norm.Chain
public import proofs.«01_k».proof.Proof.Gen.Reference36Ideal.Run
public import Idealize.ShloMosaic.Lib.Claim
public import Idealize.ShloMosaic.Adequacy
public import Idealize.ShloMosaic.Init

/-! The modulated norm's gradient: the kernel's results are the reference's. -/

@[expose] public section

set_option maxRecDepth 16384

noncomputable section

namespace Cert.Kernel36Ideal.Norm

open Idealize.ShloMosaic Idealize.ShloMosaic.TcCoe Idealize.SL.Sem
open Cert.Kernel36Ideal Cert.Kernel36Ideal.Gen Cert.Norm
open Cert.Reference36Ideal.Norm (rows r92 r93 r94 r95)
open Cert.Reference36Ideal.Read (val_main_v92 val_main_v93 val_main_v94 val_main_v95)

variable (m : (ℓ : Loc nD τ sig) → Buf (Elt Ideal) ℓ)

theorem result5 (c : Dev nD) :
    val_main_v92 (F := Ideal) (A0 m c) (A1 m c) (A2 m c) (A3 m c) (A4 m c) = target5 m c := by
  funext y
  idx_vars y
  refine (r92 _ _ _ _ _ y0 y1 y2 y3).trans ?_
  exact (dx_eq_dxChain (X m c) (H m c) (D m c) (g m c) (S m c) (row y1.succ y0 y2) y3).symm

theorem result6 (c : Dev nD) : val_main_v93 (F := Ideal) (A1 m c) = target6 m c := by
  funext y
  idx_vars y
  obtain rfl : y1 = 0 := Subsingleton.elim _ _
  exact r93 _ y0 y2

theorem result7 (c : Dev nD) : val_main_v94 (F := Ideal) (A0 m c) (A1 m c) (A3 m c) = target7 m c := by
  funext y
  idx_vars y
  obtain rfl : y1 = 0 := Subsingleton.elim _ _
  exact r94 _ _ _ y0 y2

theorem result8 (c : Dev nD) : val_main_v95 (F := Ideal) (A0 m c) (A1 m c) (A4 m c) = target8 m c := by
  funext y
  idx_vars y
  obtain rfl : y0 = 0 := Subsingleton.elim _ _
  exact r95 _ _ _ y1

/-- The reference finishes and leaves its arguments as they were. -/
theorem reference_frame : Cert.quiescent_Reference36Ideal := fun m g _ =>
  (θ_run Cert.Reference36Ideal.defs _ _).mono
    (fun r h => ⟨fun c => (h c).2.2.2.2, sem_eq_zero_of_no_sems (by decide) r.2⟩) (Cert.Reference36Ideal.Value.run m g)

/-- The kernel and the reference compute the same four arrays over the reals. -/
theorem algebraic : Cert.algebraic_Kernel36Ideal_Reference36Ideal := by
  intro m g m' g' _ same
  refine ⟨target5 m, target6 m, target7 m, target8 m, ?_, ?_⟩
  · refine θ_run_mono (θ_run_and (run_main m g) (unchanged m g)) fun r hr c => ?_
    exact ⟨((hr.1 c).1 5).trans (final5 m c), ((hr.1 c).1 6).trans (final6 m c), ((hr.1 c).1 7).trans (final7 m c),
      ((hr.1 c).1 8).trans (final8 m c), hr.2 c⟩
  · refine θ_run_mono (Cert.Reference36Ideal.Value.run m' g') fun r h c => ?_
    obtain ⟨h5, h6, h7, h8, kept⟩ := h c
    obtain ⟨ex, eh, ed, eg, es⟩ := same c
    have h5 := h5.trans (Cert.Reference36Ideal.Read.val_main_v92_eq m' c)
    have h6 := h6.trans (Cert.Reference36Ideal.Read.val_main_v93_eq _)
    have h7 := h7.trans (Cert.Reference36Ideal.Read.val_main_v94_eq _ _ _)
    have h8 := h8.trans (Cert.Reference36Ideal.Read.val_main_v95_eq _ _ _)
    rw [ex, eh, ed, eg, es] at h5
    rw [eh] at h6
    rw [ex, eh, eg] at h7
    rw [ex, eh, es] at h8
    exact ⟨h5.trans (result5 m c), h6.trans (result6 m c), h7.trans (result7 m c), h8.trans (result8 m c), kept⟩

end Cert.Kernel36Ideal.Norm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Finite
public import proofs.«01_k».proof.Proof.Ffn.Kernel
public import proofs.«01_k».proof.Proof.Ffn.Reference
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import Idealize.ShloMosaic.Lib.Claim
public import Idealize.ShloMosaic.Adequacy
public import Idealize.ShloMosaic.Init
public import proofs.«01_k».proof.Proof.Products.FfnInput
public import proofs.«01_k».proof.Proof.Products.GateWeight
public import proofs.«01_k».proof.Proof.Products.DownWeight
public import proofs.«01_k».proof.Proof.Products.FfnUp
public import proofs.«01_k».proof.Proof.Products.FfnDown
public import proofs.«01_k».proof.Proof.Products.InForward
public import proofs.«01_k».proof.Proof.Products.InBackward
public import proofs.«01_k».proof.Proof.Products.InWeight
public import proofs.«01_k».proof.Proof.Products.OutForward
public import proofs.«01_k».proof.Proof.Products.OutBackward
public import proofs.«01_k».proof.Proof.Products.OutWeight
public import proofs.«01_k».proof.Proof.Products.UpWeight
public import proofs.«01_k».proof.Proof.Glu.Claim
public import proofs.«01_k».proof.Proof.Adam.Norms
public import proofs.«01_k».proof.Proof.Adam.GateUp
public import proofs.«01_k».proof.Proof.Adam.Down
public import proofs.«01_k».proof.Proof.Adam.InWeight
public import proofs.«01_k».proof.Proof.Adam.OutWeight
public import proofs.«01_k».proof.Proof.Adam.ModWeight
public import proofs.«01_k».proof.Proof.Adam.ModOffset
public import proofs.«01_k».proof.Proof.Adam.SpatialWeight
public import proofs.«01_k».proof.Proof.Adam.SpatialOffset
public import proofs.«01_k».proof.Proof.Adam.Poles
public import proofs.«01_k».proof.Proof.Adam.StepSizes
public import proofs.«01_k».proof.Proof.Adam.InputMatrices
public import proofs.«01_k».proof.Proof.Adam.OutputMatrices
public import proofs.«01_k».proof.Proof.Adam.DirectPath
public import proofs.«01_k».proof.Proof.Adam.GluWeight
public import proofs.«01_k».proof.Proof.Adam.GluOffset
public import proofs.«01_k».proof.Proof.Adam.PoolWeight
public import proofs.«01_k».proof.Proof.Adam.PoolScale
public import proofs.«01_k».proof.Proof.Adam.Context
public import proofs.«01_k».proof.Proof.Mod.Weight
public import proofs.«01_k».proof.Proof.Mod.Offset
public import proofs.«01_k».proof.Proof.Norm.Claim
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel33.Frame
public import proofs.«01_k».proof.Proof.Gen.Kernel34.Frame
public import proofs.«01_k».proof.Proof.Gen.Kernel35.Frame
public import proofs.«01_k».proof.Proof.Gen.Kernel36.Frame

@[expose] public section

noncomputable section

namespace Cert.Proof

open Idealize.ShloMosaic Idealize.SL.Sem Cert.Kernel

theorem reference_frame : Cert.quiescent_ReferenceIdeal := fun m g _ =>
  (θ_run Cert.ReferenceIdeal.defs _ _).mono
    (fun r h => ⟨fun c => (h c).2.2, sem_eq_zero_of_no_sems (by decide) r.2⟩)
    (Cert.ReferenceIdeal.Value.run m g)

theorem algebraic [Cert.Pre_finite.Facts] : Cert.algebraic_KernelIdeal_ReferenceIdeal_pre_finite := by
  pair_intro
  · run_from Cert.KernelIdeal.Gen.run_main m g
  · run_from Cert.ReferenceIdeal.Value.run m' g'
    · obtain ⟨h0, h1, h2, h3⟩ := Cert.Finite.isReal_args _ _ _ _ _ (hpre c)
      exact (Cert.ReferenceIdeal.Ffn.ref_gate _ _ _ _ _ h0 h1 h2 h3).trans (Cert.KernelIdeal.Ffn.final4 m c).symm
    · exact (Cert.ReferenceIdeal.Ffn.ref_up _ _ _ _).trans (Cert.KernelIdeal.Ffn.final5 m c).symm

/-- The two corrections of an optimiser's step are the numbers their names stand for. -/
theorem corrections (κ : String → Option EReal) (hm : κ "m_hat" = some Adam.mInv) (hv : κ "v_hat" = some Adam.vInv) :
    IdealRules.named_const.Statement κ "m_hat" .f32 0x3FC48605#32 Adam.mInv
      ∧ IdealRules.named_const.Statement κ "v_hat" .f32 0x42C8E6D3#32 Adam.vInv :=
  ⟨IdealRules.named_const.statement κ "m_hat" .f32 _ _ hm, IdealRules.named_const.statement κ "v_hat" .f32 _ _ hv⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Finite.facts, Cert.Finite.facts14, Cert.Finite.facts35,
    fun m g _ => Cert.Kernel.Gen.frame m g, fun m g _ => Cert.KernelIdeal.Gen.frame m g, fun m g _ => Cert.KernelIdeal.Gen.frame m g,
    reference_frame, fun m g _ => reference_frame m g True.intro,
    fun m g _ => Cert.Kernel2.Gen.frame m g, fun m g _ => Cert.Kernel2Ideal.Gen.frame m g, Cert.Kernel2Ideal.Product.reference_frame,
    fun m g _ => Cert.Kernel3.Gen.frame m g, fun m g _ => Cert.Kernel3Ideal.Gen.frame m g, Cert.Kernel3Ideal.Product.reference_frame,
    fun m g _ => Cert.Kernel4.Gen.frame m g, fun m g _ => Cert.Kernel4Ideal.Gen.frame m g, Cert.Kernel4Ideal.Product.reference_frame,
    fun m g _ => Cert.Kernel5.Gen.frame m g, fun m g _ => Cert.Kernel5Ideal.Gen.frame m g, Cert.Kernel5Ideal.Product.reference_frame,
    fun m g _ => Cert.Kernel6.Gen.frame m g, fun m g _ => Cert.Kernel6Ideal.Gen.frame m g, Cert.Kernel6Ideal.Product.reference_frame,
    fun m g _ => Cert.Kernel7.Gen.frame m g, fun m g _ => Cert.Kernel7Ideal.Gen.frame m g, Cert.Kernel7Ideal.Product.reference_frame,
    fun m g _ => Cert.Kernel8.Gen.frame m g, fun m g _ => Cert.Kernel8Ideal.Gen.frame m g, Cert.Kernel8Ideal.Product.reference_frame,
    fun m g _ => Cert.Kernel9.Gen.frame m g, fun m g _ => Cert.Kernel9Ideal.Gen.frame m g, Cert.Kernel9Ideal.Product.reference_frame,
    fun m g _ => Cert.Kernel10.Gen.frame m g, fun m g _ => Cert.Kernel10Ideal.Gen.frame m g, Cert.Kernel10Ideal.Product.reference_frame,
    fun m g _ => Cert.Kernel11.Gen.frame m g, fun m g _ => Cert.Kernel11Ideal.Gen.frame m g, Cert.Kernel11Ideal.Product.reference_frame,
    fun m g _ => Cert.Kernel12.Gen.frame m g, fun m g _ => Cert.Kernel12Ideal.Gen.frame m g, Cert.Kernel12Ideal.Product.reference_frame,
    fun m g _ => Cert.Kernel13.Gen.frame m g, fun m g _ => Cert.Kernel13Ideal.Gen.frame m g, Cert.Kernel13Ideal.Product.reference_frame,
    fun m g _ => Cert.Kernel14.Gen.frame m g, fun m g _ => Cert.Kernel14Ideal.Gen.frame m g, fun m g _ => Cert.Kernel14Ideal.Gen.frame m g,
    fun m g _ => Cert.Reference14Ideal.Gen.frame m g, fun m g _ => Cert.Reference14Ideal.Gen.frame m g,
    fun m g _ => Cert.Kernel15.Gen.frame m g, fun m g _ => Cert.Kernel15Ideal.Gen.frame m g, Cert.Kernel15Ideal.Adam.reference_frame,
    fun m g _ => Cert.Kernel16.Gen.frame m g, fun m g _ => Cert.Kernel16Ideal.Gen.frame m g, Cert.Kernel16Ideal.Adam.reference_frame,
    fun m g _ => Cert.Kernel17.Gen.frame m g, fun m g _ => Cert.Kernel17Ideal.Gen.frame m g, Cert.Kernel17Ideal.Adam.reference_frame,
    fun m g _ => Cert.Kernel18.Gen.frame m g, fun m g _ => Cert.Kernel18Ideal.Gen.frame m g, Cert.Kernel18Ideal.Adam.reference_frame,
    fun m g _ => Cert.Kernel19.Gen.frame m g, fun m g _ => Cert.Kernel19Ideal.Gen.frame m g, Cert.Kernel19Ideal.Adam.reference_frame,
    fun m g _ => Cert.Kernel20.Gen.frame m g, fun m g _ => Cert.Kernel20Ideal.Gen.frame m g, Cert.Kernel20Ideal.Adam.reference_frame,
    fun m g _ => Cert.Kernel21.Gen.frame m g, fun m g _ => Cert.Kernel21Ideal.Gen.frame m g, Cert.Kernel21Ideal.Adam.reference_frame,
    fun m g _ => Cert.Kernel22.Gen.frame m g, fun m g _ => Cert.Kernel22Ideal.Gen.frame m g, Cert.Kernel22Ideal.Adam.reference_frame,
    fun m g _ => Cert.Kernel23.Gen.frame m g, fun m g _ => Cert.Kernel23Ideal.Gen.frame m g, Cert.Kernel23Ideal.Adam.reference_frame,
    fun m g _ => Cert.Kernel24.Gen.frame m g, fun m g _ => Cert.Kernel24Ideal.Gen.frame m g, Cert.Kernel24Ideal.Adam.reference_frame,
    fun m g _ => Cert.Kernel25.Gen.frame m g, fun m g _ => Cert.Kernel25Ideal.Gen.frame m g, Cert.Kernel25Ideal.Adam.reference_frame,
    fun m g _ => Cert.Kernel26.Gen.frame m g, fun m g _ => Cert.Kernel26Ideal.Gen.frame m g, Cert.Kernel26Ideal.Adam.reference_frame,
    fun m g _ => Cert.Kernel27.Gen.frame m g, fun m g _ => Cert.Kernel27Ideal.Gen.frame m g, Cert.Kernel27Ideal.Adam.reference_frame,
    fun m g _ => Cert.Kernel28.Gen.frame m g, fun m g _ => Cert.Kernel28Ideal.Gen.frame m g, Cert.Kernel28Ideal.Adam.reference_frame,
    fun m g _ => Cert.Kernel29.Gen.frame m g, fun m g _ => Cert.Kernel29Ideal.Gen.frame m g, Cert.Kernel29Ideal.Adam.reference_frame,
    fun m g _ => Cert.Kernel30.Gen.frame m g, fun m g _ => Cert.Kernel30Ideal.Gen.frame m g, Cert.Kernel30Ideal.Adam.reference_frame,
    fun m g _ => Cert.Kernel31.Gen.frame m g, fun m g _ => Cert.Kernel31Ideal.Gen.frame m g, Cert.Kernel31Ideal.Adam.reference_frame,
    fun m g _ => Cert.Kernel32.Gen.frame m g, fun m g _ => Cert.Kernel32Ideal.Gen.frame m g, Cert.Kernel32Ideal.Adam.reference_frame,
    fun m g _ => Cert.Kernel33.Gen.frame m g, fun m g _ => Cert.Kernel33Ideal.Gen.frame m g, Cert.Kernel33Ideal.Adam.reference_frame,
    fun m g _ => Cert.Kernel34.Gen.frame m g, fun m g _ => Cert.Kernel34Ideal.Gen.frame m g, Cert.Kernel34Ideal.Mod.reference_frame,
    fun m g _ => Cert.Kernel35.Gen.frame m g, fun m g _ => Cert.Kernel35Ideal.Gen.frame m g, fun m g _ => Cert.Kernel35Ideal.Gen.frame m g,
    Cert.Kernel35Ideal.Mod.reference_frame, fun m g _ => Cert.Kernel35Ideal.Mod.reference_frame m g True.intro,
    fun m g _ => Cert.Kernel36.Gen.frame m g, fun m g _ => Cert.Kernel36Ideal.Gen.frame m g, Cert.Kernel36Ideal.Norm.reference_frame,
    trivial, @algebraic Cert.Finite.facts,
    trivial, Cert.Kernel2Ideal.Product.algebraic,
    trivial, Cert.Kernel3Ideal.Product.algebraic,
    trivial, Cert.Kernel4Ideal.Product.algebraic,
    trivial, Cert.Kernel5Ideal.Product.algebraic,
    trivial, Cert.Kernel6Ideal.Product.algebraic,
    trivial, Cert.Kernel7Ideal.Product.algebraic,
    trivial, Cert.Kernel8Ideal.Product.algebraic,
    trivial, Cert.Kernel9Ideal.Product.algebraic,
    trivial, Cert.Kernel10Ideal.Product.algebraic,
    trivial, Cert.Kernel11Ideal.Product.algebraic,
    trivial, Cert.Kernel12Ideal.Product.algebraic,
    trivial, Cert.Kernel13Ideal.Product.algebraic,
    ⟨IdealRules.named_const.statement Cert.Kernel14Ideal.κ "gelu" .f32 0x3D372713#32 ((8943 / 200000 : ℝ) : EReal) rfl,
      IdealRules.named_const.statement Cert.Kernel14Ideal.κ "gelu3" .f32 0x3E095D4F#32 ((26829 / 200000 : ℝ) : EReal) rfl⟩,
    @Cert.Reference14Ideal.Glu.algebraic Cert.Finite.facts14,
    corrections Cert.Kernel15Ideal.κ rfl rfl, Cert.Kernel15Ideal.Adam.algebraic,
    corrections Cert.Kernel16Ideal.κ rfl rfl, Cert.Kernel16Ideal.Adam.algebraic,
    corrections Cert.Kernel17Ideal.κ rfl rfl, Cert.Kernel17Ideal.Adam.algebraic,
    corrections Cert.Kernel18Ideal.κ rfl rfl, Cert.Kernel18Ideal.Adam.algebraic,
    corrections Cert.Kernel19Ideal.κ rfl rfl, Cert.Kernel19Ideal.Adam.algebraic,
    corrections Cert.Kernel20Ideal.κ rfl rfl, Cert.Kernel20Ideal.Adam.algebraic,
    corrections Cert.Kernel21Ideal.κ rfl rfl, Cert.Kernel21Ideal.Adam.algebraic,
    corrections Cert.Kernel22Ideal.κ rfl rfl, Cert.Kernel22Ideal.Adam.algebraic,
    corrections Cert.Kernel23Ideal.κ rfl rfl, Cert.Kernel23Ideal.Adam.algebraic,
    corrections Cert.Kernel24Ideal.κ rfl rfl, Cert.Kernel24Ideal.Adam.algebraic,
    corrections Cert.Kernel25Ideal.κ rfl rfl, Cert.Kernel25Ideal.Adam.algebraic,
    corrections Cert.Kernel26Ideal.κ rfl rfl, Cert.Kernel26Ideal.Adam.algebraic,
    corrections Cert.Kernel27Ideal.κ rfl rfl, Cert.Kernel27Ideal.Adam.algebraic,
    corrections Cert.Kernel28Ideal.κ rfl rfl, Cert.Kernel28Ideal.Adam.algebraic,
    corrections Cert.Kernel29Ideal.κ rfl rfl, Cert.Kernel29Ideal.Adam.algebraic,
    corrections Cert.Kernel30Ideal.κ rfl rfl, Cert.Kernel30Ideal.Adam.algebraic,
    corrections Cert.Kernel31Ideal.κ rfl rfl, Cert.Kernel31Ideal.Adam.algebraic,
    corrections Cert.Kernel32Ideal.κ rfl rfl, Cert.Kernel32Ideal.Adam.algebraic,
    corrections Cert.Kernel33Ideal.κ rfl rfl, Cert.Kernel33Ideal.Adam.algebraic,
    trivial, Cert.Kernel34Ideal.Mod.algebraic,
    trivial, @Cert.Kernel35Ideal.Mod.algebraic Cert.Finite.facts35,
    trivial, Cert.Kernel36Ideal.Norm.algebraic⟩

end Cert.Proof

end
